-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Swa_SwaIdeal : Prop :=
  True

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v17)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v17) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v54) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)
      ∧ m' ((c.tc : Thread Cert.MemReferenceIdeal.nD Cert.MemReferenceIdeal.τ).loc Cert.MemReferenceIdeal.main_arg4) = m ((c.tc : Thread Cert.MemIdeal.nD Cert.MemIdeal.τ).loc Cert.MemIdeal.main_arg4)) →
    ∃ (v0 : (c : Dev Cert.MemIdeal.nD) → Buf (Elt Ideal) ((c.tc : Thread Cert.MemIdeal.nD Cert.MemIdeal.τ).loc Cert.MemIdeal.main_v2_0)) (v1 : (c : Dev Cert.MemIdeal.nD) → Buf (Elt Ideal) ((c.tc : Thread Cert.MemIdeal.nD Cert.MemIdeal.τ).loc Cert.MemIdeal.main_v2_1)) (v2 : (c : Dev Cert.MemIdeal.nD) → Buf (Elt Ideal) ((c.tc : Thread Cert.MemIdeal.nD Cert.MemIdeal.τ).loc Cert.MemIdeal.main_v2_2)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v2_0) = v0 c
          ∧ r.2.mem ((c.tc : Thread Cert.MemIdeal.nD Cert.MemIdeal.τ).loc Cert.MemIdeal.main_v2_1) = v1 c
          ∧ r.2.mem ((c.tc : Thread Cert.MemIdeal.nD Cert.MemIdeal.τ).loc Cert.MemIdeal.main_v2_2) = v2 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v30) = v0 c
          ∧ r.2.mem ((c.tc : Thread Cert.MemReferenceIdeal.nD Cert.MemReferenceIdeal.τ).loc Cert.MemReferenceIdeal.main_v32) = v1 c
          ∧ r.2.mem ((c.tc : Thread Cert.MemReferenceIdeal.nD Cert.MemReferenceIdeal.τ).loc Cert.MemReferenceIdeal.main_v35) = v2 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)
      ∧ m' ((c.tc : Thread Cert.NormReferenceIdeal.nD Cert.NormReferenceIdeal.τ).loc Cert.NormReferenceIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v32) = v0 c
          ∧ r.2.mem ((c.tc : Thread Cert.NormReferenceIdeal.nD Cert.NormReferenceIdeal.τ).loc Cert.NormReferenceIdeal.main_v36) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4))

def Claim : Prop :=
  ∃ (hKernel : Cert.Kernel.Facts) (hKernelIdeal : Cert.KernelIdeal.Facts) (hReferenceIdeal : Cert.ReferenceIdeal.Facts) (hSwa : Cert.Swa.Facts) (hSwaIdeal : Cert.SwaIdeal.Facts) (hProj : Cert.Proj.Facts) (hProjIdeal : Cert.ProjIdeal.Facts) (hProjReferenceIdeal : Cert.ProjReferenceIdeal.Facts) (hMem : Cert.Mem.Facts) (hMemIdeal : Cert.MemIdeal.Facts) (hMemReferenceIdeal : Cert.MemReferenceIdeal.Facts) (hNorm : Cert.Norm.Facts) (hNormIdeal : Cert.NormIdeal.Facts) (hNormReferenceIdeal : Cert.NormReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Swa (hSwa := hSwa)
    ∧ quiescent_SwaIdeal (hSwaIdeal := hSwaIdeal)
    ∧ quiescent_Proj (hProj := hProj)
    ∧ quiescent_ProjIdeal (hProjIdeal := hProjIdeal)
    ∧ quiescent_ProjReferenceIdeal (hProjReferenceIdeal := hProjReferenceIdeal)
    ∧ quiescent_Mem (hMem := hMem)
    ∧ quiescent_MemIdeal (hMemIdeal := hMemIdeal)
    ∧ quiescent_MemReferenceIdeal (hMemReferenceIdeal := hMemReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Swa_SwaIdeal
    ∧ preserves_Proj_ProjIdeal
    ∧ algebraic_ProjIdeal_ProjReferenceIdeal (hProjIdeal := hProjIdeal) (hProjReferenceIdeal := hProjReferenceIdeal)
    ∧ preserves_Mem_MemIdeal
    ∧ algebraic_MemIdeal_MemReferenceIdeal (hMemIdeal := hMemIdeal) (hMemReferenceIdeal := hMemReferenceIdeal)
    ∧ preserves_Norm_NormIdeal
    ∧ algebraic_NormIdeal_NormReferenceIdeal (hNormIdeal := hNormIdeal) (hNormReferenceIdeal := hNormReferenceIdeal)
-- ==== Pre_finite_scores.lean ====
abbrev S8192x2048 : Shape := ⟨2, ![8192, 2048]⟩
abbrev S8192x768 : Shape := ⟨2, ![8192, 768]⟩
abbrev S2x256x512 : Shape := ⟨3, ![2, 256, 512]⟩
abbrev S8192x12288 : Shape := ⟨2, ![8192, 12288]⟩
abbrev S768x2048 : Shape := ⟨2, ![768, 2048]⟩
abbrev S512x2048 : Shape := ⟨2, ![512, 2048]⟩
abbrev S2048x2048 : Shape := ⟨2, ![2048, 2048]⟩
abbrev S_ : Shape := ⟨0, ![]⟩
abbrev S8192x512 : Shape := ⟨2, ![8192, 512]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  slices_S8192x12288_S8192x512_0_5120 : S8192x12288.Slices ![0, 5120] S8192x512
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x2048 .f32) (main_arg1 : FVec F S8192x768 .bf16) (main_arg2 : FVec F S8192x768 .bf16) (main_arg3 : FVec F S2x256x512 .bf16) (main_arg4 : FVec F S2x256x512 .bf16) (main_arg5 : FVec F S8192x12288 .bf16) (main_arg6 : FVec F S768x2048 .bf16) (main_arg7 : FVec F S768x2048 .bf16) (main_arg8 : FVec F S512x2048 .bf16) (main_arg9 : FVec F S2048x2048 .bf16) : IVec S_ 1 :=
  let main_v0 : FVec F S2x256x512 .f32 := (extf .f32 · bitsLt_bf16_f32) main_arg3
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S8192x512 .bf16 := (extractStridedSlice S8192x512 ![0, 5120] · slices_S8192x12288_S8192x512_0_5120) main_arg5
  let main_v6 : FVec F S8192x512 .f32 := (extf .f32 · bitsLt_bf16_f32) main_v5
  let main_v7 : FVec F S8192x512 .f32 := Host.absf main_v6
  let main_cst_0 : FVec F S_ .f32 := constant S_ .f32 0x7F800000#32
  let main_v8 : FVec F S8192x512 .f32 := broadcastInDim S8192x512 ![] bcast_S_S8192x512 main_cst_0
  let main_v9 : IVec S8192x512 1 := cmpf .olt main_v7 main_v8
  let main_c_1 : IVec S_ 1 := constantI S_ 1 1#1
  let main_v10 : IVec S_ 1 := (fun x v => Host.reduce IntOp.andi x v reducesTo_S8192x512_S_d0_1 h_S_) main_v9 main_c_1
  let main_v11 : IVec S_ 1 := andi main_v4 main_v10
  main_v11
-- ==== Kernel.lean ====
abbrev S8192x2048 : Shape := ⟨2, ![8192, 2048]⟩
abbrev S8192x768 : Shape := ⟨2, ![8192, 768]⟩
abbrev S2x256x512 : Shape := ⟨3, ![2, 256, 512]⟩
abbrev S8192x12288 : Shape := ⟨2, ![8192, 12288]⟩
abbrev S768x2048 : Shape := ⟨2, ![768, 2048]⟩
abbrev S512x2048 : Shape := ⟨2, ![512, 2048]⟩
abbrev S2048x2048 : Shape := ⟨2, ![2048, 2048]⟩
abbrev S256x2048 : Shape := ⟨2, ![256, 2048]⟩
abbrev S256x768 : Shape := ⟨2, ![256, 768]⟩
abbrev S1x256x512 : Shape := ⟨3, ![1, 256, 512]⟩
abbrev S256x512 : Shape := ⟨2, ![256, 512]⟩
abbrev S256x256 : Shape := ⟨2, ![256, 256]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 11
  | .vmem => 38
  | .smem => 0
  | _ => 0

abbrev bufTy : (tb : Table) → Fin (tcTables nBuf tb) → BufTy
  | .hbm, ⟨0, _⟩ => ⟨S8192x2048, .f32⟩
  | .hbm, ⟨1, _⟩ => ⟨S8192x768, .bf16⟩
  | .hbm, ⟨2, _⟩ => ⟨S8192x768, .bf16⟩
  | .hbm, ⟨3, _⟩ => ⟨S2x256x512, .bf16⟩
  | .hbm, ⟨4, _⟩ => ⟨S2x256x512, .bf16⟩
  | .hbm, ⟨5, _⟩ => ⟨S8192x12288, .bf16⟩
  | .hbm, ⟨6, _⟩ => ⟨S768x2048, .bf16⟩
  | .hbm, ⟨7, _⟩ => ⟨S768x2048, .bf16⟩
  | .hbm, ⟨8, _⟩ => ⟨S512x2048, .bf16⟩
  | .hbm, ⟨9, _⟩ => ⟨S2048x2048, .bf16⟩
  | .hbm, ⟨10, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x768, .bf16⟩
  | .local _ .vmem, ⟨3, _⟩ => ⟨S256x768, .bf16⟩
  | .local _ .vmem, ⟨4, _⟩ => ⟨S256x768, .bf16⟩
  | .local _ .vmem, ⟨5, _⟩ => ⟨S256x768, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S256x512, .bf16⟩
  | .local _ .vmem, ⟨11, _⟩ => ⟨S256x512, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S256x512, .bf16⟩
  | .local _ .vmem, ⟨25, _⟩ => ⟨S256x512, .bf16⟩
  | .local _ .vmem, ⟨26, _⟩ => ⟨S256x2048, .bf16⟩
  | .local _ .vmem, ⟨27, _⟩ => ⟨S256x2048, .bf16⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S768x2048, .bf16⟩
  | .local _ .vmem, ⟨33, _⟩ => ⟨S768x2048, .bf16⟩
  | .local _ .vmem, ⟨34, _⟩ => ⟨S512x2048, .bf16⟩
  | .local _ .vmem, ⟨35, _⟩ => ⟨S2048x2048, .bf16⟩
  | .local _ .vmem, ⟨36, _⟩ => ⟨S256x2048, .f32⟩
  | .local _ .vmem, ⟨37, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_10 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_11 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_12 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_13 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_14 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_15 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S768x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2048x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S8192x2048 : Shape := ⟨2, ![8192, 2048]⟩
abbrev S8192x768 : Shape := ⟨2, ![8192, 768]⟩
abbrev S2x256x512 : Shape := ⟨3, ![2, 256, 512]⟩
abbrev S8192x12288 : Shape := ⟨2, ![8192, 12288]⟩
abbrev S768x2048 : Shape := ⟨2, ![768, 2048]⟩
abbrev S512x2048 : Shape := ⟨2, ![512, 2048]⟩
abbrev S2048x2048 : Shape := ⟨2, ![2048, 2048]⟩
abbrev S8192x512 : Shape := ⟨2, ![8192, 512]⟩
abbrev S2x4096x4x128 : Shape := ⟨4, ![2, 4096, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 117
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x768, .bf16⟩
  | .hbm, ⟨2, _⟩ => ⟨S8192x768, .bf16⟩
  | .hbm, ⟨3, _⟩ => ⟨S2x256x512, .bf16⟩
  | .hbm, ⟨4, _⟩ => ⟨S2x256x512, .bf16⟩
  | .hbm, ⟨5, _⟩ => ⟨S8192x12288, .bf16⟩
  | .hbm, ⟨6, _⟩ => ⟨S768x2048, .bf16⟩
  | .hbm, ⟨7, _⟩ => ⟨S768x2048, .bf16⟩
  | .hbm, ⟨8, _⟩ => ⟨S512x2048, .bf16⟩
  | .hbm, ⟨9, _⟩ => ⟨S2048x2048, .bf16⟩
  | .hbm, ⟨10, _⟩ => ⟨S8192x768, .bf16⟩
  | .hbm, ⟨11, _⟩ => ⟨S8192x768, .f32⟩
  | .hbm, ⟨12, _⟩ => ⟨S8192x768, .bf16⟩
  | .hbm, ⟨13, _⟩ => ⟨S8192x768, .f32⟩
  | .hbm, ⟨14, _⟩ => ⟨S8192x512, .bf16⟩
  | .hbm, ⟨15, _⟩ => ⟨S8192x512, .f32⟩
  | .hbm, ⟨16, _⟩ => ⟨S8192x512, .bf16⟩
  | .hbm, ⟨17, _⟩ => ⟨S8192x512, .f32⟩
  | .hbm, ⟨18, _⟩ => ⟨S8192x2048, .bf16⟩
  | .hbm, ⟨19, _⟩ => ⟨S8192x2048, .f32⟩
  | .hbm, ⟨20, _⟩ => ⟨S8192x2048, .bf16⟩
  | .hbm, ⟨21, _⟩ => ⟨S8192x2048, .f32⟩
  | .hbm, ⟨22, _⟩ => ⟨S8192x2048, .bf16⟩
  | .hbm, ⟨23, _⟩ => ⟨S8192x2048, .f32⟩
  | .hbm, ⟨24, _⟩ => ⟨S2x4096x4x128, .f32⟩
  | .hbm, ⟨25, _⟩ => ⟨S2x256x512, .f32⟩
  | .hbm, ⟨26, _⟩ => ⟨S2x256x4x128, .f32⟩
  | .hbm, ⟨27, _⟩ => ⟨S2x256x512, .f32⟩
  | .hbm, ⟨28, _⟩ => ⟨S2x256x4x128, .f32⟩
  | .hbm, ⟨29, _⟩ => ⟨S2x4x4096x256, .f32⟩
  | .hbm, ⟨30, _⟩ => ⟨S_, .f32⟩
  | .hbm, ⟨31, _⟩ => ⟨S2x4x4096, .f32⟩
  | .hbm, ⟨32, _⟩ => ⟨S_, .f32⟩
  | .hbm, ⟨33, _⟩ => ⟨S2x4x4096, .f32⟩
  | .hbm, ⟨34, _⟩ => ⟨S2x4x4096, .f32⟩
  | .hbm, ⟨35, _⟩ => ⟨S2x4x4096x1, .f32⟩
  | .hbm, ⟨36, _⟩ => ⟨S2x4x4096x256, .f32⟩
  | .hbm, ⟨37, _⟩ => ⟨S2x4x4096x256, .f32⟩
  | .hbm, ⟨38, _⟩ => ⟨S2x4x4096x256, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S2x4x4096x256, .f32⟩
  | .hbm, ⟨43, _⟩ => ⟨S2x4x4096x256, .f32⟩
  | .hbm, ⟨44, _⟩ => ⟨S2x4x128x4096, .f32⟩
  | .hbm, ⟨45, _⟩ => ⟨S2x4096x4x128, .f32⟩
  | .hbm, ⟨46, _⟩ => ⟨S8192x512, .f32⟩
  | .hbm, ⟨47, _⟩ => ⟨S8192x768, .f32⟩
  | .hbm, ⟨48, _⟩ => ⟨S8192x768, .f32⟩
  | .hbm, ⟨49, _⟩ => ⟨S8192x768, .f32⟩
  | .hbm, ⟨50, _⟩ => ⟨S_, .f32⟩
  | .hbm, ⟨51, _⟩ => ⟨S8192x768, .f32⟩
  | .hbm, ⟨52, _⟩ => ⟨S8192x768, .f32⟩
  | .hbm, ⟨53, _⟩ => ⟨S_, .f32⟩
  | .hbm, ⟨54, _⟩ => ⟨S8192x768, .f32⟩
  | .hbm, ⟨55, _⟩ => ⟨S8192x768, .f32⟩
  | .hbm, ⟨56, _⟩ => ⟨S8192x768, .f32⟩
  | .hbm, ⟨57, _⟩ => ⟨S8192x768, .f32⟩
  | .hbm, ⟨58, _⟩ => ⟨S768x2048, .f32⟩
  | .hbm, ⟨59, _⟩ => ⟨S8192x2048, .f32⟩
  | .hbm, ⟨60, _⟩ => ⟨S8192x768, .f32⟩
  | .hbm, ⟨61, _⟩ => ⟨S8192x768, .f32⟩
  | .hbm, ⟨62, _⟩ => ⟨S8192x768, .f32⟩
  | .hbm, ⟨63, _⟩ => ⟨S_, .f32⟩
  | .hbm, ⟨64, _⟩ => ⟨S8192x768, .f32⟩
  | .hbm, ⟨65, _⟩ => ⟨S8192x768, .f32⟩
  | .hbm, ⟨66, _⟩ => ⟨S_, .f32⟩
  | .hbm, ⟨67, _⟩ => ⟨S8192x768, .f32⟩
  | .hbm, ⟨68, _⟩ => ⟨S8192x768, .f32⟩
  | .hbm, ⟨69, _⟩ => ⟨S8192x768, .f32⟩
  | .hbm, ⟨70, _⟩ => ⟨S8192x768, .f32⟩
  | .hbm, ⟨71, _⟩ => ⟨S768x2048, .f32⟩
  | .hbm, ⟨72, _⟩ => ⟨S8192x2048, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S512x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S8192x2048, .f32⟩
  | .hbm, ⟨89, _⟩ => ⟨S8192x2048, .f32⟩
  | .hbm, ⟨90, _⟩ => ⟨S_, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S_, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S_, .f32⟩
  | .hbm, ⟨107, _⟩ => ⟨S8192x2048, .f32⟩
  | .hbm, ⟨108, _⟩ => ⟨S8192x2048, .f32⟩
  | .hbm, ⟨109, _⟩ => ⟨S_, .f32⟩
  | .hbm, ⟨110, _⟩ => ⟨S8192x2048, .f32⟩
  | .hbm, ⟨111, _⟩ => ⟨S8192x2048, .f32⟩
  | .hbm, ⟨112, _⟩ => ⟨S8192x2048, .f32⟩
  | .hbm, ⟨113, _⟩ => ⟨S8192x2048, .f32⟩
  | .hbm, ⟨114, _⟩ => ⟨S2048x2048, .f32⟩
  | .hbm, ⟨115, _⟩ => ⟨S8192x2048, .f32⟩
  | .hbm, ⟨116, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_2 : Ref sig .tc := ⟨.hbm, 87, rfl⟩
abbrev main_v50 : Ref sig .tc := ⟨.hbm, 88, rfl⟩
abbrev main_v51 : Ref sig .tc := ⟨.hbm, 89, rfl⟩
abbrev main_cst_3 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_4 : Ref sig .tc := ⟨.hbm, 96, rfl⟩
abbrev main_v57 : Ref sig .tc := ⟨.hbm, 97, rfl⟩
abbrev main_v58 : Ref sig .tc := ⟨.hbm, 98, rfl⟩
abbrev main_cst_5 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_6 : Ref sig .tc := ⟨.hbm, 106, rfl⟩
abbrev main_v65 : Ref sig .tc := ⟨.hbm, 107, rfl⟩
abbrev main_v66 : Ref sig .tc := ⟨.hbm, 108, rfl⟩
abbrev main_cst_7 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩

abbrev nD : Nat := 1
abbrev τ : Topo := Topo.v7x

variable {F : FTy → Type} [FloatOps F]
-- ==== Swa.lean ====
abbrev S12 : Shape := ⟨1, ![12]⟩
abbrev S12x256x128 : Shape := ⟨3, ![12, 256, 128]⟩
abbrev S8192x12288 : Shape := ⟨2, ![8192, 12288]⟩
abbrev S768x2048 : Shape := ⟨2, ![768, 2048]⟩
abbrev S512x2048 : Shape := ⟨2, ![512, 2048]⟩
abbrev S2048x2048 : Shape := ⟨2, ![2048, 2048]⟩
abbrev S8192x768 : Shape := ⟨2, ![8192, 768]⟩
abbrev S1024x768 : Shape := ⟨2, ![1024, 768]⟩
abbrev S128x256 : Shape := ⟨2, ![128, 256]⟩
abbrev S1024x256 : Shape := ⟨2, ![1024, 256]⟩
abbrev S96x2048 : Shape := ⟨2, ![96, 2048]⟩
abbrev S64x2048 : Shape := ⟨2, ![64, 2048]⟩
abbrev S256x2048 : Shape := ⟨2, ![256, 2048]⟩
abbrev S4x2x1152x128 : Shape := ⟨4, ![4, 2, 1152, 128]⟩
abbrev S4x80x1152 : Shape := ⟨3, ![4, 80, 1152]⟩
abbrev S2x3x256x128 : Shape := ⟨4, ![2, 3, 256, 128]⟩
abbrev S2x3x1x128 : Shape := ⟨4, ![2, 3, 1, 128]⟩
abbrev S768x128 : Shape := ⟨2, ![768, 128]⟩
abbrev S1152x128 : Shape := ⟨2, ![1152, 128]⟩
abbrev S1152x256 : Shape := ⟨2, ![1152, 256]⟩
abbrev S256x1152 : Shape := ⟨2, ![256, 1152]⟩
abbrev S16x1152 : Shape := ⟨2, ![16, 1152]⟩
abbrev S1x1x1152x128 : Shape := ⟨4, ![1, 1, 1152, 128]⟩
abbrev S64x1152 : Shape := ⟨2, ![64, 1152]⟩
abbrev S80x1152 : Shape := ⟨2, ![80, 1152]⟩
abbrev S1x80x1152 : Shape := ⟨3, ![1, 80, 1152]⟩
abbrev S1x128 : Shape := ⟨2, ![1, 128]⟩
abbrev S1 : Shape := ⟨1, ![1]⟩
abbrev S256x128 : Shape := ⟨2, ![256, 128]⟩
abbrev S128x128 : Shape := ⟨2, ![128, 128]⟩
abbrev S1x1x256x128 : Shape := ⟨4, ![1, 1, 256, 128]⟩
abbrev S1x256x128 : Shape := ⟨3, ![1, 256, 128]⟩
abbrev S128 : Shape := ⟨1, ![128]⟩
abbrev S1x1x1x128 : Shape := ⟨4, ![1, 1, 1, 128]⟩
abbrev S1x80x256 : Shape := ⟨3, ![1, 80, 256]⟩
abbrev S80x256 : Shape := ⟨2, ![80, 256]⟩
abbrev S80x128 : Shape := ⟨2, ![80, 128]⟩
abbrev S64x128 : Shape := ⟨2, ![64, 128]⟩
abbrev S128x768 : Shape := ⟨2, ![128, 768]⟩

abbrev nBuf : Space → Nat
  | .hbm => 12
  | .vmem => 35
  | .smem => 1
  | _ => 0

abbrev bufTy : (tb : Table) → Fin (tcTables nBuf tb) → BufTy
  | .hbm, ⟨0, _⟩ => ⟨S12, .f32⟩
  | .hbm, ⟨1, _⟩ => ⟨S12x256x128, .f32⟩
  | .hbm, ⟨2, _⟩ => ⟨S8192x12288, .bf16⟩
  | .hbm, ⟨3, _⟩ => ⟨S768x2048, .f32⟩
  | .hbm, ⟨4, _⟩ => ⟨S768x2048, .f32⟩
  | .hbm, ⟨5, _⟩ => ⟨S512x2048, .f32⟩
  | .hbm, ⟨6, _⟩ => ⟨S2048x2048, .f32⟩
  | .hbm, ⟨7, _⟩ => ⟨S8192x768, .bf16⟩
  | .hbm, ⟨8, _⟩ => ⟨S768x2048, .bf16⟩
  | .hbm, ⟨9, _⟩ => ⟨S768x2048, .bf16⟩
  | .hbm, ⟨10, _⟩ => ⟨S512x2048, .bf16⟩
  | .hbm, ⟨11, _⟩ => ⟨S2048x2048, .bf16⟩
  | .local _ .vmem, ⟨0, _⟩ => ⟨S12x256x128, .f32⟩
  | .local _ .vmem, ⟨1, _⟩ => ⟨S1024x768, .bf16⟩
  | .local _ .vmem, ⟨2, _⟩ => ⟨S1024x768, .bf16⟩
  | .local _ .vmem, ⟨3, _⟩ => ⟨S128x256, .bf16⟩
  | .local _ .vmem, ⟨4, _⟩ => ⟨S128x256, .bf16⟩
  | .local _ .vmem, ⟨5, _⟩ => ⟨S1024x256, .bf16⟩
  | .local _ .vmem, ⟨6, _⟩ => ⟨S1024x256, .bf16⟩
  | .local _ .vmem, ⟨7, _⟩ => ⟨S128x256, .bf16⟩
  | .local _ .vmem, ⟨8, _⟩ => ⟨S128x256, .bf16⟩
  | .local _ .vmem, ⟨9, _⟩ => ⟨S1024x256, .bf16⟩
  | .local _ .vmem, ⟨10, _⟩ => ⟨S1024x256, .bf16⟩
  | .local _ .vmem, ⟨11, _⟩ => ⟨S96x2048, .f32⟩
  | .local _ .vmem, ⟨12, _⟩ => ⟨S96x2048, .f32⟩
  | .local _ .vmem, ⟨13, _⟩ => ⟨S96x2048, .f32⟩
  | .local _ .vmem, ⟨14, _⟩ => ⟨S96x2048, .f32⟩
  | .local _ .vmem, ⟨15, _⟩ => ⟨S64x2048, .f32⟩
  | .local _ .vmem, ⟨16, _⟩ => ⟨S64x2048, .f32⟩
  | .local _ .vmem, ⟨17, _⟩ => ⟨S256x2048, .f32⟩
  | .local _ .vmem, ⟨18, _⟩ => ⟨S256x2048, .f32⟩
  | .local _ .vmem, ⟨19, _⟩ => ⟨S1024x768, .bf16⟩
  | .local _ .vmem, ⟨20, _⟩ => ⟨S1024x768, .bf16⟩
  | .local _ .vmem, ⟨21, _⟩ => ⟨S96x2048, .bf16⟩
  | .local _ .vmem, ⟨22, _⟩ => ⟨S96x2048, .bf16⟩
  | .local _ .vmem, ⟨23, _⟩ => ⟨S96x2048, .bf16⟩
  | .local _ .vmem, ⟨24, _⟩ => ⟨S96x2048, .bf16⟩
  | .local _ .vmem, ⟨25, _⟩ => ⟨S64x2048, .bf16⟩
  | .local _ .vmem, ⟨26, _⟩ => ⟨S64x2048, .bf16⟩
  | .local _ .vmem, ⟨27, _⟩ => ⟨S256x2048, .bf16⟩
  | .local _ .vmem, ⟨28, _⟩ => ⟨S256x2048, .bf16⟩
  | .local _ .vmem, ⟨29, _⟩ => ⟨S4x2x1152x128, .bf16⟩
  | .local _ .vmem, ⟨30, _⟩ => ⟨S4x80x1152, .bf16⟩
  | .local _ .vmem, ⟨31, _⟩ => ⟨S2x3x256x128, .f32⟩
  | .local _ .vmem, ⟨32, _⟩ => ⟨S2x3x256x128, .bf16⟩
  | .local _ .vmem, ⟨33, _⟩ => ⟨S2x3x1x128, .f32⟩
  | .local _ .vmem, ⟨34, _⟩ => ⟨S768x128, .f32⟩
  | .local _ .smem, ⟨0, _⟩ => ⟨S12, .f32⟩
  | _, _ => ⟨S12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c3_i32 : BitVec 32 := 3#32
  let c0_i32_0 : BitVec 32 := 0#32
  ![v4.toNat, c3_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c8_i32 : BitVec 32 := 8#32
  let v1 : BitVec 32 := Scalar.muli arg1 c8_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c4_i32 : BitVec 32 := 4#32
  let c0_i32_0 : BitVec 32 := 0#32
  ![v4.toNat, c4_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S12x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S96x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S96x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S96x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S96x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Proj.lean ====
abbrev S8192x2048 : Shape := ⟨2, ![8192, 2048]⟩
abbrev S2048x12300 : Shape := ⟨2, ![2048, 12300]⟩
abbrev S1x4096 : Shape := ⟨2, ![1, 4096]⟩
abbrev S12300x2048 : Shape := ⟨2, ![12300, 2048]⟩
abbrev S196800x128 : Shape := ⟨2, ![196800, 128]⟩
abbrev S16384x128 : Shape := ⟨2, ![16384, 128]⟩
abbrev S1024x2048 : Shape := ⟨2, ![1024, 2048]⟩
abbrev S16x256x256 : Shape := ⟨3, ![16, 256, 256]⟩
abbrev S_ : Shape := ⟨0, ![]⟩
abbrev S8192x12288 : Shape := ⟨2, ![8192, 12288]⟩
abbrev S1x1024 : Shape := ⟨2, ![1, 1024]⟩
abbrev S4x256x256 : Shape := ⟨3, ![4, 256, 256]⟩
abbrev S1024x1024 : Shape := ⟨2, ![1024, 1024]⟩
abbrev S2x1024x1024 : Shape := ⟨3, ![2, 1024, 1024]⟩
abbrev S1x1024x1024 : Shape := ⟨3, ![1, 1024, 1024]⟩
abbrev S128x128 : Shape := ⟨2, ![128, 128]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩
abbrev S1024x512 : Shape := ⟨2, ![1024, 512]⟩

abbrev nBuf : Space → Nat
  | .hbm => 32
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x12300, .f32⟩
  | .hbm, ⟨2, _⟩ => ⟨S1x4096, .f32⟩
  | .hbm, ⟨3, _⟩ => ⟨S12300x2048, .f32⟩
  | .hbm, ⟨4, _⟩ => ⟨S196800x128, .f32⟩
  | .hbm, ⟨5, _⟩ => ⟨S16384x128, .f32⟩
  | .hbm, ⟨6, _⟩ => ⟨S1024x2048, .f32⟩
  | .hbm, ⟨7, _⟩ => ⟨S1024x2048, .bf16⟩
  | .hbm, ⟨8, _⟩ => ⟨S16x256x256, .i32⟩
  | .hbm, ⟨9, _⟩ => ⟨S_, .i32⟩
  | .hbm, ⟨10, _⟩ => ⟨S16x256x256, .i32⟩
  | .hbm, ⟨11, _⟩ => ⟨S16x256x256, .i1⟩
  | .hbm, ⟨12, _⟩ => ⟨S_, .i32⟩
  | .hbm, ⟨13, _⟩ => ⟨S_, .i32⟩
  | .hbm, ⟨14, _⟩ => ⟨S16x256x256, .i32⟩
  | .hbm, ⟨15, _⟩ => ⟨S16x256x256, .i32⟩
  | .hbm, ⟨16, _⟩ => ⟨S16x256x256, .i32⟩
  | .hbm, ⟨17, _⟩ => ⟨S_, .f32⟩
  | .hbm, ⟨18, _⟩ => ⟨S_, .f32⟩
  | .hbm, ⟨19, _⟩ => ⟨S16x256x256, .f32⟩
  | .hbm, ⟨20, _⟩ => ⟨S16x256x256, .f32⟩
  | .hbm, ⟨21, _⟩ => ⟨S16x256x256, .f32⟩
  | .hbm, ⟨22, _⟩ => ⟨S16x256x256, .i32⟩
  | .hbm, ⟨23, _⟩ => ⟨S16x256x256, .i32⟩
  | .hbm, ⟨24, _⟩ => ⟨S16x256x256, .i32⟩
  | .hbm, ⟨25, _⟩ => ⟨S16x256x256, .i32⟩
  | .hbm, ⟨26, _⟩ => ⟨S16x256x256, .i1⟩
  | .hbm, ⟨27, _⟩ => ⟨S_, .f32⟩
  | .hbm, ⟨28, _⟩ => ⟨S16x256x256, .f32⟩
  | .hbm, ⟨29, _⟩ => ⟨S16x256x256, .f32⟩
  | .hbm, ⟨30, _⟩ => ⟨S16x256x256, .bf16⟩
  | .hbm, ⟨31, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S16384x128, .f32⟩
  | .local _ .vmem, ⟨3, _⟩ => ⟨S16384x128, .f32⟩
  | .local _ .vmem, ⟨4, _⟩ => ⟨S1024x2048, .bf16⟩
  | .local _ .vmem, ⟨5, _⟩ => ⟨S1x1024, .f32⟩
  | .local _ .vmem, ⟨6, _⟩ => ⟨S1x1024, .f32⟩
  | .local _ .vmem, ⟨7, _⟩ => ⟨S4x256x256, .bf16⟩
  | .local _ .vmem, ⟨8, _⟩ => ⟨S4x256x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S1024x2048, .bf16⟩
  | .local _ .vmem, ⟨13, _⟩ => ⟨S2x1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg0 : BitVec 32 := BitVec.ofNat 32 (i 0).val
  let c4_i32 : BitVec 32 := 4#32
  let v5 : BitVec 1 := Scalar.cmpi .eq arg0 c4_i32
  let c6_i32 : BitVec 32 := 6#32
  let v6 : BitVec 1 := Scalar.cmpi .eq arg0 c6_i32
  let v7 : BitVec 1 := Scalar.ori v5 v6
  let c8_i32 : BitVec 32 := 8#32
  let v8 : BitVec 1 := Scalar.cmpi .eq arg0 c8_i32
  let v9 : BitVec 1 := Scalar.ori v7 v8
  let c10_i32 : BitVec 32 := 10#32
  let v10 : BitVec 1 := Scalar.cmpi .eq arg0 c10_i32
  let v11 : BitVec 1 := Scalar.ori v9 v10
  let v12 : BitVec 32 := Scalar.extui v11
  let c0_i32_2 : BitVec 32 := 0#32
  let v13 : BitVec 1 := Scalar.cmpi .ne v12 c0_i32_2
  v13

def k0_mult1 (i : grid0.Coords) : BitVec 32 :=
  let arg1 : BitVec 32 := BitVec.ofNat 32 (i 1).val
  let c2048_i32 : BitVec 32 := 2048#32
  let v33 : BitVec 32 := Scalar.muli arg1 c2048_i32
  v33
def k0_mult2 (i : grid0.Coords) : BitVec 32 :=
  let arg1 : BitVec 32 := BitVec.ofNat 32 (i 1).val
  let c128_i32 : BitVec 32 := 128#32
  let v35 : BitVec 32 := Scalar.muli arg1 c128_i32
  v35
def k0_off1 (i : grid0.Coords) (c0_i32_13 : BitVec 32) : Fin 2 → Nat :=
  let arg1 : BitVec 32 := BitVec.ofNat 32 (i 1).val
  let c2048_i32 : BitVec 32 := 2048#32
  let v33 : BitVec 32 := Scalar.muli arg1 c2048_i32
  let v34 : BitVec 32 := v33
  let v43 : BitVec 32 := Scalar.addi v34 c0_i32_13
  let v44 : Index := Scalar.indexCast v43
  let c0_14 : Index := 0#32
  ![v44.toNat, 0]
def k0_off2 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v48 : Index := Scalar.indexCast v36
  let c0_15 : Index := 0#32
  ![v48.toNat, 0]
def k0_off3 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v57 : Index := Scalar.indexCast v36
  let c128 : Index := 128#32
  ![v57.toNat, 128]
def k0_off4 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v66 : Index := Scalar.indexCast v36
  let c256 : Index := 256#32
  ![v66.toNat, 256]
def k0_off5 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v75 : Index := Scalar.indexCast v36
  let c384 : Index := 384#32
  ![v75.toNat, 384]
def k0_off6 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v84 : Index := Scalar.indexCast v36
  let c512 : Index := 512#32
  ![v84.toNat, 512]
def k0_off7 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v93 : Index := Scalar.indexCast v36
  let c640 : Index := 640#32
  ![v93.toNat, 640]
def k0_off8 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v102 : Index := Scalar.indexCast v36
  let c768 : Index := 768#32
  ![v102.toNat, 768]
def k0_off9 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v111 : Index := Scalar.indexCast v36
  let c896 : Index := 896#32
  ![v111.toNat, 896]
def k0_off10 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v120 : Index := Scalar.indexCast v36
  let c1024 : Index := 1024#32
  ![v120.toNat, 1024]
def k0_off11 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v129 : Index := Scalar.indexCast v36
  let c1152 : Index := 1152#32
  ![v129.toNat, 1152]
def k0_off12 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v138 : Index := Scalar.indexCast v36
  let c1280 : Index := 1280#32
  ![v138.toNat, 1280]
def k0_off13 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v147 : Index := Scalar.indexCast v36
  let c1408 : Index := 1408#32
  ![v147.toNat, 1408]
def k0_off14 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v156 : Index := Scalar.indexCast v36
  let c1536 : Index := 1536#32
  ![v156.toNat, 1536]
def k0_off15 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v165 : Index := Scalar.indexCast v36
  let c1664 : Index := 1664#32
  ![v165.toNat, 1664]
def k0_off16 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v174 : Index := Scalar.indexCast v36
  let c1792 : Index := 1792#32
  ![v174.toNat, 1792]
def k0_off17 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v183 : Index := Scalar.indexCast v36
  let c1920 : Index := 1920#32
  ![v183.toNat, 1920]
def k0_cond3 (i : grid0.Coords) : BitVec 1 :=
  let arg0 : BitVec 32 := BitVec.ofNat 32 (i 0).val
  let c0_i32_3 : BitVec 32 := 0#32
  let v14 : BitVec 1 := Scalar.cmpi .eq arg0 c0_i32_3
  let c2_i32 : BitVec 32 := 2#32
  let v15 : BitVec 1 := Scalar.cmpi .eq arg0 c2_i32
  let v16 : BitVec 1 := Scalar.ori v14 v15
  let v17 : BitVec 32 := Scalar.extui v16
  let c0_i32_4 : BitVec 32 := 0#32
  let v18 : BitVec 1 := Scalar.cmpi .ne v17 c0_i32_4
  v18

def k0_mult3 (i : grid0.Coords) : BitVec 32 :=
  let arg1 : BitVec 32 := BitVec.ofNat 32 (i 1).val
  let c2048_i32 : BitVec 32 := 2048#32
  let v33 : BitVec 32 := Scalar.muli arg1 c2048_i32
  v33
def k0_mult4 (i : grid0.Coords) : BitVec 32 :=
  let arg1 : BitVec 32 := BitVec.ofNat 32 (i 1).val
  let c128_i32 : BitVec 32 := 128#32
  let v35 : BitVec 32 := Scalar.muli arg1 c128_i32
  v35
def k0_off18 (i : grid0.Coords) (c0_i32_13 : BitVec 32) : Fin 2 → Nat :=
  let arg1 : BitVec 32 := BitVec.ofNat 32 (i 1).val
  let c2048_i32 : BitVec 32 := 2048#32
  let v33 : BitVec 32 := Scalar.muli arg1 c2048_i32
  let v34 : BitVec 32 := v33
  let v43 : BitVec 32 := Scalar.addi v34 c0_i32_13
  let v44 : Index := Scalar.indexCast v43
  let c0_14 : Index := 0#32
  ![v44.toNat, 0]
def k0_off19 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v48 : Index := Scalar.indexCast v36
  let c0_15 : Index := 0#32
  ![v48.toNat, 0]
def k0_off20 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v57 : Index := Scalar.indexCast v36
  let c128 : Index := 128#32
  ![v57.toNat, 128]
def k0_off21 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v66 : Index := Scalar.indexCast v36
  let c256 : Index := 256#32
  ![v66.toNat, 256]
def k0_off22 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v75 : Index := Scalar.indexCast v36
  let c384 : Index := 384#32
  ![v75.toNat, 384]
def k0_off23 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v84 : Index := Scalar.indexCast v36
  let c512 : Index := 512#32
  ![v84.toNat, 512]
def k0_off24 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v93 : Index := Scalar.indexCast v36
  let c640 : Index := 640#32
  ![v93.toNat, 640]
def k0_off25 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v102 : Index := Scalar.indexCast v36
  let c768 : Index := 768#32
  ![v102.toNat, 768]
def k0_off26 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v111 : Index := Scalar.indexCast v36
  let c896 : Index := 896#32
  ![v111.toNat, 896]
def k0_off27 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v120 : Index := Scalar.indexCast v36
  let c1024 : Index := 1024#32
  ![v120.toNat, 1024]
def k0_off28 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v129 : Index := Scalar.indexCast v36
  let c1152 : Index := 1152#32
  ![v129.toNat, 1152]
def k0_off29 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v138 : Index := Scalar.indexCast v36
  let c1280 : Index := 1280#32
  ![v138.toNat, 1280]
def k0_off30 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v147 : Index := Scalar.indexCast v36
  let c1408 : Index := 1408#32
  ![v147.toNat, 1408]
def k0_off31 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v156 : Index := Scalar.indexCast v36
  let c1536 : Index := 1536#32
  ![v156.toNat, 1536]
def k0_off32 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v165 : Index := Scalar.indexCast v36
  let c1664 : Index := 1664#32
  ![v165.toNat, 1664]
def k0_off33 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v174 : Index := Scalar.indexCast v36
  let c1792 : Index := 1792#32
  ![v174.toNat, 1792]
def k0_off34 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v183 : Index := Scalar.indexCast v36
  let c1920 : Index := 1920#32
  ![v183.toNat, 1920]
def k0_cond4 (i : grid0.Coords) : BitVec 1 :=
  let arg0 : BitVec 32 := BitVec.ofNat 32 (i 0).val
  let c1_i32 : BitVec 32 := 1#32
  let v19 : BitVec 1 := Scalar.cmpi .eq arg0 c1_i32
  let c7_i32 : BitVec 32 := 7#32
  let v20 : BitVec 1 := Scalar.cmpi .eq arg0 c7_i32
  let v21 : BitVec 1 := Scalar.ori v19 v20
  let c9_i32 : BitVec 32 := 9#32
  let v22 : BitVec 1 := Scalar.cmpi .eq arg0 c9_i32
  let v23 : BitVec 1 := Scalar.ori v21 v22
  let c11_i32 : BitVec 32 := 11#32
  let v24 : BitVec 1 := Scalar.cmpi .eq arg0 c11_i32
  let v25 : BitVec 1 := Scalar.ori v23 v24
  let v26 : BitVec 32 := Scalar.extui v25
  let c0_i32_5 : BitVec 32 := 0#32
  let v27 : BitVec 1 := Scalar.cmpi .ne v26 c0_i32_5
  v27

def k0_mult5 (i : grid0.Coords) : BitVec 32 :=
  let arg1 : BitVec 32 := BitVec.ofNat 32 (i 1).val
  let c2048_i32 : BitVec 32 := 2048#32
  let v33 : BitVec 32 := Scalar.muli arg1 c2048_i32
  v33
def k0_mult6 (i : grid0.Coords) : BitVec 32 :=
  let arg1 : BitVec 32 := BitVec.ofNat 32 (i 1).val
  let c128_i32 : BitVec 32 := 128#32
  let v35 : BitVec 32 := Scalar.muli arg1 c128_i32
  v35
def k0_off35 (i : grid0.Coords) (c0_i32_13 : BitVec 32) : Fin 2 → Nat :=
  let arg1 : BitVec 32 := BitVec.ofNat 32 (i 1).val
  let c2048_i32 : BitVec 32 := 2048#32
  let v33 : BitVec 32 := Scalar.muli arg1 c2048_i32
  let v34 : BitVec 32 := v33
  let v43 : BitVec 32 := Scalar.addi v34 c0_i32_13
  let v44 : Index := Scalar.indexCast v43
  let c0_14 : Index := 0#32
  ![v44.toNat, 0]
def k0_off36 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v48 : Index := Scalar.indexCast v36
  let c0_15 : Index := 0#32
  ![v48.toNat, 0]
def k0_off37 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v57 : Index := Scalar.indexCast v36
  let c128 : Index := 128#32
  ![v57.toNat, 128]
def k0_off38 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v66 : Index := Scalar.indexCast v36
  let c256 : Index := 256#32
  ![v66.toNat, 256]
def k0_off39 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v75 : Index := Scalar.indexCast v36
  let c384 : Index := 384#32
  ![v75.toNat, 384]
def k0_off40 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v84 : Index := Scalar.indexCast v36
  let c512 : Index := 512#32
  ![v84.toNat, 512]
def k0_off41 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v93 : Index := Scalar.indexCast v36
  let c640 : Index := 640#32
  ![v93.toNat, 640]
def k0_off42 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v102 : Index := Scalar.indexCast v36
  let c768 : Index := 768#32
  ![v102.toNat, 768]
def k0_off43 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v111 : Index := Scalar.indexCast v36
  let c896 : Index := 896#32
  ![v111.toNat, 896]
def k0_off44 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v120 : Index := Scalar.indexCast v36
  let c1024 : Index := 1024#32
  ![v120.toNat, 1024]
def k0_off45 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v129 : Index := Scalar.indexCast v36
  let c1152 : Index := 1152#32
  ![v129.toNat, 1152]
def k0_off46 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v138 : Index := Scalar.indexCast v36
  let c1280 : Index := 1280#32
  ![v138.toNat, 1280]
def k0_off47 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v147 : Index := Scalar.indexCast v36
  let c1408 : Index := 1408#32
  ![v147.toNat, 1408]
def k0_off48 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v156 : Index := Scalar.indexCast v36
  let c1536 : Index := 1536#32
  ![v156.toNat, 1536]
def k0_off49 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v165 : Index := Scalar.indexCast v36
  let c1664 : Index := 1664#32
  ![v165.toNat, 1664]
def k0_off50 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v174 : Index := Scalar.indexCast v36
  let c1792 : Index := 1792#32
  ![v174.toNat, 1792]
def k0_off51 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v183 : Index := Scalar.indexCast v36
  let c1920 : Index := 1920#32
  ![v183.toNat, 1920]
def k0_cond5 (i : grid0.Coords) : BitVec 1 :=
  let arg0 : BitVec 32 := BitVec.ofNat 32 (i 0).val
  let c3_i32 : BitVec 32 := 3#32
  let v28 : BitVec 1 := Scalar.cmpi .eq arg0 c3_i32
  let c5_i32 : BitVec 32 := 5#32
  let v29 : BitVec 1 := Scalar.cmpi .eq arg0 c5_i32
  let v30 : BitVec 1 := Scalar.ori v28 v29
  let v31 : BitVec 32 := Scalar.extui v30
  let c0_i32_6 : BitVec 32 := 0#32
  let v32 : BitVec 1 := Scalar.cmpi .ne v31 c0_i32_6
  v32

def k0_mult7 (i : grid0.Coords) : BitVec 32 :=
  let arg1 : BitVec 32 := BitVec.ofNat 32 (i 1).val
  let c2048_i32 : BitVec 32 := 2048#32
  let v33 : BitVec 32 := Scalar.muli arg1 c2048_i32
  v33
def k0_mult8 (i : grid0.Coords) : BitVec 32 :=
  let arg1 : BitVec 32 := BitVec.ofNat 32 (i 1).val
  let c128_i32 : BitVec 32 := 128#32
  let v35 : BitVec 32 := Scalar.muli arg1 c128_i32
  v35
def k0_off52 (i : grid0.Coords) (c0_i32_13 : BitVec 32) : Fin 2 → Nat :=
  let arg1 : BitVec 32 := BitVec.ofNat 32 (i 1).val
  let c2048_i32 : BitVec 32 := 2048#32
  let v33 : BitVec 32 := Scalar.muli arg1 c2048_i32
  let v34 : BitVec 32 := v33
  let v43 : BitVec 32 := Scalar.addi v34 c0_i32_13
  let v44 : Index := Scalar.indexCast v43
  let c0_14 : Index := 0#32
  ![v44.toNat, 0]
def k0_off53 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v48 : Index := Scalar.indexCast v36
  let c0_15 : Index := 0#32
  ![v48.toNat, 0]
def k0_off54 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v57 : Index := Scalar.indexCast v36
  let c128 : Index := 128#32
  ![v57.toNat, 128]
def k0_off55 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v66 : Index := Scalar.indexCast v36
  let c256 : Index := 256#32
  ![v66.toNat, 256]
def k0_off56 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v75 : Index := Scalar.indexCast v36
  let c384 : Index := 384#32
  ![v75.toNat, 384]
def k0_off57 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v84 : Index := Scalar.indexCast v36
  let c512 : Index := 512#32
  ![v84.toNat, 512]
def k0_off58 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v93 : Index := Scalar.indexCast v36
  let c640 : Index := 640#32
  ![v93.toNat, 640]
def k0_off59 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v102 : Index := Scalar.indexCast v36
  let c768 : Index := 768#32
  ![v102.toNat, 768]
def k0_off60 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v111 : Index := Scalar.indexCast v36
  let c896 : Index := 896#32
  ![v111.toNat, 896]
def k0_off61 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v120 : Index := Scalar.indexCast v36
  let c1024 : Index := 1024#32
  ![v120.toNat, 1024]
def k0_off62 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v129 : Index := Scalar.indexCast v36
  let c1152 : Index := 1152#32
  ![v129.toNat, 1152]
def k0_off63 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v138 : Index := Scalar.indexCast v36
  let c1280 : Index := 1280#32
  ![v138.toNat, 1280]
def k0_off64 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v147 : Index := Scalar.indexCast v36
  let c1408 : Index := 1408#32
  ![v147.toNat, 1408]
def k0_off65 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v156 : Index := Scalar.indexCast v36
  let c1536 : Index := 1536#32
  ![v156.toNat, 1536]
def k0_off66 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v165 : Index := Scalar.indexCast v36
  let c1664 : Index := 1664#32
  ![v165.toNat, 1664]
def k0_off67 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v174 : Index := Scalar.indexCast v36
  let c1792 : Index := 1792#32
  ![v174.toNat, 1792]
def k0_off68 (i : grid0.Coords) : Fin 2 → Nat :=
  let arg1 : BitVec 32 := BitVec.ofNat 32 (i 1).val
  let c128_i32 : BitVec 32 := 128#32
  let v35 : BitVec 32 := Scalar.muli arg1 c128_i32
  let v36 : BitVec 32 := v35
  let v183 : Index := Scalar.indexCast v36
  let c1920 : Index := 1920#32
  ![v183.toNat, 1920]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c11_i32 : BitVec 32 := 11#32
  let v1 : BitVec 32 := Scalar.minsi v0 c11_i32
  let c1024_i32 : BitVec 32 := 1024#32
  let v2 : BitVec 32 := Scalar.muli v1 c1024_i32
  let c5_i32 : BitVec 32 := 5#32
  let v3 : BitVec 1 := Scalar.cmpi .sge v1 c5_i32
  let c12_i32 : BitVec 32 := 12#32
  let c0_i32 : BitVec 32 := 0#32
  let v4 : BitVec 32 := Scalar.select v3 c12_i32 c0_i32
  let v5 : BitVec 32 := Scalar.addi v2 v4
  let c16_i32 : BitVec 32 := 16#32
  let v6 : BitVec 32 := Scalar.muli v5 c16_i32
  let c0_i32_0 : BitVec 32 := 0#32
  let c0_i32_1 : BitVec 32 := 0#32
  ![v6.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg0 c3_i32
  let v4 : BitVec 32 := Scalar.extui v3
  let v5 : BitVec 32 := Scalar.addi v2 v4
  let c5_i32 : BitVec 32 := 5#32
  let v6 : BitVec 1 := Scalar.cmpi .sge arg0 c5_i32
  let v7 : BitVec 32 := Scalar.extui v6
  let v8 : BitVec 32 := Scalar.addi v5 v7
  let c0_i32_0 : BitVec 32 := 0#32
  let c0_i32_1 : BitVec 32 := 0#32
  ![c0_i32_0.toNat, v8.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let v1 : BitVec 32 := Scalar.extui v0
  let c0_i32 : BitVec 32 := 0#32
  let v2 : BitVec 32 := Scalar.addi c0_i32 v1
  let c3_i32 : BitVec 32 := 3#32
  let v3 : BitVec 1 := Scalar.cmpi .sge arg0 c3_i32
  let v4 : BitVec 32 := Scalar.extui v3
  let v5 : BitVec 32 := Scalar.addi v2 v4
  let c5_i32 : BitVec 32 := 5#32
  let v6 : BitVec 1 := Scalar.cmpi .sge arg0 c5_i32
  let v7 : BitVec 32 := Scalar.extui v6
  let v8 : BitVec 32 := Scalar.addi v5 v7
  let c0_i32_0 : BitVec 32 := 0#32
  let c0_i32_1 : BitVec 32 := 0#32
  let c0_i32_2 : BitVec 32 := 0#32
  ![v8.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjReferenceIdeal.lean ====
abbrev S8192x2048 : Shape := ⟨2, ![8192, 2048]⟩
abbrev S2048x12300 : Shape := ⟨2, ![2048, 12300]⟩
abbrev S1x4096 : Shape := ⟨2, ![1, 4096]⟩
abbrev S8192x12300 : Shape := ⟨2, ![8192, 12300]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1024 : Shape := ⟨2, ![1, 1024]⟩
abbrev S8192x1536 : Shape := ⟨2, ![8192, 1536]⟩
abbrev S8192x24x64 : Shape := ⟨3, ![8192, 24, 64]⟩
abbrev S8192x24 : Shape := ⟨2, ![8192, 24]⟩
abbrev S8192x24x1 : Shape := ⟨3, ![8192, 24, 1]⟩
abbrev S1x1536 : Shape := ⟨2, ![1, 1536]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S1x512 : Shape := ⟨2, ![1, 512]⟩
abbrev S8192x6656 : Shape := ⟨2, ![8192, 6656]⟩
abbrev S8192x12288 : Shape := ⟨2, ![8192, 12288]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12300, .f32⟩
  | .hbm, ⟨2, _⟩ => ⟨S1x4096, .f32⟩
  | .hbm, ⟨3, _⟩ => ⟨S8192x2048, .f32⟩
  | .hbm, ⟨4, _⟩ => ⟨S8192x12300, .f32⟩
  | .hbm, ⟨5, _⟩ => ⟨S8192x1024, .f32⟩
  | .hbm, ⟨6, _⟩ => ⟨S8192x16x64, .f32⟩
  | .hbm, ⟨7, _⟩ => ⟨S8192x16x64, .f32⟩
  | .hbm, ⟨8, _⟩ => ⟨S_, .f32⟩
  | .hbm, ⟨9, _⟩ => ⟨S8192x16, .f32⟩
  | .hbm, ⟨10, _⟩ => ⟨S8192x16x1, .f32⟩
  | .hbm, ⟨11, _⟩ => ⟨S_, .f32⟩
  | .hbm, ⟨12, _⟩ => ⟨S8192x16x1, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S8192x16x1, .f32⟩
  | .hbm, ⟨18, _⟩ => ⟨S8192x16x64, .f32⟩
  | .hbm, ⟨19, _⟩ => ⟨S8192x16x64, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1536, .f32⟩
  | .hbm, ⟨26, _⟩ => ⟨S8192x24x64, .f32⟩
  | .hbm, ⟨27, _⟩ => ⟨S8192x24x64, .f32⟩
  | .hbm, ⟨28, _⟩ => ⟨S_, .f32⟩
  | .hbm, ⟨29, _⟩ => ⟨S8192x24, .f32⟩
  | .hbm, ⟨30, _⟩ => ⟨S8192x24x1, .f32⟩
  | .hbm, ⟨31, _⟩ => ⟨S_, .f32⟩
  | .hbm, ⟨32, _⟩ => ⟨S8192x24x1, .f32⟩
  | .hbm, ⟨33, _⟩ => ⟨S8192x24x1, .f32⟩
  | .hbm, ⟨34, _⟩ => ⟨S_, .f32⟩
  | .hbm, ⟨35, _⟩ => ⟨S8192x24x1, .f32⟩
  | .hbm, ⟨36, _⟩ => ⟨S8192x24x1, .f32⟩
  | .hbm, ⟨37, _⟩ => ⟨S8192x24x1, .f32⟩
  | .hbm, ⟨38, _⟩ => ⟨S8192x24x64, .f32⟩
  | .hbm, ⟨39, _⟩ => ⟨S8192x24x64, .f32⟩
  | .hbm, ⟨40, _⟩ => ⟨S8192x1536, .f32⟩
  | .hbm, ⟨41, _⟩ => ⟨S1x1536, .f32⟩
  | .hbm, ⟨42, _⟩ => ⟨S8192x1536, .f32⟩
  | .hbm, ⟨43, _⟩ => ⟨S8192x1536, .f32⟩
  | .hbm, ⟨44, _⟩ => ⟨S8192x1536, .f32⟩
  | .hbm, ⟨45, _⟩ => ⟨S8192x512, .f32⟩
  | .hbm, ⟨46, _⟩ => ⟨S8192x4x128, .f32⟩
  | .hbm, ⟨47, _⟩ => ⟨S8192x4x128, .f32⟩
  | .hbm, ⟨48, _⟩ => ⟨S_, .f32⟩
  | .hbm, ⟨49, _⟩ => ⟨S8192x4, .f32⟩
  | .hbm, ⟨50, _⟩ => ⟨S8192x4x1, .f32⟩
  | .hbm, ⟨51, _⟩ => ⟨S_, .f32⟩
  | .hbm, ⟨52, _⟩ => ⟨S8192x4x1, .f32⟩
  | .hbm, ⟨53, _⟩ => ⟨S8192x4x1, .f32⟩
  | .hbm, ⟨54, _⟩ => ⟨S_, .f32⟩
  | .hbm, ⟨55, _⟩ => ⟨S8192x4x1, .f32⟩
  | .hbm, ⟨56, _⟩ => ⟨S8192x4x1, .f32⟩
  | .hbm, ⟨57, _⟩ => ⟨S8192x4x1, .f32⟩
  | .hbm, ⟨58, _⟩ => ⟨S8192x4x128, .f32⟩
  | .hbm, ⟨59, _⟩ => ⟨S8192x4x128, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x6656, .f32⟩
  | .hbm, ⟨65, _⟩ => ⟨S8192x12288, .f32⟩
  | .hbm, ⟨66, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Mem.lean ====
abbrev S2x256x2048 : Shape := ⟨3, ![2, 256, 2048]⟩
abbrev S1x2048 : Shape := ⟨2, ![1, 2048]⟩
abbrev S2048x1024 : Shape := ⟨2, ![2048, 1024]⟩
abbrev S1x128 : Shape := ⟨2, ![1, 128]⟩
abbrev S2048x12300 : Shape := ⟨2, ![2048, 12300]⟩
abbrev S12300x2048 : Shape := ⟨2, ![12300, 2048]⟩
abbrev S196800x128 : Shape := ⟨2, ![196800, 128]⟩
abbrev S2x256x512 : Shape := ⟨3, ![2, 256, 512]⟩
abbrev S1024x2048 : Shape := ⟨2, ![1024, 2048]⟩
abbrev S1x256x2048 : Shape := ⟨3, ![1, 256, 2048]⟩
abbrev S16384x128 : Shape := ⟨2, ![16384, 128]⟩
abbrev S1x256x512 : Shape := ⟨3, ![1, 256, 512]⟩
abbrev S1024x128 : Shape := ⟨2, ![1024, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 10
  | .vmem => 11
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S2048x1024, .f32⟩
  | .hbm, ⟨3, _⟩ => ⟨S1x128, .f32⟩
  | .hbm, ⟨4, _⟩ => ⟨S2048x12300, .f32⟩
  | .hbm, ⟨5, _⟩ => ⟨S12300x2048, .f32⟩
  | .hbm, ⟨6, _⟩ => ⟨S196800x128, .f32⟩
  | .hbm, ⟨7, _⟩ => ⟨S2x256x512, .bf16⟩
  | .hbm, ⟨8, _⟩ => ⟨S2x256x512, .bf16⟩
  | .hbm, ⟨9, _⟩ => ⟨S1024x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S2048x1024, .f32⟩
  | .local _ .vmem, ⟨4, _⟩ => ⟨S1x128, .f32⟩
  | .local _ .vmem, ⟨5, _⟩ => ⟨S16384x128, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1024x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MemReferenceIdeal.lean ====
abbrev S2x256x2048 : Shape := ⟨3, ![2, 256, 2048]⟩
abbrev S1x2048 : Shape := ⟨2, ![1, 2048]⟩
abbrev S2048x1024 : Shape := ⟨2, ![2048, 1024]⟩
abbrev S1x128 : Shape := ⟨2, ![1, 128]⟩
abbrev S2048x12300 : Shape := ⟨2, ![2048, 12300]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S1024x2048 : Shape := ⟨2, ![1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S2048x1024, .f32⟩
  | .hbm, ⟨3, _⟩ => ⟨S1x128, .f32⟩
  | .hbm, ⟨4, _⟩ => ⟨S2048x12300, .f32⟩
  | .hbm, ⟨5, _⟩ => ⟨S2x256x2048, .f32⟩
  | .hbm, ⟨6, _⟩ => ⟨S_, .f32⟩
  | .hbm, ⟨7, _⟩ => ⟨S2x256, .f32⟩
  | .hbm, ⟨8, _⟩ => ⟨S2x256x1, .f32⟩
  | .hbm, ⟨9, _⟩ => ⟨S_, .f32⟩
  | .hbm, ⟨10, _⟩ => ⟨S2x256x1, .f32⟩
  | .hbm, ⟨11, _⟩ => ⟨S2x256x1, .f32⟩
  | .hbm, ⟨12, _⟩ => ⟨S_, .f32⟩
  | .hbm, ⟨13, _⟩ => ⟨S2x256x1, .f32⟩
  | .hbm, ⟨14, _⟩ => ⟨S2x256x1, .f32⟩
  | .hbm, ⟨15, _⟩ => ⟨S2x256x1, .f32⟩
  | .hbm, ⟨16, _⟩ => ⟨S2x256x2048, .f32⟩
  | .hbm, ⟨17, _⟩ => ⟨S2x256x2048, .f32⟩
  | .hbm, ⟨18, _⟩ => ⟨S1x1x2048, .f32⟩
  | .hbm, ⟨19, _⟩ => ⟨S2x256x2048, .f32⟩
  | .hbm, ⟨20, _⟩ => ⟨S2x256x2048, .f32⟩
  | .hbm, ⟨21, _⟩ => ⟨S2x256x1024, .f32⟩
  | .hbm, ⟨22, _⟩ => ⟨S2x256x512, .f32⟩
  | .hbm, ⟨23, _⟩ => ⟨S2x256x4x128, .f32⟩
  | .hbm, ⟨24, _⟩ => ⟨S2x256x4x128, .f32⟩
  | .hbm, ⟨25, _⟩ => ⟨S_, .f32⟩
  | .hbm, ⟨26, _⟩ => ⟨S2x256x4, .f32⟩
  | .hbm, ⟨27, _⟩ => ⟨S2x256x4x1, .f32⟩
  | .hbm, ⟨28, _⟩ => ⟨S_, .f32⟩
  | .hbm, ⟨29, _⟩ => ⟨S2x256x4x1, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S2x256x4x1, .f32⟩
  | .hbm, ⟨35, _⟩ => ⟨S2x256x4x128, .f32⟩
  | .hbm, ⟨36, _⟩ => ⟨S2x256x4x128, .f32⟩
  | .hbm, ⟨37, _⟩ => ⟨S1x1x1x128, .f32⟩
  | .hbm, ⟨38, _⟩ => ⟨S2x256x4x128, .f32⟩
  | .hbm, ⟨39, _⟩ => ⟨S2x256x4x128, .f32⟩
  | .hbm, ⟨40, _⟩ => ⟨S2x256x512, .f32⟩
  | .hbm, ⟨41, _⟩ => ⟨S2x256x512, .bf16⟩
  | .hbm, ⟨42, _⟩ => ⟨S2x256x512, .f32⟩
  | .hbm, ⟨43, _⟩ => ⟨S2x256x512, .bf16⟩
  | .hbm, ⟨44, _⟩ => ⟨S2048x1024, .f32⟩
  | .hbm, ⟨45, _⟩ => ⟨S1024x2048, .f32⟩
  | .hbm, ⟨46, _⟩ => ⟨S1024x2048, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S128x2048 : Shape := ⟨2, ![128, 2048]⟩
abbrev S1x128 : Shape := ⟨2, ![1, 128]⟩
abbrev S384x768 : Shape := ⟨2, ![384, 768]⟩
abbrev S8192x768 : Shape := ⟨2, ![8192, 768]⟩
abbrev S1024x2048 : Shape := ⟨2, ![1024, 2048]⟩
abbrev S1024x768 : Shape := ⟨2, ![1024, 768]⟩
abbrev S1024 : Shape := ⟨1, ![1024]⟩
abbrev S1024x1 : Shape := ⟨2, ![1024, 1]⟩
abbrev S1024x128 : Shape := ⟨2, ![1024, 128]⟩
abbrev S1024x384 : Shape := ⟨2, ![1024, 384]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S128x2048, .bf16⟩
  | .hbm, ⟨3, _⟩ => ⟨S1x128, .f32⟩
  | .hbm, ⟨4, _⟩ => ⟨S384x768, .bf16⟩
  | .hbm, ⟨5, _⟩ => ⟨S8192x2048, .bf16⟩
  | .hbm, ⟨6, _⟩ => ⟨S8192x768, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .bf16⟩
  | .local _ .vmem, ⟨4, _⟩ => ⟨S1x128, .f32⟩
  | .local _ .vmem, ⟨5, _⟩ => ⟨S384x768, .bf16⟩
  | .local _ .vmem, ⟨6, _⟩ => ⟨S1024x2048, .bf16⟩
  | .local _ .vmem, ⟨7, _⟩ => ⟨S1024x2048, .bf16⟩
  | .local _ .vmem, ⟨8, _⟩ => ⟨S1024x768, .bf16⟩
  | .local _ .vmem, ⟨9, _⟩ => ⟨S1024x768, .bf16⟩
  | .local _ .vmem, ⟨10, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormReferenceIdeal.lean ====
abbrev S8192x2048 : Shape := ⟨2, ![8192, 2048]⟩
abbrev S1x2048 : Shape := ⟨2, ![1, 2048]⟩
abbrev S128x2048 : Shape := ⟨2, ![128, 2048]⟩
abbrev S1x128 : Shape := ⟨2, ![1, 128]⟩
abbrev S384x768 : Shape := ⟨2, ![384, 768]⟩
abbrev S_ : Shape := ⟨0, ![]⟩
abbrev S8192 : Shape := ⟨1, ![8192]⟩
abbrev S8192x1 : Shape := ⟨2, ![8192, 1]⟩
abbrev S2048x128 : Shape := ⟨2, ![2048, 128]⟩
abbrev S8192x128 : Shape := ⟨2, ![8192, 128]⟩
abbrev S2x4096x128 : Shape := ⟨3, ![2, 4096, 128]⟩
abbrev S8192x384 : Shape := ⟨2, ![8192, 384]⟩
abbrev S8192x768 : Shape := ⟨2, ![8192, 768]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S128x2048, .bf16⟩
  | .hbm, ⟨3, _⟩ => ⟨S1x128, .f32⟩
  | .hbm, ⟨4, _⟩ => ⟨S384x768, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S128x2048, .f32⟩
  | .hbm, ⟨21, _⟩ => ⟨S2048x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .i1⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S2x4096x128, .f32⟩
  | .hbm, ⟨42, _⟩ => ⟨S_, .f32⟩
  | .hbm, ⟨43, _⟩ => ⟨S_, .f32⟩
  | .hbm, ⟨44, _⟩ => ⟨S2x4096x128, .f32⟩
  | .hbm, ⟨45, _⟩ => ⟨S_, .f32⟩
  | .hbm, ⟨46, _⟩ => ⟨S2x4096x128, .f32⟩
  | .hbm, ⟨47, _⟩ => ⟨S2x4096x128, .f32⟩
  | .hbm, ⟨48, _⟩ => ⟨S8192x128, .f32⟩
  | .hbm, ⟨49, _⟩ => ⟨S8192x128, .bf16⟩
  | .hbm, ⟨50, _⟩ => ⟨S8192x128, .f32⟩
  | .hbm, ⟨51, _⟩ => ⟨S8192x128, .f32⟩
  | .hbm, ⟨52, _⟩ => ⟨S8192x128, .bf16⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .bf16⟩
  | .hbm, ⟨57, _⟩ => ⟨S8192x128, .f32⟩
  | .hbm, ⟨58, _⟩ => ⟨S8192x2048, .bf16⟩
  | .hbm, ⟨59, _⟩ => ⟨S8192x384, .f32⟩
  | .hbm, ⟨60, _⟩ => ⟨S384x768, .f32⟩
  | .hbm, ⟨61, _⟩ => ⟨S8192x768, .f32⟩
  | .hbm, ⟨62, _⟩ => ⟨S8192x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v17 : Ref sig .tc := ⟨.hbm, 40, rfl⟩
abbrev main_v18 : Ref sig .tc := ⟨.hbm, 41, rfl⟩
abbrev main_call1_call0_cst : Ref sig .tc := ⟨.hbm, 42, rfl⟩
abbrev main_call1_call0_v0 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Proof.Math.Row.lean ====
module

public import Idealize.ShloMosaic.PureOps.Ideal
public import Idealize.ShloMosaic.PureOps.Ideal.Laws

@[expose] public section
noncomputable section
namespace Cert.Row
open Idealize.ShloMosaic

/-- The word `0xFF800000` denotes the bottom of the extended reals. -/
theorem ofBits_bot : Ideal.ofBits FTy.f32 0xFF800000#32 = ⊥ := by simp [Ideal.ofBits, Ideal.ieee]

/-- The word `0x3F000000` denotes one half. -/
theorem ofBits_half : Ideal.ofBits FTy.f32 0x3F000000#32 = ((1 / 2 : ℝ) : EReal) := by
  simp [Ideal.ofBits, Ideal.ieee]
  rw [← EReal.coe_mul]
  norm_num

/-- The sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem logistic_real (r : ℝ) : (1 / 2 : ℝ) * (Real.tanh ((1 / 2) * r) + 1) = (1 + Real.exp (-r))⁻¹ := by
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  have p1 := Real.exp_pos (1 / 2 * r)
  have p2 := Real.exp_pos (-(1 / 2 * r))
  rw [Real.tanh_eq_sinh_div_cosh, Real.sinh_eq, Real.cosh_eq, e1]
  generalize Real.exp (1 / 2 * r) = a at *
  generalize Real.exp (-(1 / 2 * r)) = b at *
  have d1 : a + b ≠ 0 := by positivity
  have d2 : 1 + b * b ≠ 0 := by positivity
  field_simp
  linear_combination 2 * b * e2

/-- The sigmoid as the hyperbolic tangent of half the argument, on every extended real. -/
theorem half_tanh (x : EReal) :
    Ideal.ofBits FTy.f32 0x3F000000#32 * (Ideal.tanh (Ideal.ofBits FTy.f32 0x3F000000#32 * x) + 1) = Ideal.logistic x := by
  rw [ofBits_half]
  induction x with
  | bot => rw [EReal.coe_mul_bot_of_pos (by norm_num)]; simp; rw [show (-1 : EReal) + 1 = 0 by rw [← EReal.coe_one, ← EReal.coe_neg, ← EReal.coe_add]; simp]
  | coe r =>
    rw [← EReal.coe_mul, Ideal.tanh_coe, Ideal.logistic_coe, ← EReal.coe_one, ← EReal.coe_add, ← EReal.coe_mul, logistic_real]
  | top =>
    rw [EReal.coe_mul_top_of_pos (by norm_num), Ideal.tanh_top, Ideal.logistic_top, ← EReal.coe_one, ← EReal.coe_add, ← EReal.coe_mul]
    norm_num

/-- A product with a real number that is not negative is taken term by term. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The fold of `max` over real numbers is a real number. -/
theorem fold_max_real {n : ℕ} (hn : 0 < n) (s : Fin n → ℝ) :
    ∃ M : ℝ, Finset.fold max ⊥ (fun m => (s m : EReal)) Finset.univ = (M : EReal) := by
  classical
  have key : ∀ t : Finset (Fin n), t.Nonempty → ∃ M : ℝ, Finset.fold max ⊥ (fun m => (s m : EReal)) t = (M : EReal) := by
    intro t ht
    induction ht using Finset.Nonempty.cons_induction with
    | singleton a => exact ⟨s a, by simp⟩
    | cons a t ha _ ih =>
      obtain ⟨M, hM⟩ := ih
      exact ⟨max (s a) M, by rw [Finset.fold_cons, hM]; exact (EReal.coe_strictMono.monotone.map_max).symm⟩
  exact key _ ⟨⟨0, hn⟩, Finset.mem_univ _⟩

/-- One softmax row: the quotient taken after the weighted sum, or taken of every weight before it. -/
theorem softmax_row {n : ℕ} (hn : 0 < n) (s v : Fin n → EReal) (hs : ∀ m, ∃ r : ℝ, s m = (r : EReal)) :
    Ideal.div (∑ m, Ideal.exp (s m - Finset.fold max ⊥ s Finset.univ) * v m) (∑ m, Ideal.exp (s m - Finset.fold max ⊥ s Finset.univ))
      = ∑ m, v m * Ideal.div (Ideal.exp (s m - max ⊥ (Finset.fold max ⊥ s Finset.univ)))
          (∑ k, Ideal.exp (s k - max ⊥ (Finset.fold max ⊥ s Finset.univ))) := by
  choose r hr using hs
  obtain rfl : s = fun m => (r m : EReal) := funext hr
  obtain ⟨M, hM⟩ := fold_max_real hn r
  rw [max_eq_right bot_le, hM]
  have he : ∀ m, Ideal.exp ((r m : EReal) - (M : EReal)) = ((Real.exp (r m - M) : ℝ) : EReal) := fun m => by
    rw [← EReal.coe_sub, Ideal.exp_coe]
  simp only [he]
  have hsum : (∑ m, ((Real.exp (r m - M) : ℝ) : EReal)) = ((∑ m, Real.exp (r m - M) : ℝ) : EReal) := by
    rw [coe_sum]
  have hpos : 0 < ∑ m, Real.exp (r m - M) :=
    Finset.sum_pos (fun m _ => Real.exp_pos _) ⟨⟨0, hn⟩, Finset.mem_univ _⟩
  rw [hsum, Ideal.div_coe hpos.ne', sum_mul_real _ _ _ (by positivity)]
  refine Finset.sum_congr rfl fun m _ => ?_
  rw [Ideal.div_coe hpos.ne', mul_comm (_ : EReal) (v m), mul_assoc]

/-- A sum of products of real numbers is a real number. -/
theorem dot_real {ι : Type*} [Fintype ι] (a b : ι → EReal) (ha : ∀ i, ∃ r : ℝ, a i = (r : EReal)) (hb : ∀ i, ∃ r : ℝ, b i = (r : EReal)) :
    ∃ r : ℝ, (∑ i, a i * b i) = (r : EReal) := by
  choose f hf using ha
  choose g hg using hb
  refine ⟨∑ i, f i * g i, ?_⟩
  rw [coe_sum]
  exact Finset.sum_congr rfl fun i _ => by rw [hf, hg, EReal.coe_mul]

end Cert.Row
end
-- ==== Proof.Merge.KernRead.lean ====
module

public import proofs.«01_k».proof.Proof.Gen.KernelIdeal.Frame
public import proofs.«01_k».proof.Proof.Math.Row
public import Idealize.ShloMosaic.Lib.Pointwise
public import Idealize.ShloMosaic.Lib.Pipeline.ValueKit

@[expose] public section
set_option maxRecDepth 16384
noncomputable section
namespace Cert.Merge
open Idealize.ShloMosaic Idealize.SL.Sem Cert.KernelIdeal Cert.KernelIdeal.Gen

/-- The scores of one query row against the memory's rows, head `h`. -/
def sc (q : Fin 512 → EReal) (k : Fin 256 → Fin 512 → EReal) (h : Fin 4) (m : Fin 256) : EReal :=
  ∑ d : Fin 128, q ⟨h.val * 128 + d.val, by omega⟩ * k m ⟨h.val * 128 + d.val, by omega⟩

/-- A softmax row applied to values, the quotient taken after the weighted sum. -/
def soft (s v : Fin 256 → EReal) : EReal :=
  Ideal.div (∑ m, Ideal.exp (s m - Finset.fold max ⊥ s Finset.univ) * v m) (∑ m, Ideal.exp (s m - Finset.fold max ⊥ s Finset.univ))

/-- One row of the memory attention as the kernel takes it. -/
def att (q : Fin 512 → EReal) (k v : Fin 256 → Fin 512 → EReal) (e : Fin 512) : EReal :=
  soft (sc q k ⟨e.val / 128, by omega⟩) (fun m => v m e)

theorem att_of_head (q : Fin 512 → EReal) (k v : Fin 256 → Fin 512 → EReal) (e e' : Fin 512) (j : ℕ) (hj : e.val / 128 = j)
    (f : Fin 128 → Fin 512) (hf : ∀ d, (f d).val = j * 128 + d.val) (he : e' = e) :
    soft (fun m => ∑ d, q (f d) * k m (f d)) (fun m => v m e') = att q k v e := by
  subst he
  unfold att
  congr 1
  funext m
  unfold sc
  refine Finset.sum_congr rfl fun d _ => ?_
  have : f d = ⟨e'.val / 128 * 128 + d.val, by omega⟩ := Fin.ext ((hf d).trans (by subst hj; rfl))
  rw [this]

/-- A branch's sum: gated, projected. -/
def branch {n : ℕ} (g : EReal) (y z : Fin n → EReal) (w : Fin n → EReal) : EReal :=
  Ideal.logistic g * ∑ k, y k * (z k * Ideal.logistic (z k)) * w k

theorem ker_att (x3 x4 : Vec Ideal S1x256x512 .bf16) (x5 : Vec Ideal S256x512 .bf16) (r : Fin 256) (e : Fin 512) :
    k0_pay10 (k0_pay7 (View.ld x5 r0_4) (k0_pay6 (View.ld x3 r0_5)) (View.ld x4 r0_5)) (k0_pay8 (View.ld x5 r0_6) (View.ld x3 r0_7) (View.ld x4 r0_7)) (k0_pay9 (View.ld x5 r0_8) (View.ld x3 r0_9)) (View.ld x4 r0_9) (View.ld x5 r0_10) (View.ld x3 r0_11) (View.ld x4 r0_11) (ix2 r e)
      = att (fun e => x5 (ix2 r e)) (fun m e => x3 (ix3 0 m e)) (fun m e => x4 (ix3 0 m e)) e := by
  pointwise [k0_pay10, k0_pay7, k0_pay6, k0_pay8, k0_pay9]
  simp only [Row.ofBits_bot]
  have key := att_of_head (fun e => x5 (ix2 r e)) (fun m e => x3 (ix3 0 m e)) (fun m e => x4 (ix3 0 m e)) e
  split
  · exact key e 0 (by omega) (fun d => ⟨d.val, by omega⟩) (fun d => by simp) rfl
  · split
    · exact key ⟨128 + (e.val - 128), by omega⟩ 1 (by omega) (fun d => ⟨128 + d.val, by omega⟩) (fun d => rfl) (Fin.ext (by simp; omega))
    · split
      · exact key ⟨256 + (e.val - 128 - 128), by omega⟩ 2 (by omega) (fun d => ⟨256 + d.val, by omega⟩) (fun d => rfl) (Fin.ext (by simp; omega))
      · exact key ⟨384 + (e.val - 128 - 128 - 128), by omega⟩ 3 (by omega) (fun d => ⟨384 + d.val, by omega⟩) (fun d => rfl) (Fin.ext (by simp; omega))

theorem ker_a (g : Vec Ideal S256x2048 .bf16) (y : Vec Ideal S256x768 .bf16) (z0 z1 z2 : Vec Ideal S256x256 .bf16) (w : Vec Ideal S768x2048 .bf16)
    (z : Fin 768 → EReal) (r : Fin 256) (c : Fin 2048) (h0 : ∀ i : Fin 256, z0 (ix2 r i) = z ⟨i.val, by omega⟩)
    (h1 : ∀ i : Fin 256, z1 (ix2 r i) = z ⟨256 + i.val, by omega⟩) (h2 : ∀ i : Fin 256, z2 (ix2 r i) = z ⟨512 + i.val, by omega⟩) :
    k0_pay2 g y z0 z1 z2 w (ix2 r c) = branch (g (ix2 r c)) (fun k => y (ix2 r k)) z (fun k => w (ix2 k c)) := by
  have key : ∀ x : Fin 768, (if h : x.val < 256 then z0 (ix2 r ⟨x.val, h⟩)
      else if h' : x.val - 256 < 256 then z1 (ix2 r ⟨x.val - 256, h'⟩) else z2 (ix2 r ⟨x.val - 256 - 256, by omega⟩)) = z x := by
    intro x
    split
    · rw [h0]
    · split
      · rw [h1]; congr 1; apply Fin.ext; show 256 + (x.val - 256) = x.val; omega
      · rw [h2]; congr 1; apply Fin.ext; show 512 + (x.val - 256 - 256) = x.val; omega
  pointwise [k0_pay2]
  simp only [key, Row.half_tanh, branch]

theorem ker_b (a : FVec Ideal S256x2048 .f32) (g : Vec Ideal S256x2048 .bf16) (y : Vec Ideal S256x768 .bf16) (z0 z1 z2 : Vec Ideal S256x256 .bf16) (w : Vec Ideal S768x2048 .bf16)
    (z : Fin 768 → EReal) (r : Fin 256) (c : Fin 2048) (h0 : ∀ i : Fin 256, z0 (ix2 r i) = z ⟨i.val, by omega⟩)
    (h1 : ∀ i : Fin 256, z1 (ix2 r i) = z ⟨256 + i.val, by omega⟩) (h2 : ∀ i : Fin 256, z2 (ix2 r i) = z ⟨512 + i.val, by omega⟩) :
    k0_pay4 a (k0_pay3 g) y z0 z1 z2 w (ix2 r c) = a (ix2 r c) + branch (g (ix2 r c)) (fun k => y (ix2 r k)) z (fun k => w (ix2 k c)) := by
  have key : ∀ x : Fin 768, (if h : x.val < 256 then z0 (ix2 r ⟨x.val, h⟩)
      else if h' : x.val - 256 < 256 then z1 (ix2 r ⟨x.val - 256, h'⟩) else z2 (ix2 r ⟨x.val - 256 - 256, by omega⟩)) = z x := by
    intro x
    split
    · rw [h0]
    · split
      · rw [h1]; congr 1; apply Fin.ext; show 256 + (x.val - 256) = x.val; omega
      · rw [h2]; congr 1; apply Fin.ext; show 512 + (x.val - 256 - 256) = x.val; omega
  pointwise [k0_pay4, k0_pay3]
  simp only [key, Row.half_tanh, branch]

theorem ker_out (ab : FVec Ideal S256x2048 .f32) (g : Vec Ideal S256x2048 .bf16) (y : FVec Ideal S256x512 .f32) (z : Vec Ideal S256x512 .bf16) (w : Vec Ideal S512x2048 .bf16)
    (x : Vec Ideal S256x2048 .f32) (wo : Vec Ideal S2048x2048 .bf16) (r : Fin 256) (c : Fin 2048) :
    k0_pay1 ab (k0_pay5 g) y (k0_pay11 z) (k0_pay12 z) w x wo (ix2 r c)
      = x (ix2 r c) + ∑ e, (ab (ix2 r e) + branch (g (ix2 r e)) (fun k => y (ix2 r k)) (fun k => z (ix2 r k)) (fun k => w (ix2 k e))) * wo (ix2 e c) := by
  pointwise [k0_pay1, k0_pay5, k0_pay11, k0_pay12]
  simp only [Row.half_tanh, branch]

end Cert.Merge
end
-- ==== Proof.Merge.OutRead.lean ====
module

public import proofs.«01_k».proof.Proof.Merge.KernRead

@[expose] public section
set_option maxRecDepth 16384
noncomputable section
namespace Cert.Merge
open Idealize.ShloMosaic Idealize.SL.Sem Cert.KernelIdeal Cert.KernelIdeal.Gen

theorem hz : (![0, 0] : Fin 2 → Nat) = fun _ => 0 := funext fun a => by fin_cases a <;> rfl

/-- One entry of the block the kernel writes, from the blocks it reads. -/
theorem out_read (x0 : Vec Ideal S256x2048 .f32) (x1 x2 : Vec Ideal S256x768 .bf16) (x3 x4 : Vec Ideal S1x256x512 .bf16) (x5 : Vec Ideal S256x512 .bf16)
    (x6 x7 x8 x9 x10 x11 : Vec Ideal S256x256 .bf16) (x12 : Vec Ideal S256x512 .bf16) (x13 x14 x15 : Vec Ideal S256x2048 .bf16)
    (x16 x17 : Vec Ideal S768x2048 .bf16) (x18 : Vec Ideal S512x2048 .bf16) (x19 : Vec Ideal S2048x2048 .bf16) (za zb : Fin 768 → EReal) (r : Fin 256) (c : Fin 2048)
    (h6 : ∀ i : Fin 256, x6 (ix2 r i) = za ⟨i.val, by omega⟩)
    (h7 : ∀ i : Fin 256, x7 (ix2 r i) = za ⟨256 + i.val, by omega⟩) (h8 : ∀ i : Fin 256, x8 (ix2 r i) = za ⟨512 + i.val, by omega⟩)
    (h9 : ∀ i : Fin 256, x9 (ix2 r i) = zb ⟨i.val, by omega⟩)
    (h10 : ∀ i : Fin 256, x10 (ix2 r i) = zb ⟨256 + i.val, by omega⟩) (h11 : ∀ i : Fin 256, x11 (ix2 r i) = zb ⟨512 + i.val, by omega⟩) :
    out0_20 x0 x1 x2 x3 x4 x5 x6 x7 x8 x9 x10 x11 x12 x13 x14 x15 x16 x17 x18 x19 (ix2 r c)
      = x0 (ix2 r c) + ∑ e, (branch (x13 (ix2 r e)) (fun k => x1 (ix2 r k)) za (fun k => x16 (ix2 k e))
          + branch (x14 (ix2 r e)) (fun k => x2 (ix2 r k)) zb (fun k => x17 (ix2 k e))
          + branch (x15 (ix2 r e)) (fun k => att (fun e => x5 (ix2 r e)) (fun m e => x3 (ix3 0 m e)) (fun m e => x4 (ix3 0 m e)) k)
              (fun k => x12 (ix2 r k)) (fun k => x18 (ix2 k e))) * x19 (ix2 e c) := by
  unfold out0_20
  rw [View.canon_unit_zero hz]
  have e0 : ∀ x : Vec Ideal S256x2048 .f32, View.ld x r0_0 = x := fun x => View.ld_unit_zero hz _ x
  have e0' : ∀ x : Vec Ideal S256x2048 .bf16, View.ld x r0_0 = x := fun x => View.ld_unit_zero hz _ x
  have e1 : ∀ x : Vec Ideal S256x768 .bf16, View.ld x r0_1 = x := fun x => View.ld_unit_zero hz _ x
  have e2 : ∀ x : Vec Ideal S256x256 .bf16, View.ld x r0_2 = x := fun x => View.ld_unit_zero hz _ x
  have e3 : ∀ x : Vec Ideal S768x2048 .bf16, View.ld x r0_3 = x := fun x => View.ld_unit_zero hz _ x
  have e12 : ∀ x : Vec Ideal S256x512 .bf16, View.ld x r0_12 = x := fun x => View.ld_unit_zero hz _ x
  have e13 : ∀ x : Vec Ideal S512x2048 .bf16, View.ld x r0_13 = x := fun x => View.ld_unit_zero hz _ x
  have e14 : ∀ x : Vec Ideal S2048x2048 .bf16, View.ld x r0_14 = x := fun x => View.ld_unit_zero hz _ x
  rw [e0 x0, e0' x13, e0' x14, e0' x15, e1 x1, e1 x2, e2 x6, e2 x7, e2 x8, e2 x9, e2 x10, e2 x11, e3 x16, e3 x17, e12 x12, e13, e14, ker_out]
  congr 1
  refine Finset.sum_congr rfl fun e _ => ?_
  rw [ker_b _ _ _ _ _ _ _ zb r e h9 h10 h11, ker_a _ _ _ _ _ _ za r e h6 h7 h8]
  simp only [ker_att]

end Cert.Merge
end
-- ==== Proof.Merge.Reads.lean ====
module

public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.Merge
open Idealize.ShloMosaic Idealize.ShloMosaic.TcCoe Idealize.SL.Sem Cert.KernelIdeal Cert.KernelIdeal.Gen

/-- Every window's block index at point `t`. -/
theorem idx : ∀ t : Fin cfg0.N, win0_0.index t = ![t.val, 0] ∧ win0_1.index t = ![t.val, 0] ∧ win0_2.index t = ![t.val, 0]
    ∧ win0_3.index t = ![t.val / 16, 0, 0] ∧ win0_4.index t = ![t.val / 16, 0, 0] ∧ win0_5.index t = ![t.val, 10]
    ∧ win0_6.index t = ![t.val, 5] ∧ win0_7.index t = ![t.val, 6] ∧ win0_8.index t = ![t.val, 7]
    ∧ win0_9.index t = ![t.val, 17] ∧ win0_10.index t = ![t.val, 18] ∧ win0_11.index t = ![t.val, 19]
    ∧ win0_12.index t = ![t.val, 11] ∧ win0_13.index t = ![t.val, 3] ∧ win0_14.index t = ![t.val, 4] ∧ win0_15.index t = ![t.val, 5]
    ∧ win0_16.index t = ![0, 0] ∧ win0_17.index t = ![0, 0] ∧ win0_18.index t = ![0, 0] ∧ win0_19.index t = ![0, 0] ∧ win0_20.index t = ![t.val, 0] :=
  (by decide +kernel : ∀ t : Fin grid0.N, _)

theorem tlt (t : Fin cfg0.N) : t.val < 32 := t.isLt

variable (m : (ℓ : Loc nD τ sig) → Buf (Elt Ideal) ℓ) (c : Dev nD)

theorem rd0 (t : Fin cfg0.N) (r : Fin 256) (e : Fin 2048) :
    iblk m c 0 t (ix2 r e) = m ((c : Thread nD τ).loc main_arg0) (ix2 ⟨t.val * 256 + r.val, by have := tlt t; omega⟩ e) := by
  blk_ext [iblk, V, idx t]

theorem rd1 (t : Fin cfg0.N) (r : Fin 256) (e : Fin 768) :
    iblk m c 1 t (ix2 r e) = m ((c : Thread nD τ).loc main_arg1) (ix2 ⟨t.val * 256 + r.val, by have := tlt t; omega⟩ e) := by
  blk_ext [iblk, V, idx t]

theorem rd2 (t : Fin cfg0.N) (r : Fin 256) (e : Fin 768) :
    iblk m c 2 t (ix2 r e) = m ((c : Thread nD τ).loc main_arg2) (ix2 ⟨t.val * 256 + r.val, by have := tlt t; omega⟩ e) := by
  blk_ext [iblk, V, idx t]

theorem rd5 (t : Fin cfg0.N) (r : Fin 256) (e : Fin 512) :
    iblk m c 5 t (ix2 r e) = m ((c : Thread nD τ).loc main_arg5) (ix2 ⟨t.val * 256 + r.val, by have := tlt t; omega⟩ ⟨5120 + e.val, by omega⟩) := by
  blk_ext [iblk, V, idx t]

theorem rd6 (t : Fin cfg0.N) (r : Fin 256) (e : Fin 256) :
    iblk m c 6 t (ix2 r e) = m ((c : Thread nD τ).loc main_arg5) (ix2 ⟨t.val * 256 + r.val, by have := tlt t; omega⟩ ⟨1280 + e.val, by omega⟩) := by
  blk_ext [iblk, V, idx t]

theorem rd7 (t : Fin cfg0.N) (r : Fin 256) (e : Fin 256) :
    iblk m c 7 t (ix2 r e) = m ((c : Thread nD τ).loc main_arg5) (ix2 ⟨t.val * 256 + r.val, by have := tlt t; omega⟩ ⟨1536 + e.val, by omega⟩) := by
  blk_ext [iblk, V, idx t]

theorem rd8 (t : Fin cfg0.N) (r : Fin 256) (e : Fin 256) :
    iblk m c 8 t (ix2 r e) = m ((c : Thread nD τ).loc main_arg5) (ix2 ⟨t.val * 256 + r.val, by have := tlt t; omega⟩ ⟨1792 + e.val, by omega⟩) := by
  blk_ext [iblk, V, idx t]

theorem rd9 (t : Fin cfg0.N) (r : Fin 256) (e : Fin 256) :
    iblk m c 9 t (ix2 r e) = m ((c : Thread nD τ).loc main_arg5) (ix2 ⟨t.val * 256 + r.val, by have := tlt t; omega⟩ ⟨4352 + e.val, by omega⟩) := by
  blk_ext [iblk, V, idx t]

theorem rd10 (t : Fin cfg0.N) (r : Fin 256) (e : Fin 256) :
    iblk m c 10 t (ix2 r e) = m ((c : Thread nD τ).loc main_arg5) (ix2 ⟨t.val * 256 + r.val, by have := tlt t; omega⟩ ⟨4608 + e.val, by omega⟩) := by
  blk_ext [iblk, V, idx t]

theorem rd11 (t : Fin cfg0.N) (r : Fin 256) (e : Fin 256) :
    iblk m c 11 t (ix2 r e) = m ((c : Thread nD τ).loc main_arg5) (ix2 ⟨t.val * 256 + r.val, by have := tlt t; omega⟩ ⟨4864 + e.val, by omega⟩) := by
  blk_ext [iblk, V, idx t]

theorem rd12 (t : Fin cfg0.N) (r : Fin 256) (e : Fin 512) :
    iblk m c 12 t (ix2 r e) = m ((c : Thread nD τ).loc main_arg5) (ix2 ⟨t.val * 256 + r.val, by have := tlt t; omega⟩ ⟨5632 + e.val, by omega⟩) := by
  blk_ext [iblk, V, idx t]

theorem rd13 (t : Fin cfg0.N) (r : Fin 256) (e : Fin 2048) :
    iblk m c 13 t (ix2 r e) = m ((c : Thread nD τ).loc main_arg5) (ix2 ⟨t.val * 256 + r.val, by have := tlt t; omega⟩ ⟨6144 + e.val, by omega⟩) := by
  blk_ext [iblk, V, idx t]

theorem rd14 (t : Fin cfg0.N) (r : Fin 256) (e : Fin 2048) :
    iblk m c 14 t (ix2 r e) = m ((c : Thread nD τ).loc main_arg5) (ix2 ⟨t.val * 256 + r.val, by have := tlt t; omega⟩ ⟨8192 + e.val, by omega⟩) := by
  blk_ext [iblk, V, idx t]

theorem rd15 (t : Fin cfg0.N) (r : Fin 256) (e : Fin 2048) :
    iblk m c 15 t (ix2 r e) = m ((c : Thread nD τ).loc main_arg5) (ix2 ⟨t.val * 256 + r.val, by have := tlt t; omega⟩ ⟨10240 + e.val, by omega⟩) := by
  blk_ext [iblk, V, idx t]

theorem rd3 (t : Fin cfg0.N) (r : Fin 256) (e : Fin 512) :
    iblk m c 3 t (ix3 0 r e) = m ((c : Thread nD τ).loc main_arg3) (ix3 ⟨t.val / 16, by have := tlt t; omega⟩ r e) := by
  blk_ext [iblk, V, idx t]

theorem rd4 (t : Fin cfg0.N) (r : Fin 256) (e : Fin 512) :
    iblk m c 4 t (ix3 0 r e) = m ((c : Thread nD τ).loc main_arg4) (ix3 ⟨t.val / 16, by have := tlt t; omega⟩ r e) := by
  blk_ext [iblk, V, idx t]

theorem rd16 (t : Fin cfg0.N) (r : Fin 768) (e : Fin 2048) :
    iblk m c 16 t (ix2 r e) = m ((c : Thread nD τ).loc main_arg6) (ix2 r e) := by
  blk_ext [iblk, V, idx t]

theorem rd17 (t : Fin cfg0.N) (r : Fin 768) (e : Fin 2048) :
    iblk m c 17 t (ix2 r e) = m ((c : Thread nD τ).loc main_arg7) (ix2 r e) := by
  blk_ext [iblk, V, idx t]

theorem rd18 (t : Fin cfg0.N) (r : Fin 512) (e : Fin 2048) :
    iblk m c 18 t (ix2 r e) = m ((c : Thread nD τ).loc main_arg8) (ix2 r e) := by
  blk_ext [iblk, V, idx t]

theorem rd19 (t : Fin cfg0.N) (r : Fin 2048) (e : Fin 2048) :
    iblk m c 19 t (ix2 r e) = m ((c : Thread nD τ).loc main_arg9) (ix2 r e) := by
  blk_ext [iblk, V, idx t]

end Cert.Merge
end
-- ==== Proof.Merge.RefTop.lean ====
module

public import proofs.«01_k».proof.Proof.Gen.ReferenceIdeal.Read
public import Idealize.ShloMosaic.Lib.Pointwise

@[expose] public section
set_option maxRecDepth 16384
noncomputable section
namespace Cert.Merge
open Idealize.ShloMosaic Idealize.SL.Sem Cert.ReferenceIdeal Cert.ReferenceIdeal.Gen Cert.ReferenceIdeal.Read

/-- The maximum of the last axis of a `[2, 4, 4096, 256]` array, read at an index. -/
theorem top_read (y : FVec Ideal S2x4x4096x256 .f32) (z : FVec Ideal S_ .f32) (b : Fin 2) (h : Fin 4) (t : Fin 4096) :
    Host.reduce FloatOps.maximumf y z reducesTo_S2x4x4096x256_S2x4x4096_d3 h_S_ (ix3 b h t)
      = Finset.fold max (z (Shape.Idx.first h_S_)) (fun m : Fin 256 => y (ix4 b h t m)) Finset.univ := by
  rw [Host.reduce_eq_fold]
  exact Shape.ReducesTo.fold_fiber_r4_a3 reducesTo_S2x4x4096x256_S2x4x4096_d3 (ix3 b h t) _ _ _

end Cert.Merge
end
-- ==== Proof.Merge.RefRead.lean ====
module

public import proofs.«01_k».proof.Proof.Gen.ReferenceIdeal.Read
public import proofs.«01_k».proof.Proof.Merge.RefTop
public import Idealize.ShloMosaic.Lib.Pointwise

@[expose] public section
set_option maxRecDepth 16384
noncomputable section
namespace Cert.Merge
open Idealize.ShloMosaic Idealize.SL.Sem Cert.ReferenceIdeal Cert.ReferenceIdeal.Gen Cert.ReferenceIdeal.Read

abbrev TMem := (⟨S2x256x512, .bf16⟩ : BufTy).Contents (Elt Ideal)
abbrev TProj := (⟨S8192x12288, .bf16⟩ : BufTy).Contents (Elt Ideal)

/-- The scores of token `t` of sequence `b` against the memory's rows, head `h`. -/
theorem ref_scores (x3 : TMem) (x5 : TProj) (b : Fin 2) (h : Fin 4) (t : Fin 4096) (m : Fin 256) :
    val_main_v19 x3 x5 (ix4 b h t m) = ∑ k : Fin 128,
      x5 (ix2 ⟨b.val * 4096 + t.val, by omega⟩ ⟨5120 + (h.val * 128 + k.val), by omega⟩) * x3 (ix3 b m ⟨h.val * 128 + k.val, by omega⟩) := by
  pointwise [val_main_v19, val_main_v14, val_main_v16, val_main_v15, val_main_v5, val_main_v4]

theorem ref_top (x3 : TMem) (x5 : TProj) (b : Fin 2) (h : Fin 4) (t : Fin 4096) :
    val_main_v22 x3 x5 (ix3 b h t) = max (Ideal.ofBits FTy.f32 0xFF800000#32)
      (Finset.fold max (Ideal.ofBits FTy.f32 0xFF800000#32) (fun m : Fin 256 => val_main_v19 x3 x5 (ix4 b h t m)) Finset.univ) := by
  rw [val_main_v22_apply, val_main_v21_apply, val_main_cst_0_apply]
  unfold val_main_v20
  rw [top_read]
  rfl

theorem ref_exp (x3 : TMem) (x5 : TProj) (b : Fin 2) (h : Fin 4) (t : Fin 4096) (m : Fin 256) :
    val_main_v26 x3 x5 (ix4 b h t m) = Ideal.exp (val_main_v19 x3 x5 (ix4 b h t m) - val_main_v22 x3 x5 (ix3 b h t)) := by
  pointwise [val_main_v26, val_main_v25, val_main_v24, val_main_v23]

theorem ref_prob (x3 : TMem) (x5 : TProj) (b : Fin 2) (h : Fin 4) (t : Fin 4096) (m : Fin 256) :
    val_main_v30 x3 x5 (ix4 b h t m) = Ideal.div (val_main_v26 x3 x5 (ix4 b h t m)) (∑ n : Fin 256, val_main_v26 x3 x5 (ix4 b h t n)) := by
  pointwise [val_main_v30, val_main_v29, val_main_v28, val_main_v27, val_main_cst_1]

theorem ref_att (x3 x4 : TMem) (x5 : TProj) (r : Fin 8192) (d : Fin 512) :
    val_main_v33 x3 x4 x5 (ix2 r d) = ∑ m : Fin 256, x4 (ix3 ⟨r.val / 4096, by omega⟩ m d) *
      val_main_v30 x3 x5 (ix4 ⟨r.val / 4096, by omega⟩ ⟨d.val / 128, by omega⟩ ⟨r.val % 4096, by omega⟩ m) := by
  pointwise [val_main_v33, val_main_v32, val_main_v31, val_main_v18, val_main_v17]

theorem ref_za (x1 : (⟨S8192x768, .bf16⟩ : BufTy).Contents (Elt Ideal)) (x5 : TProj) (r : Fin 8192) (c : Fin 768) :
    val_main_v36 x1 x5 (ix2 r c) = x1 (ix2 r c) * (x5 (ix2 r ⟨1280 + c.val, by omega⟩) * Ideal.logistic (x5 (ix2 r ⟨1280 + c.val, by omega⟩))) := by
  pointwise [val_main_v36, val_main_v34, val_main_v35, val_main_call0_v5, val_main_call0_v4, val_main_call0_cst_0, val_main_call0_v3, val_main_call0_v2, val_main_call0_cst, val_main_call0_v1, val_main_call0_v0, val_main_v1, val_main_v0, Ideal.logistic]

theorem ref_zb (x2 : (⟨S8192x768, .bf16⟩ : BufTy).Contents (Elt Ideal)) (x5 : TProj) (r : Fin 8192) (c : Fin 768) :
    val_main_v41 x2 x5 (ix2 r c) = x2 (ix2 r c) * (x5 (ix2 r ⟨4352 + c.val, by omega⟩) * Ideal.logistic (x5 (ix2 r ⟨4352 + c.val, by omega⟩))) := by
  pointwise [val_main_v41, val_main_v39, val_main_v40, val_main_call1_v5, val_main_call1_v4, val_main_call1_cst_0, val_main_call1_v3, val_main_call1_v2, val_main_call1_cst, val_main_call1_v1, val_main_call1_v0, val_main_v3, val_main_v2, Ideal.logistic]

theorem ref_zc (x3 x4 : TMem) (x5 : TProj) (r : Fin 8192) (c : Fin 512) :
    val_main_v45 x3 x4 x5 (ix2 r c) = val_main_v33 x3 x4 x5 (ix2 r c) * (x5 (ix2 r ⟨5632 + c.val, by omega⟩) * Ideal.logistic (x5 (ix2 r ⟨5632 + c.val, by omega⟩))) := by
  pointwise [val_main_v45, val_main_v44, val_main_call2_v5, val_main_call2_v4, val_main_call2_cst_0, val_main_call2_v3, val_main_call2_v2, val_main_call2_cst, val_main_call2_v1, val_main_call2_v0, val_main_v7, val_main_v6, Ideal.logistic]

theorem ref_ga (x5 : TProj) (r : Fin 8192) (c : Fin 2048) :
    val_main_v53 x5 (ix2 r c) = Ideal.logistic (x5 (ix2 r ⟨6144 + c.val, by omega⟩)) := by
  pointwise [val_main_v53, val_main_v52, val_main_cst_3, val_main_v51, val_main_v50, val_main_cst_2, val_main_v49, val_main_v48, val_main_v9, val_main_v8, Ideal.logistic]

theorem ref_gb (x5 : TProj) (r : Fin 8192) (c : Fin 2048) :
    val_main_v60 x5 (ix2 r c) = Ideal.logistic (x5 (ix2 r ⟨8192 + c.val, by omega⟩)) := by
  pointwise [val_main_v60, val_main_v59, val_main_cst_5, val_main_v58, val_main_v57, val_main_cst_4, val_main_v56, val_main_v55, val_main_v11, val_main_v10, Ideal.logistic]

theorem ref_gc (x5 : TProj) (r : Fin 8192) (c : Fin 2048) :
    val_main_v68 x5 (ix2 r c) = Ideal.logistic (x5 (ix2 r ⟨10240 + c.val, by omega⟩)) := by
  pointwise [val_main_v68, val_main_v67, val_main_cst_7, val_main_v66, val_main_v65, val_main_cst_6, val_main_v64, val_main_v63, val_main_v13, val_main_v12, Ideal.logistic]

theorem ref_fused (x1 x2 : (⟨S8192x768, .bf16⟩ : BufTy).Contents (Elt Ideal)) (x3 x4 : TMem) (x5 : TProj)
    (x6 x7 : (⟨S768x2048, .bf16⟩ : BufTy).Contents (Elt Ideal)) (x8 : (⟨S512x2048, .bf16⟩ : BufTy).Contents (Elt Ideal))
    (r : Fin 8192) (c : Fin 2048) :
    val_main_v70 x1 x2 x3 x4 x5 x6 x7 x8 (ix2 r c) =
      val_main_v53 x5 (ix2 r c) * (∑ k : Fin 768, val_main_v36 x1 x5 (ix2 r k) * x6 (ix2 k c))
      + val_main_v60 x5 (ix2 r c) * (∑ k : Fin 768, val_main_v41 x2 x5 (ix2 r k) * x7 (ix2 k c))
      + val_main_v68 x5 (ix2 r c) * (∑ k : Fin 512, val_main_v45 x3 x4 x5 (ix2 r k) * x8 (ix2 k c)) := by
  pointwise [val_main_v70, val_main_v62, val_main_v54, val_main_v61, val_main_v69, val_main_v38, val_main_v43, val_main_v47, val_main_v37, val_main_v42, val_main_v46]

theorem ref_out (x0 : (⟨S8192x2048, .f32⟩ : BufTy).Contents (Elt Ideal)) (x1 x2 : (⟨S8192x768, .bf16⟩ : BufTy).Contents (Elt Ideal)) (x3 x4 : TMem) (x5 : TProj)
    (x6 x7 : (⟨S768x2048, .bf16⟩ : BufTy).Contents (Elt Ideal)) (x8 : (⟨S512x2048, .bf16⟩ : BufTy).Contents (Elt Ideal))
    (x9 : (⟨S2048x2048, .bf16⟩ : BufTy).Contents (Elt Ideal)) (r : Fin 8192) (c : Fin 2048) :
    val_main_v73 x0 x1 x2 x3 x4 x5 x6 x7 x8 x9 (ix2 r c) =
      x0 (ix2 r c) + ∑ e : Fin 2048, val_main_v70 x1 x2 x3 x4 x5 x6 x7 x8 (ix2 r e) * x9 (ix2 e c) := by
  pointwise [val_main_v73, val_main_v72, val_main_v71]

end Cert.Merge
end
-- ==== Proof.Merge.Value.lean ====
module

public import proofs.«01_k».proof.Proof.Merge.OutRead
public import proofs.«01_k».proof.Proof.Merge.Reads
public import proofs.«01_k».proof.Proof.Merge.RefRead

@[expose] public section
set_option maxRecDepth 16384
noncomputable section
namespace Cert.Merge
open Idealize.ShloMosaic Idealize.ShloMosaic.TcCoe Idealize.SL.Sem

/-- A memory-attention row: the kernel's quotient after the weighted sum is the reference's weighted sum of quotients. -/
theorem att_ref (x3 x4 : TMem) (x5 : TProj) (hk : ∀ b i e, ∃ r : ℝ, x3 (ix3 b i e) = (r : EReal))
    (hq : ∀ (i : Fin 8192) (e : Fin 512), ∃ r : ℝ, x5 (ix2 i ⟨5120 + e.val, by omega⟩) = (r : EReal)) (r : Fin 8192) (e : Fin 512) :
    att (fun e => x5 (ix2 r ⟨5120 + e.val, by omega⟩)) (fun m e => x3 (ix3 ⟨r.val / 4096, by omega⟩ m e)) (fun m e => x4 (ix3 ⟨r.val / 4096, by omega⟩ m e)) e
      = Cert.ReferenceIdeal.Read.val_main_v33 x3 x4 x5 (ix2 r e) := by
  have hr : (⟨r.val / 4096 * 4096 + r.val % 4096, by omega⟩ : Fin 8192) = r := Fin.ext (by show r.val / 4096 * 4096 + r.val % 4096 = r.val; omega)
  have hs : ∀ m : Fin 256, sc (fun e => x5 (ix2 r ⟨5120 + e.val, by omega⟩)) (fun m e => x3 (ix3 ⟨r.val / 4096, by omega⟩ m e)) ⟨e.val / 128, by omega⟩ m
      = Cert.ReferenceIdeal.Read.val_main_v19 x3 x5 (ix4 ⟨r.val / 4096, by omega⟩ ⟨e.val / 128, by omega⟩ ⟨r.val % 4096, by omega⟩ m) := fun m => by
    rw [ref_scores]
    exact Finset.sum_congr rfl fun d _ => by rw [hr]
  have hreal : ∀ m : Fin 256, ∃ x : ℝ, sc (fun e => x5 (ix2 r ⟨5120 + e.val, by omega⟩)) (fun m e => x3 (ix3 ⟨r.val / 4096, by omega⟩ m e)) ⟨e.val / 128, by omega⟩ m = (x : EReal) :=
    fun m => Row.dot_real _ _ (fun d => hq _ _) (fun d => hk _ _ _)
  rw [ref_att]
  unfold att soft
  rw [Row.softmax_row (by norm_num) _ _ hreal]
  refine Finset.sum_congr rfl fun m _ => ?_
  rw [ref_prob]
  simp only [ref_exp, ref_top, Row.ofBits_bot, ← hs]

open Cert.KernelIdeal Cert.KernelIdeal.Gen

variable (m : (ℓ : Loc nD τ sig) → Buf (Elt Ideal) ℓ) (c : Dev nD)

set_option maxHeartbeats 4000000 in
/-- The merge's result array is the reference's. -/
theorem final (hk : ∀ b i e, ∃ r : ℝ, (m ((c : Thread nD τ).loc main_arg3) : TMem) (ix3 b i e) = (r : EReal))
    (hq : ∀ (i : Fin 8192) (e : Fin 512), ∃ r : ℝ, (m ((c : Thread nD τ).loc main_arg5) : TProj) (ix2 i ⟨5120 + e.val, by omega⟩) = (r : EReal)) :
    (dats m 0 c).arrAt 20 cfg0.N
      = Cert.ReferenceIdeal.Read.val_main_v73 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (dats m 0 c).arrAt_eq_of_covers 20 _ (by decide +kernel) fun t hf y => ?_
  blk_simp [idx t]
  rw [after0_20]
  obtain ⟨r, e, rfl⟩ : ∃ (r : Fin 256) (e : Fin 2048), y = ix2 r e := ⟨y 0, y 1, eq_ix2 y⟩
  have ht := tlt t
  have he : (win0_20.blk t).view.emb (ix2 r e) = ix2 (⟨t.val * 256 + r.val, by omega⟩ : Fin 8192) e := by blk_point [idx t]
  rw [he, ref_out]
  rw [out_read _ _ _ _ _ _ _ _ _ _ _ _ _ _ _ _ _ _ _ _
    (fun k => (m ((c : Thread nD τ).loc main_arg5) : TProj) (ix2 (⟨t.val * 256 + r.val, by omega⟩ : Fin 8192) ⟨1280 + k.val, by omega⟩))
    (fun k => (m ((c : Thread nD τ).loc main_arg5) : TProj) (ix2 (⟨t.val * 256 + r.val, by omega⟩ : Fin 8192) ⟨4352 + k.val, by omega⟩)) r e
    (fun i => rd6 m c t r i) (fun i => (rd7 m c t r i).trans (by congr 3; show 1536 + i.val = 1280 + (256 + i.val); omega))
    (fun i => (rd8 m c t r i).trans (by congr 3; show 1792 + i.val = 1280 + (512 + i.val); omega))
    (fun i => rd9 m c t r i) (fun i => (rd10 m c t r i).trans (by congr 3; show 4608 + i.val = 4352 + (256 + i.val); omega))
    (fun i => (rd11 m c t r i).trans (by congr 3; show 4864 + i.val = 4352 + (512 + i.val); omega))]
  congr 1
  · exact rd0 m c t r e
  refine Finset.sum_congr rfl fun j _ => ?_
  have hb : (⟨(t.val * 256 + r.val) / 4096, by omega⟩ : Fin 2) = ⟨t.val / 16, by omega⟩ := Fin.ext (by show (t.val * 256 + r.val) / 4096 = t.val / 16; omega)
  have hatt := att_ref _ (m ((c : Thread nD τ).loc main_arg4) : TMem) _ hk hq ⟨t.val * 256 + r.val, by omega⟩
  rw [ref_fused, ref_ga, ref_gb, ref_gc]
  simp only [ref_za, ref_zb, ref_zc, ← hatt, hb]
  unfold branch
  simp only [rd1 m c t, rd2 m c t, rd3 m c t, rd4 m c t, rd5 m c t, rd12 m c t, rd13 m c t, rd14 m c t, rd15 m c t, rd16 m c t, rd17 m c t, rd18 m c t, rd19 m c t]

end Cert.Merge
end
-- ==== Proof.Merge.Pre.lean ====
module

public import proofs.«01_k».proof.Defs
public import Idealize.ShloMosaic.Lib.Pointwise
public import Idealize.ShloMosaic.Lib.ReduceAll

@[expose] public section
set_option maxRecDepth 16384
noncomputable section
namespace Cert.Merge
open Idealize.ShloMosaic Idealize.SL.Sem Cert.Pre_finite_scores

theorem inf_top : Ideal.ofBits .f32 0x7F800000#32 = (⊤ : EReal) := by
  simp [Ideal.ofBits, Ideal.ieee]

theorem real_of_abs {x : EReal} (h : max x (-x) < ⊤) : ∃ r : ℝ, x = r := by
  induction x with
  | bot => simp at h
  | top => simp at h
  | coe r => exact ⟨r, rfl⟩

theorem real_of_bit {x : EReal} {φ : FTy} (h : BitVec.ofBool (decide (FloatOps.absf (F := Ideal) (φ := φ) x < (⊤ : EReal))) = 1#1) : ∃ r : ℝ, x = r := by
  refine real_of_abs ?_
  by_contra hn
  rw [decide_eq_false (show ¬ (FloatOps.absf (F := Ideal) (φ := φ) x < (⊤ : EReal)) from hn)] at h
  exact absurd h (by decide)

variable [Cert.Pre_finite_scores.Facts]

theorem pre_mk (x0 : FVec Ideal S8192x2048 .f32) (x1 x2 : FVec Ideal S8192x768 .bf16) (x3 x4 : FVec Ideal S2x256x512 .bf16) (x5 : FVec Ideal S8192x12288 .bf16)
    (x6 x7 : FVec Ideal S768x2048 .bf16) (x8 : FVec Ideal S512x2048 .bf16) (x9 : FVec Ideal S2048x2048 .bf16)
    (h : fn x0 x1 x2 x3 x4 x5 x6 x7 x8 x9 = fun _ => 1#1) (b : Fin 2) (i : Fin 256) (e : Fin 512) : ∃ r : ℝ, x3 (ix3 b i e) = r := by
  have h' := congrFun h ix0
  unfold fn at h'
  simp only [andi] at h'
  have hh := (IntOp.andi_eq_one.1 h').1
  have := Host.reduce_andi_all _ _ _ _ _ hh (ix3 b i e)
  pointwise [Host.absf] at this
  rw [inf_top] at this
  exact real_of_bit this

theorem pre_q (x0 : FVec Ideal S8192x2048 .f32) (x1 x2 : FVec Ideal S8192x768 .bf16) (x3 x4 : FVec Ideal S2x256x512 .bf16) (x5 : FVec Ideal S8192x12288 .bf16)
    (x6 x7 : FVec Ideal S768x2048 .bf16) (x8 : FVec Ideal S512x2048 .bf16) (x9 : FVec Ideal S2048x2048 .bf16)
    (h : fn x0 x1 x2 x3 x4 x5 x6 x7 x8 x9 = fun _ => 1#1) (i : Fin 8192) (e : Fin 512) : ∃ r : ℝ, x5 (ix2 i ⟨5120 + e.val, by omega⟩) = r := by
  have h' := congrFun h ix0
  unfold fn at h'
  simp only [andi] at h'
  have hh := (IntOp.andi_eq_one.1 h').2
  have := Host.reduce_andi_all _ _ _ _ _ hh (ix2 i e)
  pointwise [Host.absf] at this
  rw [inf_top] at this
  exact real_of_bit this

end Cert.Merge
end
-- ==== Proof.Merge.PreFacts.lean ====
module

public import proofs.«01_k».proof.Defs

@[expose] public section
noncomputable section
namespace Cert.Merge
open Cert.Pre_finite_scores Idealize.ShloMosaic

/-- The side conditions the precondition's own operations state. -/
theorem preFacts : Cert.Pre_finite_scores.Facts where
  bitsLt_bf16_f32 := by decide
  bcast_S_S2x256x512 := by decide
  reducesTo_S2x256x512_S_d0_1_2 := by decide
  h_S_ := by decide
  slices_S8192x12288_S8192x512_0_5120 := by decide
  bcast_S_S8192x512 := by decide
  reducesTo_S8192x512_S_d0_1 := by decide

end Cert.Merge
end
-- ==== Proof.Merge.Claims.lean ====
module

public import proofs.«01_k».proof.Defs
public import proofs.«01_k».proof.Proof.Merge.Value
public import proofs.«01_k».proof.Proof.Merge.Pre
public import proofs.«01_k».proof.Proof.Merge.PreFacts
public import proofs.«01_k».proof.Proof.Gen.KernelIdeal.Value
public import proofs.«01_k».proof.Proof.Gen.ReferenceIdeal.Run
public import Idealize.ShloMosaic.Lib.Claim
public import Idealize.ShloMosaic.Lib.Quiescent

@[expose] public section
noncomputable section
namespace Cert.Merge
open Idealize.ShloMosaic Idealize.ShloMosaic.TcCoe Idealize.SL.Sem

instance : Cert.Pre_finite_scores.Facts := preFacts

/-- The reference runs and leaves its arguments. -/
theorem ref_frame : Cert.quiescent_ReferenceIdeal := fun m ρ _ =>
  (θ_run (Cert.ReferenceIdeal.defs (F := Ideal)) _ _).mono (fun r h => And.intro (fun c => (h c).2) (sem_eq_zero_of_no_sems rfl r.2))
    (Cert.ReferenceIdeal.Value.run (F := Ideal) m ρ)

/-- The same where the precondition holds. -/
theorem ref_frame_pre : Cert.quiescent_ReferenceIdeal_pre_finite_scores := fun m ρ _ => ref_frame m ρ trivial

/-- The merge against the plain mathematics, on finite scores. -/
theorem algebraic : Cert.algebraic_KernelIdeal_ReferenceIdeal_pre_finite_scores := by
  intro m g m' g' hpre hagree
  refine ⟨fun c => (Cert.KernelIdeal.Gen.dats m 0 c).arrAt 20 Cert.KernelIdeal.cfg0.N, Cert.KernelIdeal.Value.run_blocks m g, ?_⟩
  refine (θ_run _ _ _).mono (fun r h c => ⟨(h c).1.trans ?_, (h c).2⟩) (Cert.ReferenceIdeal.Value.run (F := Ideal) m' g')
  refine Eq.trans ?_ (final m c (fun b i e => pre_mk _ _ _ _ _ _ _ _ _ _ (hpre c) b i e) (fun i e => pre_q _ _ _ _ _ _ _ _ _ _ (hpre c) i e)).symm
  rw [Cert.ReferenceIdeal.Read.val_main_v73_eq]
  obtain ⟨h0, h1, h2, h3, h4, h5, h6, h7, h8, h9⟩ := hagree c
  rw [h0, h1, h2, h3, h4, h5, h6, h7, h8, h9]

end Cert.Merge
end
-- ==== Proof.InProj.ProjIdeal.Shared.lean ====
module

public import proofs.«01_k».proof.Proof.Gen.ProjIdeal.Launch
public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.FrameBody
public import Idealize.ShloMosaic.Lib.Ring
public import Idealize.ShloMosaic.Lib.Tactic

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

/-- The first point of the grid: the tile of weights handed over whole is copied. -/
abbrev start (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- An even tile without normed columns. -/
abbrev evenPlain (i : grid0.Coords) : Prop := k0_cond2 i = 1#1
/-- An even tile all of whose columns are normed. -/
abbrev evenFull (i : grid0.Coords) : Prop := k0_cond3 i = 1#1
/-- An odd tile without normed columns. -/
abbrev oddPlain (i : grid0.Coords) : Prop := k0_cond4 i = 1#1
/-- An odd tile whose first half is normed. -/
abbrev oddHalf (i : grid0.Coords) : Prop := k0_cond5 i = 1#1

theorem start_iff : ∀ t : Fin cfg0.N, start (grid0.coords t) ↔ t.val = 0 := (by decide +kernel : ∀ t : Fin grid0.N, start (grid0.coords t) ↔ t.val = 0)
theorem evenPlain_iff : ∀ t : Fin cfg0.N, evenPlain (grid0.coords t) ↔ (t.val / 8 = 4 ∨ t.val / 8 = 6 ∨ t.val / 8 = 8 ∨ t.val / 8 = 10) :=
  (by decide +kernel : ∀ t : Fin grid0.N, evenPlain (grid0.coords t) ↔ (t.val / 8 = 4 ∨ t.val / 8 = 6 ∨ t.val / 8 = 8 ∨ t.val / 8 = 10))
theorem evenFull_iff : ∀ t : Fin cfg0.N, evenFull (grid0.coords t) ↔ (t.val / 8 = 0 ∨ t.val / 8 = 2) :=
  (by decide +kernel : ∀ t : Fin grid0.N, evenFull (grid0.coords t) ↔ (t.val / 8 = 0 ∨ t.val / 8 = 2))
theorem oddPlain_iff : ∀ t : Fin cfg0.N, oddPlain (grid0.coords t) ↔ (t.val / 8 = 1 ∨ t.val / 8 = 7 ∨ t.val / 8 = 9 ∨ t.val / 8 = 11) :=
  (by decide +kernel : ∀ t : Fin grid0.N, oddPlain (grid0.coords t) ↔ (t.val / 8 = 1 ∨ t.val / 8 = 7 ∨ t.val / 8 = 9 ∨ t.val / 8 = 11))
theorem oddHalf_iff : ∀ t : Fin cfg0.N, oddHalf (grid0.coords t) ↔ (t.val / 8 = 3 ∨ t.val / 8 = 5) :=
  (by decide +kernel : ∀ t : Fin grid0.N, oddHalf (grid0.coords t) ↔ (t.val / 8 = 3 ∨ t.val / 8 = 5))

theorem lt96 (t : Fin cfg0.N) : t.val < 96 := Nat.lt_of_lt_of_eq t.isLt N_0

/-- The windows' staging buffers at a point, and that each is a whole buffer. -/
abbrev st0 (t : Fin cfg0.N) : Memref sig .tc .vmem S1024x2048 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S16384x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1024x2048 .bf16 := win0_2.stage (cfg0.slots t 2)
abbrev hst2 (t : Fin cfg0.N) : (st2 t).IsWhole := hstage0_2 ((cfg0.slots t 2).cast nbuf0_2)
abbrev st3 (t : Fin cfg0.N) : Memref sig .tc .vmem S1x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S4x256x256 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S1024x1024 .bf16 := win0_5.stage (cfg0.slots t 5)
abbrev hst5 (t : Fin cfg0.N) : (st5 t).IsWhole := hstage0_5 ((cfg0.slots t 5).cast nbuf0_5)
/-- The two weight tiles and the accumulator. -/
abbrev wA : Memref sig .tc .vmem S1024x2048 .bf16 := Memref.whole cc0_scratch0
abbrev wB : Memref sig .tc .vmem S1024x2048 .bf16 := Memref.whole cc0_scratch1
abbrev accM : Memref sig .tc .vmem S2x1024x1024 .f32 := Memref.whole cc0_scratch2

/-- What the launch hands over beside the windows: the scratch at anything and the generator's register. -/
theorem rest_eq (c : Dev nD) :
    (Pipeline.ΦA spec0 c : sProp 𝕄)
      = iprop(iprop((∃ d, owns (c : Thread nD τ) wA fullShare d) ∗ (∃ d, owns (c : Thread nD τ) wB fullShare d) ∗ (∃ d, owns (c : Thread nD τ) accM fullShare d)) ∗ (∃ r, prngReg c r)) := by
  unfold Pipeline.ΦA; rw [scopedRest0_eq]; simp only [wA, wB, accM, owns_whole]; try rfl

end Cert.InProj.ProjIdeal

end
-- ==== Proof.InProj.ProjIdeal.RunFirst.lean ====
module

public import proofs.«01_k».proof.Proof.InProj.ProjIdeal.Shared

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

-- the run's proof term is large: the definition's epilogue walks it past the default budget
set_option maxHeartbeats 4000000 in set_option sl_exec.squeezeSlice true in
/-- The body at the first point: the first tile is copied, an even tile all normed follows: the pieces its stores leave in the output and in the tile being filled and in the tile copied, with the
    body's triple at them. -/
noncomputable def runFirst (c : Dev nD) (i : grid0.Coords) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : start i) (h1 : ¬evenPlain i) (h2 : evenFull i) (h3 : ¬oddPlain i) (h4 : ¬oddHalf i)
    (x0 : Vec F S1024x2048 .bf16) (x1 : Vec F S16384x128 .f32) (x2 : Vec F S1024x2048 .bf16) (x3 : Vec F S1x1024 .f32) (x4 : Vec F S4x256x256 .bf16) (xn : Vec F S1024x2048 .bf16) :
    Σ' (LO : List (View.Piece (Elt F) S1024x1024 .bf16)) (LC : List (View.Piece (Elt F) S1024x2048 .bf16)), { LN : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xn ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LC) ∗ (arg9.view.loc (c : Thread nD τ) ↦[arg9.view.set]{fullShare} arg9.view.writes (Elt F) (harg9.unread xn) LN) ∗ (∃ d, owns (c : Thread nD τ) arg10 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_in_proj_eq_skeleton]; unfold cc0_in_proj_skel
    simp only [k0_part10_eq_skeleton]
    unfold k0_part10_skel; simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%darg8, %garg8, -, Harg8⟩, ⟨%garg9, %hgarg9, Harg9⟩, ⟨%d10, %g10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hgarg9
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [Harg8]; · iexists _; iexact Harg8
    isplitl [Harg9]; · iexact Harg9
    iexists _, _; isplitr; swap; · iexact H10
    ipureintro; rfl

end Cert.InProj.ProjIdeal

end
-- ==== Proof.InProj.ProjIdeal.RunEvenFull.lean ====
module

public import proofs.«01_k».proof.Proof.InProj.ProjIdeal.RunFirst

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

-- the run's proof term is large: the definition's epilogue walks it past the default budget
set_option maxHeartbeats 4000000 in set_option sl_exec.squeezeSlice true in
/-- The body at an even tile all of whose columns are normed, after the first point: the pieces its stores leave in the output and in the tile being filled, with the
    body's triple at them. -/
noncomputable def runEvenFull (c : Dev nD) (i : grid0.Coords) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start i) (h1 : ¬evenPlain i) (h2 : evenFull i) (h3 : ¬oddPlain i) (h4 : ¬oddHalf i)
    (x0 : Vec F S1024x2048 .bf16) (x1 : Vec F S16384x128 .f32) (x2 : Vec F S1024x2048 .bf16) (x3 : Vec F S1x1024 .f32) (x4 : Vec F S4x256x256 .bf16) (xn : Vec F S1024x2048 .bf16) (xc : Vec F S1024x2048 .bf16) :
    Σ' (LO : List (View.Piece (Elt F) S1024x1024 .bf16)), { LN : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xc ∗ owns (c : Thread nD τ) arg9 fullShare xn ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ owns (c : Thread nD τ) arg8 fullShare xc ∗ (arg9.view.loc (c : Thread nD τ) ↦[arg9.view.set]{fullShare} arg9.view.writes (Elt F) (harg9.unread xn) LN) ∗ (∃ d, owns (c : Thread nD τ) arg10 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, fun E K => ?run⟩
  case run =>
    simp only [cc0_in_proj_eq_skeleton]; unfold cc0_in_proj_skel
    simp only [k0_part10_eq_skeleton]
    unfold k0_part10_skel; simp only [k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%garg8, %hgarg8, Harg8⟩, ⟨%garg9, %hgarg9, Harg9⟩, ⟨%d10, %g10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hgarg8; obtain rfl := harg9.eq_unread hgarg9
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [Harg8]
    · iexists _; isplitr; · ipureintro; exact harg8.read_unread _
      iexact Harg8
    isplitl [Harg9]; · iexact Harg9
    iexists _, _; isplitr; swap; · iexact H10
    ipureintro; rfl

end Cert.InProj.ProjIdeal

end
-- ==== Proof.InProj.ProjIdeal.RunEvenPlain.lean ====
module

public import proofs.«01_k».proof.Proof.InProj.ProjIdeal.RunEvenFull

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

-- the run's proof term is large: the definition's epilogue walks it past the default budget
set_option maxHeartbeats 4000000 in set_option sl_exec.squeezeSlice true in
/-- The body at an even tile without normed columns: the pieces its stores leave in the output and in the tile being filled, with the
    body's triple at them. -/
noncomputable def runEvenPlain (c : Dev nD) (i : grid0.Coords) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start i) (h1 : evenPlain i) (h2 : ¬evenFull i) (h3 : ¬oddPlain i) (h4 : ¬oddHalf i)
    (x0 : Vec F S1024x2048 .bf16) (x1 : Vec F S16384x128 .f32) (x2 : Vec F S1024x2048 .bf16) (x3 : Vec F S1x1024 .f32) (x4 : Vec F S4x256x256 .bf16) (xn : Vec F S1024x2048 .bf16) (xc : Vec F S1024x2048 .bf16) :
    Σ' (LO : List (View.Piece (Elt F) S1024x1024 .bf16)), { LN : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xc ∗ owns (c : Thread nD τ) arg9 fullShare xn ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ owns (c : Thread nD τ) arg8 fullShare xc ∗ (arg9.view.loc (c : Thread nD τ) ↦[arg9.view.set]{fullShare} arg9.view.writes (Elt F) (harg9.unread xn) LN) ∗ (∃ d, owns (c : Thread nD τ) arg10 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, fun E K => ?run⟩
  case run =>
    simp only [cc0_in_proj_eq_skeleton]; unfold cc0_in_proj_skel
    simp only [k0_part1_eq_skeleton, k0_part2_eq_skeleton, k0_part3_eq_skeleton, k0_part4_eq_skeleton]
    skip
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%garg8, %hgarg8, Harg8⟩, ⟨%garg9, %hgarg9, Harg9⟩, ⟨%d10, %g10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hgarg8; obtain rfl := harg9.eq_unread hgarg9
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [Harg8]
    · iexists _; isplitr; · ipureintro; exact harg8.read_unread _
      iexact Harg8
    isplitl [Harg9]; · iexact Harg9
    iexists _, _; isplitr; swap; · iexact H10
    ipureintro; rfl

end Cert.InProj.ProjIdeal

end
-- ==== Proof.InProj.ProjIdeal.RunOddPlain.lean ====
module

public import proofs.«01_k».proof.Proof.InProj.ProjIdeal.RunEvenPlain

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

-- the run's proof term is large: the definition's epilogue walks it past the default budget
set_option maxHeartbeats 4000000 in set_option sl_exec.squeezeSlice true in
/-- The body at an odd tile without normed columns: the pieces its stores leave in the output and in the tile being filled, with the
    body's triple at them. -/
noncomputable def runOddPlain (c : Dev nD) (i : grid0.Coords) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start i) (h1 : ¬evenPlain i) (h2 : ¬evenFull i) (h3 : oddPlain i) (h4 : ¬oddHalf i)
    (x0 : Vec F S1024x2048 .bf16) (x1 : Vec F S16384x128 .f32) (x2 : Vec F S1024x2048 .bf16) (x3 : Vec F S1x1024 .f32) (x4 : Vec F S4x256x256 .bf16) (xn : Vec F S1024x2048 .bf16) (xc : Vec F S1024x2048 .bf16) :
    Σ' (LO : List (View.Piece (Elt F) S1024x1024 .bf16)), { LN : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xn ∗ owns (c : Thread nD τ) arg9 fullShare xc ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (arg8.view.loc (c : Thread nD τ) ↦[arg8.view.set]{fullShare} arg8.view.writes (Elt F) (harg8.unread xn) LN) ∗ owns (c : Thread nD τ) arg9 fullShare xc ∗ (∃ d, owns (c : Thread nD τ) arg10 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, fun E K => ?run⟩
  case run =>
    simp only [cc0_in_proj_eq_skeleton]; unfold cc0_in_proj_skel
    simp only [k0_part11_eq_skeleton, k0_part12_eq_skeleton, k0_part13_eq_skeleton, k0_part14_eq_skeleton]
    skip
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%garg8, %hgarg8, Harg8⟩, ⟨%garg9, %hgarg9, Harg9⟩, ⟨%d10, %g10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hgarg8; obtain rfl := harg9.eq_unread hgarg9
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [Harg8]; · iexact Harg8
    isplitl [Harg9]
    · iexists _; isplitr; · ipureintro; exact harg9.read_unread _
      iexact Harg9
    iexists _, _; isplitr; swap; · iexact H10
    ipureintro; rfl

end Cert.InProj.ProjIdeal

end
-- ==== Proof.InProj.ProjIdeal.RunOddHalf.lean ====
module

public import proofs.«01_k».proof.Proof.InProj.ProjIdeal.RunOddPlain

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

-- the run's proof term is large: the definition's epilogue walks it past the default budget
set_option maxHeartbeats 4000000 in set_option sl_exec.squeezeSlice true in
/-- The body at an odd tile whose first half is normed: the pieces its stores leave in the output and in the tile being filled, with the
    body's triple at them. -/
noncomputable def runOddHalf (c : Dev nD) (i : grid0.Coords) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start i) (h1 : ¬evenPlain i) (h2 : ¬evenFull i) (h3 : ¬oddPlain i) (h4 : oddHalf i)
    (x0 : Vec F S1024x2048 .bf16) (x1 : Vec F S16384x128 .f32) (x2 : Vec F S1024x2048 .bf16) (x3 : Vec F S1x1024 .f32) (x4 : Vec F S4x256x256 .bf16) (xn : Vec F S1024x2048 .bf16) (xc : Vec F S1024x2048 .bf16) :
    Σ' (LO : List (View.Piece (Elt F) S1024x1024 .bf16)), { LN : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xn ∗ owns (c : Thread nD τ) arg9 fullShare xc ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f LO) ∗ (arg8.view.loc (c : Thread nD τ) ↦[arg8.view.set]{fullShare} arg8.view.writes (Elt F) (harg8.unread xn) LN) ∗ owns (c : Thread nD τ) arg9 fullShare xc ∗ (∃ d, owns (c : Thread nD τ) arg10 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10) K } := by
  refine ⟨?_, ?_, fun E K => ?run⟩
  case run =>
    simp only [cc0_in_proj_eq_skeleton]; unfold cc0_in_proj_skel
    simp only [k0_part15_eq_skeleton, k0_part16_eq_skeleton, k0_part17_eq_skeleton, k0_part18_eq_skeleton, k0_part19_eq_skeleton]
    skip
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%garg8, %hgarg8, Harg8⟩, ⟨%garg9, %hgarg9, Harg9⟩, ⟨%d10, %g10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hgarg8; obtain rfl := harg9.eq_unread hgarg9
    sl_exec (disch := first | sl_exact h0 | sl_exact h1 | sl_exact h2 | sl_exact h3 | sl_exact h4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [Harg8]; · iexact Harg8
    isplitl [Harg9]
    · iexists _; isplitr; · ipureintro; exact harg9.read_unread _
      iexact Harg9
    iexists _, _; isplitr; swap; · iexact H10
    ipureintro; rfl

end Cert.InProj.ProjIdeal

end
-- ==== Proof.InProj.ProjIdeal.Frame.lean ====
module

public import proofs.«01_k».proof.Proof.InProj.ProjIdeal.RunOddHalf

@[expose] public section

set_option maxRecDepth 16384

noncomputable section

namespace Cert.InProj.ProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's window: nothing here reads what the kernel leaves in it. -/
def forgets0 : Fin 6 → Bool := fun w => w.val == 5

/-- The proof data of the pipeline: every input's buffer keeps its block, nothing is named of the output, and between points the scratch is at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (st5 t) fullShare d))

set_option maxHeartbeats 1000000 in
/-- The body at the first point: the first tile is copied, an even tile all normed follows. -/
theorem body_First (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, rest_eq]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨HA, ⟨%xB, HB⟩, HC⟩, Hg⟩, Ho, ⟨%d0, H0⟩, ⟨%d1, H1⟩, ⟨%d2, H2⟩, ⟨%d3, H3⟩, ⟨%d4, H4⟩, ⟨%d5, H5⟩⟩
  iapply ((runFirst c (grid0.coords t) _ _ _ _ _ _ _ _ _ _ _ _ _ _ _ _ _ _  ((start_iff t).mpr (by omega)) (fun h => absurd ((evenPlain_iff t).mp h) (by omega)) ((evenFull_iff t).mpr (by omega)) (fun h => absurd ((oddPlain_iff t).mp h) (by omega)) (fun h => absurd ((oddHalf_iff t).mp h) (by omega)) (iblk m c 0 t) (iblk m c 1 t) (iblk m c 2 t) (iblk m c 3 t) (iblk m c 4 t) xB).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, ⟨%eA, HA⟩, HB, HC⟩
  isplitl [HA HB HC Hg]
  · isplitl [HA HB HC]
    · isplitl [HA]
      · unfold owns; iexists _, _; isplitr; swap; · iexact HA
        ipureintro; rfl
      isplitl [HB]
      · unfold owns; iexists _, _; isplitr; swap; · iexact HB
        ipureintro; rfl
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

set_option maxHeartbeats 1000000 in
/-- The body at an even tile all of whose columns are normed, after the first point. -/
theorem body_EvenFull (c : Dev nD) (t : Fin cfg0.N) (hz : t.val ≠ 0) (h : t.val / 8 = 0 ∨ t.val / 8 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, rest_eq]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, HA⟩, ⟨%xB, HB⟩, HC⟩, Hg⟩, Ho, ⟨%d0, H0⟩, ⟨%d1, H1⟩, ⟨%d2, H2⟩, ⟨%d3, H3⟩, ⟨%d4, H4⟩, ⟨%d5, H5⟩⟩
  iapply ((runEvenFull c (grid0.coords t) _ _ _ _ _ _ _ _ _ _ _ _ _ _ _ _ _ _  (fun h => absurd ((start_iff t).mp h) (by omega)) (fun h => absurd ((evenPlain_iff t).mp h) (by omega)) ((evenFull_iff t).mpr (by omega)) (fun h => absurd ((oddPlain_iff t).mp h) (by omega)) (fun h => absurd ((oddHalf_iff t).mp h) (by omega)) (iblk m c 0 t) (iblk m c 1 t) (iblk m c 2 t) (iblk m c 3 t) (iblk m c 4 t) xB xA).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA]
      · iexists _; iexact HA
      isplitl [HB]
      · unfold owns; iexists _, _; isplitr; swap; · iexact HB
        ipureintro; rfl
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

set_option maxHeartbeats 1000000 in
/-- The body at an even tile without normed columns. -/
theorem body_EvenPlain (c : Dev nD) (t : Fin cfg0.N) (h : t.val / 8 = 4 ∨ t.val / 8 = 6 ∨ t.val / 8 = 8 ∨ t.val / 8 = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, rest_eq]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, HA⟩, ⟨%xB, HB⟩, HC⟩, Hg⟩, Ho, ⟨%d0, H0⟩, ⟨%d1, H1⟩, ⟨%d2, H2⟩, ⟨%d3, H3⟩, ⟨%d4, H4⟩, ⟨%d5, H5⟩⟩
  iapply ((runEvenPlain c (grid0.coords t) _ _ _ _ _ _ _ _ _ _ _ _ _ _ _ _ _ _  (fun h => absurd ((start_iff t).mp h) (by omega)) ((evenPlain_iff t).mpr (by omega)) (fun h => absurd ((evenFull_iff t).mp h) (by omega)) (fun h => absurd ((oddPlain_iff t).mp h) (by omega)) (fun h => absurd ((oddHalf_iff t).mp h) (by omega)) (iblk m c 0 t) (iblk m c 1 t) (iblk m c 2 t) (iblk m c 3 t) (iblk m c 4 t) xB xA).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA]
      · iexists _; iexact HA
      isplitl [HB]
      · unfold owns; iexists _, _; isplitr; swap; · iexact HB
        ipureintro; rfl
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

set_option maxHeartbeats 1000000 in
/-- The body at an odd tile without normed columns. -/
theorem body_OddPlain (c : Dev nD) (t : Fin cfg0.N) (h : t.val / 8 = 1 ∨ t.val / 8 = 7 ∨ t.val / 8 = 9 ∨ t.val / 8 = 11) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, rest_eq]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, HA⟩, ⟨%xB, HB⟩, HC⟩, Hg⟩, Ho, ⟨%d0, H0⟩, ⟨%d1, H1⟩, ⟨%d2, H2⟩, ⟨%d3, H3⟩, ⟨%d4, H4⟩, ⟨%d5, H5⟩⟩
  iapply ((runOddPlain c (grid0.coords t) _ _ _ _ _ _ _ _ _ _ _ _ _ _ _ _ _ _  (fun h => absurd ((start_iff t).mp h) (by omega)) (fun h => absurd ((evenPlain_iff t).mp h) (by omega)) (fun h => absurd ((evenFull_iff t).mp h) (by omega)) ((oddPlain_iff t).mpr (by omega)) (fun h => absurd ((oddHalf_iff t).mp h) (by omega)) (iblk m c 0 t) (iblk m c 1 t) (iblk m c 2 t) (iblk m c 3 t) (iblk m c 4 t) xA xB).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA]
      · unfold owns; iexists _, _; isplitr; swap; · iexact HA
        ipureintro; rfl
      isplitl [HB]
      · iexists _; iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

set_option maxHeartbeats 1000000 in
/-- The body at an odd tile whose first half is normed. -/
theorem body_OddHalf (c : Dev nD) (t : Fin cfg0.N) (h : t.val / 8 = 3 ∨ t.val / 8 = 5) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, rest_eq]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, HA⟩, ⟨%xB, HB⟩, HC⟩, Hg⟩, Ho, ⟨%d0, H0⟩, ⟨%d1, H1⟩, ⟨%d2, H2⟩, ⟨%d3, H3⟩, ⟨%d4, H4⟩, ⟨%d5, H5⟩⟩
  iapply ((runOddHalf c (grid0.coords t) _ _ _ _ _ _ _ _ _ _ _ _ _ _ _ _ _ _  (fun h => absurd ((start_iff t).mp h) (by omega)) (fun h => absurd ((evenPlain_iff t).mp h) (by omega)) (fun h => absurd ((evenFull_iff t).mp h) (by omega)) (fun h => absurd ((oddPlain_iff t).mp h) (by omega)) ((oddHalf_iff t).mpr (by omega)) (iblk m c 0 t) (iblk m c 1 t) (iblk m c 2 t) (iblk m c 3 t) (iblk m c 4 t) xA xB).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA]
      · unfold owns; iexists _, _; isplitr; swap; · iexact HA
        ipureintro; rfl
      isplitl [HB]
      · iexists _; iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _, _; isplitr; swap; · iexact H5
  ipureintro; rfl

/-- The body at any point. -/
theorem sound_body (c : Dev nD) (t : Fin cfg0.N) :
    bodyPre m c t ⊢ wp frame (wpE (defs₀ (F := F)) Variants.none c none) Set.univ (bodyAt0 t) (fun _ => bodyPost m c t) := by
  have ht := lt96 t
  rcases (by omega : t.val = 0 ∨ (t.val ≠ 0 ∧ (t.val / 8 = 0 ∨ t.val / 8 = 2)) ∨ (t.val / 8 = 4 ∨ t.val / 8 = 6 ∨ t.val / 8 = 8 ∨ t.val / 8 = 10)
    ∨ (t.val / 8 = 1 ∨ t.val / 8 = 7 ∨ t.val / 8 = 9 ∨ t.val / 8 = 11) ∨ (t.val / 8 = 3 ∨ t.val / 8 = 5)) with h | h | h | h | h
  · exact body_First m c t h
  · exact body_EvenFull m c t h.1 h.2
  · exact body_EvenPlain m c t h
  · exact body_OddPlain m c t h
  · exact body_OddHalf m c t h

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, row]
  exact triple_restated (sound_body m c t) rfl .rfl fun _ => .rfl

set_option backward.isDefEq.respectTransparency.types false in
/-- Every execution ends with the arrays of the inputs as they were and every semaphore counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 3 rfl).trans ((A_eq m c 3).trans (V_main_arg2 m c))⟩, h.2⟩) (run_main m ρ)

end Cert.InProj.ProjIdeal

end
-- ==== Proof.InProj.ProjIdeal.Reads.lean ====
module

public import proofs.«01_k».proof.Proof.InProj.ProjIdeal.RunOddHalf
public import Idealize.ShloMosaic.Lib.Pointwise
public import Idealize.ShloMosaic.Lib.Pipeline.ValueKit

@[expose] public section
set_option maxRecDepth 16384
noncomputable section
namespace Cert.InProj.ProjIdeal
open Idealize.ShloMosaic Idealize.SL.Sem Cert.ProjIdeal Cert.ProjIdeal.Gen

/-- A tile of weights, one column of the projection per row, and a block of packed weight rows. -/
abbrev Tile := Vec Ideal S1024x2048 .bf16
abbrev Rows := Vec Ideal S16384x128 .f32

/-- The weight tile a block of packed rows holds: sixteen packed rows make one row of the tile. -/
def gath (x1 : Rows) (p : Fin 1024) (q : Fin 2048) : EReal := x1 (ix2 ⟨p.val * 16 + q.val / 128, by omega⟩ ⟨q.val % 128, by omega⟩)

/-- One entry of the product of a row block with a tile. -/
def acc (x0 xc : Tile) (r cc : Fin 1024) : EReal := ∑ k : Fin 2048, x0 (ix2 r k) * xc (ix2 cc k)

/-- A stored slice of the tile being filled holds the packed rows it was read from. -/
theorem slice_val {arg3 : Memref sig .tc .vmem S16384x128 .f32} (harg3 : arg3.IsWhole) (x1 : Rows) (a k : ℕ) (offL offS : Fin 2 → ℕ)
    (hL : offL = ![a * 2048 + k, 0]) (hS : offS = ![a * 128, 128 * k]) (hk : k < 16)
    (inbL : ∀ b, S128x128.size b = 0 ∨ offL b + (![16, 1] : Fin 2 → ℕ) b * (S128x128.size b - 1) < S16384x128.size b)
    (inbS : ∀ b, offS b + S128x128.size b ≤ S1024x2048.size b) (pay : S128x128.Idx → EReal)
    (hp : pay = arg3.view.readAt (Elt Ideal) (⟨offL, S128x128.size, ![16, 1], inbL⟩ : LoadRect S16384x128) (harg3.unread x1))
    (x : (Rect.unit (s := S1024x2048) offS S128x128.size inbS).shape.Idx) :
    pay x = gath x1 ((Rect.unit (s := S1024x2048) offS S128x128.size inbS).emb x 0) ((Rect.unit (s := S1024x2048) offS S128x128.size inbS).emb x 1) := by
  subst hL hS hp
  rw [View.readAt_apply, harg3.read_unread]
  have h0 : (x 0).val < 128 := (x 0).isLt
  have h1 : (x 1).val < 128 := (x 1).isLt
  unfold gath
  congr 1
  funext b
  fin_cases b
  · apply Fin.ext
    show a * 2048 + k + 16 * (x 0).val = (a * 128 + 1 * (x 0).val) * 16 + (128 * k + 1 * (x 1).val) / 128
    omega
  · apply Fin.ext
    show 0 + 1 * (x 1).val = (128 * k + 1 * (x 1).val) % 128
    omega

/-- The slice of columns `128 k` on holds a place of its rows, -/
theorem mem_slice (a k : ℕ) (offS : Fin 2 → ℕ) (hS : offS = ![a * 128, 128 * k]) (inbS : ∀ b, offS b + S128x128.size b ≤ S1024x2048.size b)
    (y : S1024x2048.Idx) (h0 : a * 128 ≤ (y 0).val) (h1 : (y 0).val < a * 128 + 128) (h : (y 1).val / 128 = k) :
    y ∈ (Rect.unit (s := S1024x2048) offS S128x128.size inbS).set := by
  subst hS
  rw [Rect.mem_set_unit]
  intro b
  fin_cases b
  · exact ⟨h0, h1⟩
  · show 128 * k ≤ (y 1).val ∧ (y 1).val < 128 * k + 128
    omega

/-- and no place of other rows. -/
theorem not_mem_slice (a k : ℕ) (offS : Fin 2 → ℕ) (hS : offS = ![a * 128, 128 * k]) (inbS : ∀ b, offS b + S128x128.size b ≤ S1024x2048.size b)
    (y : S1024x2048.Idx) (h : (y 0).val < a * 128 ∨ a * 128 + 128 ≤ (y 0).val) :
    y ∉ (Rect.unit (s := S1024x2048) offS S128x128.size inbS).set := by
  subst hS
  rw [Rect.mem_set_unit]
  intro hall
  have := hall 0
  change a * 128 ≤ (y 0).val ∧ (y 0).val < a * 128 + 128 at this
  omega

/-- A load of a box of the first plane of a buffer, after a store of that plane, reads that store's payload. -/
theorem plane_load {sS sz : Fin 3 → ℕ} {d : Fin 2 → ℕ} (v : View sig .tc .vmem (⟨3, sS⟩ : Shape) .f32) (pay : (⟨3, sz⟩ : Shape).Idx → EReal)
    (r : Rect ⟨2, d⟩) (inb : ∀ b, (![0, 0, 0] : Fin 3 → ℕ) b + sz b ≤ sS b) (h0 : sz 0 = 1) (hs : ∀ i : Fin 2, sz i.succ = d i)
    (hst : ∀ b, (Rect.unit (s := ⟨3, sS⟩) ![0, 0, 0] sz inb).stride b = 1) (hR : r.shape.numel = (r.consLift sz h0 hs).shape.numel)
    (x : r.shape.Idx) (y : (⟨3, sz⟩ : Shape).Idx) (hy0 : (y 0).val = 0) (hy : ∀ i : Fin 2, (y i.succ).val = r.off i + r.stride i * (x i).val) :
    v.readCov (Val := Elt Ideal) [⟨Rect.unit (s := ⟨3, sS⟩) ![0, 0, 0] sz inb, pay⟩]
        ((Rect.unit (s := ⟨3, sS⟩) ![0, 0, 0] sz inb).withinL (r.consLift sz h0 hs).toLoadRect hst) (Shape.reshapeEquiv hR x)
      = pay y := by
  have hn := r.numel_consLift sz h0 hs
  obtain ⟨z, hz⟩ : ∃ z : (r.consLift sz h0 hs).shape.Idx, z = Shape.reshapeEquiv hR x := ⟨_, rfl⟩
  have hb : Shape.reshapeEquiv hn z = x := by
    rw [hz]
    exact (Shape.reshapeEquiv hR).symm_apply_apply _
  have z0 : (z 0).val < 1 := (z 0).isLt
  have z1 := r.reshapeEquiv_consLift_succ sz h0 hs z
  rw [hb] at z1
  rw [← hz]
  unfold View.readCov
  show v.read (Elt Ideal) (v.writes (Elt Ideal) v.junk [⟨Rect.unit (s := ⟨3, sS⟩) ![0, 0, 0] sz inb, pay⟩]) (((Rect.unit (s := ⟨3, sS⟩) ![0, 0, 0] sz inb).withinL (r.consLift sz h0 hs).toLoadRect hst).idx z) = pay y
  refine View.read_writes_cons_hit_of_coords _ _ _ _ _ _ _ fun b => ?_
  have hi := Rect.idx_withinL (Rect.unit (s := ⟨3, sS⟩) ![0, 0, 0] sz inb) (r.consLift sz h0 hs).toLoadRect hst z
  rw [hi]
  refine Fin.cases ?_ (fun i => ?_) b
  · rw [hy0]
    show 0 + 1 * (0 + 1 * (z 0).val) = 0 + 1 * 0
    omega
  · have e : ∀ i : Fin 2, (![0, 0, 0] : Fin 3 → ℕ) i.succ = 0 := fun i => by fin_cases i <;> rfl
    show (![0, 0, 0] : Fin 3 → ℕ) i.succ + 1 * (r.off i + r.stride i * (z i.succ).val) = (![0, 0, 0] : Fin 3 → ℕ) i.succ + 1 * (y i.succ).val
    rw [hy, z1]

end Cert.InProj.ProjIdeal
end
-- ==== Proof.InProj.ProjIdeal.Pay.lean ====
module

public import proofs.«01_k».proof.Proof.InProj.ProjIdeal.Reads

@[expose] public section
set_option maxRecDepth 16384
noncomputable section
namespace Cert.InProj.ProjIdeal
open Idealize.ShloMosaic Idealize.ShloMosaic.TcCoe Idealize.SL.Sem Cert.ProjIdeal Cert.ProjIdeal.Gen

theorem lo1 : ∀ (t : Fin cfg0.N) (k : Fin 16), k0_off1 (grid0.coords t) (BitVec.ofNat 32 k.val) = ![t.val % 8 * 2048 + k.val, 0] :=
  (by decide +kernel : ∀ (t : Fin grid0.N) (k : Fin 16), k0_off1 (grid0.coords t) (BitVec.ofNat 32 k.val) = ![t.val % 8 * 2048 + k.val, 0])
theorem so2 : ∀ t : Fin cfg0.N, k0_off2 (grid0.coords t) = ![t.val % 8 * 128, 128 * 0] :=
  (by decide +kernel : ∀ t : Fin grid0.N, k0_off2 (grid0.coords t) = ![t.val % 8 * 128, 128 * 0])
theorem so3 : ∀ t : Fin cfg0.N, k0_off3 (grid0.coords t) = ![t.val % 8 * 128, 128 * 1] :=
  (by decide +kernel : ∀ t : Fin grid0.N, k0_off3 (grid0.coords t) = ![t.val % 8 * 128, 128 * 1])
theorem so4 : ∀ t : Fin cfg0.N, k0_off4 (grid0.coords t) = ![t.val % 8 * 128, 128 * 2] :=
  (by decide +kernel : ∀ t : Fin grid0.N, k0_off4 (grid0.coords t) = ![t.val % 8 * 128, 128 * 2])
theorem so5 : ∀ t : Fin cfg0.N, k0_off5 (grid0.coords t) = ![t.val % 8 * 128, 128 * 3] :=
  (by decide +kernel : ∀ t : Fin grid0.N, k0_off5 (grid0.coords t) = ![t.val % 8 * 128, 128 * 3])
theorem so6 : ∀ t : Fin cfg0.N, k0_off6 (grid0.coords t) = ![t.val % 8 * 128, 128 * 4] :=
  (by decide +kernel : ∀ t : Fin grid0.N, k0_off6 (grid0.coords t) = ![t.val % 8 * 128, 128 * 4])
theorem so7 : ∀ t : Fin cfg0.N, k0_off7 (grid0.coords t) = ![t.val % 8 * 128, 128 * 5] :=
  (by decide +kernel : ∀ t : Fin grid0.N, k0_off7 (grid0.coords t) = ![t.val % 8 * 128, 128 * 5])
theorem so8 : ∀ t : Fin cfg0.N, k0_off8 (grid0.coords t) = ![t.val % 8 * 128, 128 * 6] :=
  (by decide +kernel : ∀ t : Fin grid0.N, k0_off8 (grid0.coords t) = ![t.val % 8 * 128, 128 * 6])
theorem so9 : ∀ t : Fin cfg0.N, k0_off9 (grid0.coords t) = ![t.val % 8 * 128, 128 * 7] :=
  (by decide +kernel : ∀ t : Fin grid0.N, k0_off9 (grid0.coords t) = ![t.val % 8 * 128, 128 * 7])
theorem so10 : ∀ t : Fin cfg0.N, k0_off10 (grid0.coords t) = ![t.val % 8 * 128, 128 * 8] :=
  (by decide +kernel : ∀ t : Fin grid0.N, k0_off10 (grid0.coords t) = ![t.val % 8 * 128, 128 * 8])
theorem so11 : ∀ t : Fin cfg0.N, k0_off11 (grid0.coords t) = ![t.val % 8 * 128, 128 * 9] :=
  (by decide +kernel : ∀ t : Fin grid0.N, k0_off11 (grid0.coords t) = ![t.val % 8 * 128, 128 * 9])
theorem so12 : ∀ t : Fin cfg0.N, k0_off12 (grid0.coords t) = ![t.val % 8 * 128, 128 * 10] :=
  (by decide +kernel : ∀ t : Fin grid0.N, k0_off12 (grid0.coords t) = ![t.val % 8 * 128, 128 * 10])
theorem so13 : ∀ t : Fin cfg0.N, k0_off13 (grid0.coords t) = ![t.val % 8 * 128, 128 * 11] :=
  (by decide +kernel : ∀ t : Fin grid0.N, k0_off13 (grid0.coords t) = ![t.val % 8 * 128, 128 * 11])
theorem so14 : ∀ t : Fin cfg0.N, k0_off14 (grid0.coords t) = ![t.val % 8 * 128, 128 * 12] :=
  (by decide +kernel : ∀ t : Fin grid0.N, k0_off14 (grid0.coords t) = ![t.val % 8 * 128, 128 * 12])
theorem so15 : ∀ t : Fin cfg0.N, k0_off15 (grid0.coords t) = ![t.val % 8 * 128, 128 * 13] :=
  (by decide +kernel : ∀ t : Fin grid0.N, k0_off15 (grid0.coords t) = ![t.val % 8 * 128, 128 * 13])
theorem so16 : ∀ t : Fin cfg0.N, k0_off16 (grid0.coords t) = ![t.val % 8 * 128, 128 * 14] :=
  (by decide +kernel : ∀ t : Fin grid0.N, k0_off16 (grid0.coords t) = ![t.val % 8 * 128, 128 * 14])
theorem so17 : ∀ t : Fin cfg0.N, k0_off17 (grid0.coords t) = ![t.val % 8 * 128, 128 * 15] :=
  (by decide +kernel : ∀ t : Fin grid0.N, k0_off17 (grid0.coords t) = ![t.val % 8 * 128, 128 * 15])
theorem lo18 : ∀ (t : Fin cfg0.N) (k : Fin 16), k0_off18 (grid0.coords t) (BitVec.ofNat 32 k.val) = ![t.val % 8 * 2048 + k.val, 0] :=
  (by decide +kernel : ∀ (t : Fin grid0.N) (k : Fin 16), k0_off18 (grid0.coords t) (BitVec.ofNat 32 k.val) = ![t.val % 8 * 2048 + k.val, 0])
theorem so19 : ∀ t : Fin cfg0.N, k0_off19 (grid0.coords t) = ![t.val % 8 * 128, 128 * 0] :=
  (by decide +kernel : ∀ t : Fin grid0.N, k0_off19 (grid0.coords t) = ![t.val % 8 * 128, 128 * 0])
theorem so20 : ∀ t : Fin cfg0.N, k0_off20 (grid0.coords t) = ![t.val % 8 * 128, 128 * 1] :=
  (by decide +kernel : ∀ t : Fin grid0.N, k0_off20 (grid0.coords t) = ![t.val % 8 * 128, 128 * 1])
theorem so21 : ∀ t : Fin cfg0.N, k0_off21 (grid0.coords t) = ![t.val % 8 * 128, 128 * 2] :=
  (by decide +kernel : ∀ t : Fin grid0.N, k0_off21 (grid0.coords t) = ![t.val % 8 * 128, 128 * 2])
theorem so22 : ∀ t : Fin cfg0.N, k0_off22 (grid0.coords t) = ![t.val % 8 * 128, 128 * 3] :=
  (by decide +kernel : ∀ t : Fin grid0.N, k0_off22 (grid0.coords t) = ![t.val % 8 * 128, 128 * 3])
theorem so23 : ∀ t : Fin cfg0.N, k0_off23 (grid0.coords t) = ![t.val % 8 * 128, 128 * 4] :=
  (by decide +kernel : ∀ t : Fin grid0.N, k0_off23 (grid0.coords t) = ![t.val % 8 * 128, 128 * 4])
theorem so24 : ∀ t : Fin cfg0.N, k0_off24 (grid0.coords t) = ![t.val % 8 * 128, 128 * 5] :=
  (by decide +kernel : ∀ t : Fin grid0.N, k0_off24 (grid0.coords t) = ![t.val % 8 * 128, 128 * 5])
theorem so25 : ∀ t : Fin cfg0.N, k0_off25 (grid0.coords t) = ![t.val % 8 * 128, 128 * 6] :=
  (by decide +kernel : ∀ t : Fin grid0.N, k0_off25 (grid0.coords t) = ![t.val % 8 * 128, 128 * 6])
theorem so26 : ∀ t : Fin cfg0.N, k0_off26 (grid0.coords t) = ![t.val % 8 * 128, 128 * 7] :=
  (by decide +kernel : ∀ t : Fin grid0.N, k0_off26 (grid0.coords t) = ![t.val % 8 * 128, 128 * 7])
theorem so27 : ∀ t : Fin cfg0.N, k0_off27 (grid0.coords t) = ![t.val % 8 * 128, 128 * 8] :=
  (by decide +kernel : ∀ t : Fin grid0.N, k0_off27 (grid0.coords t) = ![t.val % 8 * 128, 128 * 8])
theorem so28 : ∀ t : Fin cfg0.N, k0_off28 (grid0.coords t) = ![t.val % 8 * 128, 128 * 9] :=
  (by decide +kernel : ∀ t : Fin grid0.N, k0_off28 (grid0.coords t) = ![t.val % 8 * 128, 128 * 9])
theorem so29 : ∀ t : Fin cfg0.N, k0_off29 (grid0.coords t) = ![t.val % 8 * 128, 128 * 10] :=
  (by decide +kernel : ∀ t : Fin grid0.N, k0_off29 (grid0.coords t) = ![t.val % 8 * 128, 128 * 10])
theorem so30 : ∀ t : Fin cfg0.N, k0_off30 (grid0.coords t) = ![t.val % 8 * 128, 128 * 11] :=
  (by decide +kernel : ∀ t : Fin grid0.N, k0_off30 (grid0.coords t) = ![t.val % 8 * 128, 128 * 11])
theorem so31 : ∀ t : Fin cfg0.N, k0_off31 (grid0.coords t) = ![t.val % 8 * 128, 128 * 12] :=
  (by decide +kernel : ∀ t : Fin grid0.N, k0_off31 (grid0.coords t) = ![t.val % 8 * 128, 128 * 12])
theorem so32 : ∀ t : Fin cfg0.N, k0_off32 (grid0.coords t) = ![t.val % 8 * 128, 128 * 13] :=
  (by decide +kernel : ∀ t : Fin grid0.N, k0_off32 (grid0.coords t) = ![t.val % 8 * 128, 128 * 13])
theorem so33 : ∀ t : Fin cfg0.N, k0_off33 (grid0.coords t) = ![t.val % 8 * 128, 128 * 14] :=
  (by decide +kernel : ∀ t : Fin grid0.N, k0_off33 (grid0.coords t) = ![t.val % 8 * 128, 128 * 14])
theorem so34 : ∀ t : Fin cfg0.N, k0_off34 (grid0.coords t) = ![t.val % 8 * 128, 128 * 15] :=
  (by decide +kernel : ∀ t : Fin grid0.N, k0_off34 (grid0.coords t) = ![t.val % 8 * 128, 128 * 15])
theorem lo35 : ∀ (t : Fin cfg0.N) (k : Fin 16), k0_off35 (grid0.coords t) (BitVec.ofNat 32 k.val) = ![t.val % 8 * 2048 + k.val, 0] :=
  (by decide +kernel : ∀ (t : Fin grid0.N) (k : Fin 16), k0_off35 (grid0.coords t) (BitVec.ofNat 32 k.val) = ![t.val % 8 * 2048 + k.val, 0])
theorem so36 : ∀ t : Fin cfg0.N, k0_off36 (grid0.coords t) = ![t.val % 8 * 128, 128 * 0] :=
  (by decide +kernel : ∀ t : Fin grid0.N, k0_off36 (grid0.coords t) = ![t.val % 8 * 128, 128 * 0])
theorem so37 : ∀ t : Fin cfg0.N, k0_off37 (grid0.coords t) = ![t.val % 8 * 128, 128 * 1] :=
  (by decide +kernel : ∀ t : Fin grid0.N, k0_off37 (grid0.coords t) = ![t.val % 8 * 128, 128 * 1])
theorem so38 : ∀ t : Fin cfg0.N, k0_off38 (grid0.coords t) = ![t.val % 8 * 128, 128 * 2] :=
  (by decide +kernel : ∀ t : Fin grid0.N, k0_off38 (grid0.coords t) = ![t.val % 8 * 128, 128 * 2])
theorem so39 : ∀ t : Fin cfg0.N, k0_off39 (grid0.coords t) = ![t.val % 8 * 128, 128 * 3] :=
  (by decide +kernel : ∀ t : Fin grid0.N, k0_off39 (grid0.coords t) = ![t.val % 8 * 128, 128 * 3])
theorem so40 : ∀ t : Fin cfg0.N, k0_off40 (grid0.coords t) = ![t.val % 8 * 128, 128 * 4] :=
  (by decide +kernel : ∀ t : Fin grid0.N, k0_off40 (grid0.coords t) = ![t.val % 8 * 128, 128 * 4])
theorem so41 : ∀ t : Fin cfg0.N, k0_off41 (grid0.coords t) = ![t.val % 8 * 128, 128 * 5] :=
  (by decide +kernel : ∀ t : Fin grid0.N, k0_off41 (grid0.coords t) = ![t.val % 8 * 128, 128 * 5])
theorem so42 : ∀ t : Fin cfg0.N, k0_off42 (grid0.coords t) = ![t.val % 8 * 128, 128 * 6] :=
  (by decide +kernel : ∀ t : Fin grid0.N, k0_off42 (grid0.coords t) = ![t.val % 8 * 128, 128 * 6])
theorem so43 : ∀ t : Fin cfg0.N, k0_off43 (grid0.coords t) = ![t.val % 8 * 128, 128 * 7] :=
  (by decide +kernel : ∀ t : Fin grid0.N, k0_off43 (grid0.coords t) = ![t.val % 8 * 128, 128 * 7])
theorem so44 : ∀ t : Fin cfg0.N, k0_off44 (grid0.coords t) = ![t.val % 8 * 128, 128 * 8] :=
  (by decide +kernel : ∀ t : Fin grid0.N, k0_off44 (grid0.coords t) = ![t.val % 8 * 128, 128 * 8])
theorem so45 : ∀ t : Fin cfg0.N, k0_off45 (grid0.coords t) = ![t.val % 8 * 128, 128 * 9] :=
  (by decide +kernel : ∀ t : Fin grid0.N, k0_off45 (grid0.coords t) = ![t.val % 8 * 128, 128 * 9])
theorem so46 : ∀ t : Fin cfg0.N, k0_off46 (grid0.coords t) = ![t.val % 8 * 128, 128 * 10] :=
  (by decide +kernel : ∀ t : Fin grid0.N, k0_off46 (grid0.coords t) = ![t.val % 8 * 128, 128 * 10])
theorem so47 : ∀ t : Fin cfg0.N, k0_off47 (grid0.coords t) = ![t.val % 8 * 128, 128 * 11] :=
  (by decide +kernel : ∀ t : Fin grid0.N, k0_off47 (grid0.coords t) = ![t.val % 8 * 128, 128 * 11])
theorem so48 : ∀ t : Fin cfg0.N, k0_off48 (grid0.coords t) = ![t.val % 8 * 128, 128 * 12] :=
  (by decide +kernel : ∀ t : Fin grid0.N, k0_off48 (grid0.coords t) = ![t.val % 8 * 128, 128 * 12])
theorem so49 : ∀ t : Fin cfg0.N, k0_off49 (grid0.coords t) = ![t.val % 8 * 128, 128 * 13] :=
  (by decide +kernel : ∀ t : Fin grid0.N, k0_off49 (grid0.coords t) = ![t.val % 8 * 128, 128 * 13])
theorem so50 : ∀ t : Fin cfg0.N, k0_off50 (grid0.coords t) = ![t.val % 8 * 128, 128 * 14] :=
  (by decide +kernel : ∀ t : Fin grid0.N, k0_off50 (grid0.coords t) = ![t.val % 8 * 128, 128 * 14])
theorem so51 : ∀ t : Fin cfg0.N, k0_off51 (grid0.coords t) = ![t.val % 8 * 128, 128 * 15] :=
  (by decide +kernel : ∀ t : Fin grid0.N, k0_off51 (grid0.coords t) = ![t.val % 8 * 128, 128 * 15])
theorem lo52 : ∀ (t : Fin cfg0.N) (k : Fin 16), k0_off52 (grid0.coords t) (BitVec.ofNat 32 k.val) = ![t.val % 8 * 2048 + k.val, 0] :=
  (by decide +kernel : ∀ (t : Fin grid0.N) (k : Fin 16), k0_off52 (grid0.coords t) (BitVec.ofNat 32 k.val) = ![t.val % 8 * 2048 + k.val, 0])
theorem so53 : ∀ t : Fin cfg0.N, k0_off53 (grid0.coords t) = ![t.val % 8 * 128, 128 * 0] :=
  (by decide +kernel : ∀ t : Fin grid0.N, k0_off53 (grid0.coords t) = ![t.val % 8 * 128, 128 * 0])
theorem so54 : ∀ t : Fin cfg0.N, k0_off54 (grid0.coords t) = ![t.val % 8 * 128, 128 * 1] :=
  (by decide +kernel : ∀ t : Fin grid0.N, k0_off54 (grid0.coords t) = ![t.val % 8 * 128, 128 * 1])
theorem so55 : ∀ t : Fin cfg0.N, k0_off55 (grid0.coords t) = ![t.val % 8 * 128, 128 * 2] :=
  (by decide +kernel : ∀ t : Fin grid0.N, k0_off55 (grid0.coords t) = ![t.val % 8 * 128, 128 * 2])
theorem so56 : ∀ t : Fin cfg0.N, k0_off56 (grid0.coords t) = ![t.val % 8 * 128, 128 * 3] :=
  (by decide +kernel : ∀ t : Fin grid0.N, k0_off56 (grid0.coords t) = ![t.val % 8 * 128, 128 * 3])
theorem so57 : ∀ t : Fin cfg0.N, k0_off57 (grid0.coords t) = ![t.val % 8 * 128, 128 * 4] :=
  (by decide +kernel : ∀ t : Fin grid0.N, k0_off57 (grid0.coords t) = ![t.val % 8 * 128, 128 * 4])
theorem so58 : ∀ t : Fin cfg0.N, k0_off58 (grid0.coords t) = ![t.val % 8 * 128, 128 * 5] :=
  (by decide +kernel : ∀ t : Fin grid0.N, k0_off58 (grid0.coords t) = ![t.val % 8 * 128, 128 * 5])
theorem so59 : ∀ t : Fin cfg0.N, k0_off59 (grid0.coords t) = ![t.val % 8 * 128, 128 * 6] :=
  (by decide +kernel : ∀ t : Fin grid0.N, k0_off59 (grid0.coords t) = ![t.val % 8 * 128, 128 * 6])
theorem so60 : ∀ t : Fin cfg0.N, k0_off60 (grid0.coords t) = ![t.val % 8 * 128, 128 * 7] :=
  (by decide +kernel : ∀ t : Fin grid0.N, k0_off60 (grid0.coords t) = ![t.val % 8 * 128, 128 * 7])
theorem so61 : ∀ t : Fin cfg0.N, k0_off61 (grid0.coords t) = ![t.val % 8 * 128, 128 * 8] :=
  (by decide +kernel : ∀ t : Fin grid0.N, k0_off61 (grid0.coords t) = ![t.val % 8 * 128, 128 * 8])
theorem so62 : ∀ t : Fin cfg0.N, k0_off62 (grid0.coords t) = ![t.val % 8 * 128, 128 * 9] :=
  (by decide +kernel : ∀ t : Fin grid0.N, k0_off62 (grid0.coords t) = ![t.val % 8 * 128, 128 * 9])
theorem so63 : ∀ t : Fin cfg0.N, k0_off63 (grid0.coords t) = ![t.val % 8 * 128, 128 * 10] :=
  (by decide +kernel : ∀ t : Fin grid0.N, k0_off63 (grid0.coords t) = ![t.val % 8 * 128, 128 * 10])
theorem so64 : ∀ t : Fin cfg0.N, k0_off64 (grid0.coords t) = ![t.val % 8 * 128, 128 * 11] :=
  (by decide +kernel : ∀ t : Fin grid0.N, k0_off64 (grid0.coords t) = ![t.val % 8 * 128, 128 * 11])
theorem so65 : ∀ t : Fin cfg0.N, k0_off65 (grid0.coords t) = ![t.val % 8 * 128, 128 * 12] :=
  (by decide +kernel : ∀ t : Fin grid0.N, k0_off65 (grid0.coords t) = ![t.val % 8 * 128, 128 * 12])
theorem so66 : ∀ t : Fin cfg0.N, k0_off66 (grid0.coords t) = ![t.val % 8 * 128, 128 * 13] :=
  (by decide +kernel : ∀ t : Fin grid0.N, k0_off66 (grid0.coords t) = ![t.val % 8 * 128, 128 * 13])
theorem so67 : ∀ t : Fin cfg0.N, k0_off67 (grid0.coords t) = ![t.val % 8 * 128, 128 * 14] :=
  (by decide +kernel : ∀ t : Fin grid0.N, k0_off67 (grid0.coords t) = ![t.val % 8 * 128, 128 * 14])
theorem so68 : ∀ t : Fin cfg0.N, k0_off68 (grid0.coords t) = ![t.val % 8 * 128, 128 * 15] :=
  (by decide +kernel : ∀ t : Fin grid0.N, k0_off68 (grid0.coords t) = ![t.val % 8 * 128, 128 * 15])

theorem p4 (v : Vec Ideal S128x128 .f32) : k0_pay4 (F := Ideal) v = v := by
  unfold k0_pay4; simp only [shapeCast_id]; rfl
theorem p5 (v : Vec Ideal S128x128 .f32) : k0_pay5 (F := Ideal) v = v := by
  unfold k0_pay5; simp only [shapeCast_id]; rfl
theorem p6 (v : Vec Ideal S128x128 .f32) : k0_pay6 (F := Ideal) v = v := by
  unfold k0_pay6; simp only [shapeCast_id]; rfl
theorem p7 (v : Vec Ideal S128x128 .f32) : k0_pay7 (F := Ideal) v = v := by
  unfold k0_pay7; simp only [shapeCast_id]; rfl
theorem p8 (v : Vec Ideal S128x128 .f32) : k0_pay8 (F := Ideal) v = v := by
  unfold k0_pay8; simp only [shapeCast_id]; rfl
theorem p9 (v : Vec Ideal S128x128 .f32) : k0_pay9 (F := Ideal) v = v := by
  unfold k0_pay9; simp only [shapeCast_id]; rfl
theorem p10 (v : Vec Ideal S128x128 .f32) : k0_pay10 (F := Ideal) v = v := by
  unfold k0_pay10; simp only [shapeCast_id]; rfl
theorem p11 (v : Vec Ideal S128x128 .f32) : k0_pay11 (F := Ideal) v = v := by
  unfold k0_pay11; simp only [shapeCast_id]; rfl
theorem p12 (v : Vec Ideal S128x128 .bf16) : k0_pay12 (F := Ideal) v = v := by
  unfold k0_pay12; simp only [shapeCast_id]
theorem p13 (v : Vec Ideal S128x128 .f32) : k0_pay13 (F := Ideal) v = v := by
  unfold k0_pay13; simp only [shapeCast_id]; rfl
theorem p14 (v : Vec Ideal S128x128 .f32) : k0_pay14 (F := Ideal) v = v := by
  unfold k0_pay14; simp only [shapeCast_id]; rfl
theorem p15 (v : Vec Ideal S128x128 .f32) : k0_pay15 (F := Ideal) v = v := by
  unfold k0_pay15; simp only [shapeCast_id]; rfl
theorem p16 (v : Vec Ideal S128x128 .f32) : k0_pay16 (F := Ideal) v = v := by
  unfold k0_pay16; simp only [shapeCast_id]; rfl
theorem p17 (v : Vec Ideal S128x128 .f32) : k0_pay17 (F := Ideal) v = v := by
  unfold k0_pay17; simp only [shapeCast_id]; rfl
theorem p18 (v : Vec Ideal S128x128 .f32) : k0_pay18 (F := Ideal) v = v := by
  unfold k0_pay18; simp only [shapeCast_id]; rfl
theorem p19 (v : Vec Ideal S128x128 .f32) : k0_pay19 (F := Ideal) v = v := by
  unfold k0_pay19; simp only [shapeCast_id]; rfl
theorem p20 (v : Vec Ideal S128x128 .f32) : k0_pay20 (F := Ideal) v = v := by
  unfold k0_pay20; simp only [shapeCast_id]; rfl
theorem mm3 (a b : Tile) (r cc : Fin 1024) : k0_pay3 (F := Ideal) a b (ix3 0 r cc) = acc a b r cc := by
  unfold acc
  pointwise [k0_pay3]
theorem p23 (v : Vec Ideal S128x128 .f32) : k0_pay23 (F := Ideal) v = v := by
  unfold k0_pay23; simp only [shapeCast_id]; rfl
theorem p24 (v : Vec Ideal S128x128 .f32) : k0_pay24 (F := Ideal) v = v := by
  unfold k0_pay24; simp only [shapeCast_id]; rfl
theorem p25 (v : Vec Ideal S128x128 .f32) : k0_pay25 (F := Ideal) v = v := by
  unfold k0_pay25; simp only [shapeCast_id]; rfl
theorem p26 (v : Vec Ideal S128x128 .f32) : k0_pay26 (F := Ideal) v = v := by
  unfold k0_pay26; simp only [shapeCast_id]; rfl
theorem p27 (v : Vec Ideal S128x128 .f32) : k0_pay27 (F := Ideal) v = v := by
  unfold k0_pay27; simp only [shapeCast_id]; rfl
theorem p28 (v : Vec Ideal S128x128 .f32) : k0_pay28 (F := Ideal) v = v := by
  unfold k0_pay28; simp only [shapeCast_id]; rfl
theorem p29 (v : Vec Ideal S128x128 .f32) : k0_pay29 (F := Ideal) v = v := by
  unfold k0_pay29; simp only [shapeCast_id]; rfl
theorem p30 (v : Vec Ideal S128x128 .f32) : k0_pay30 (F := Ideal) v = v := by
  unfold k0_pay30; simp only [shapeCast_id]; rfl
theorem p31 (v : Vec Ideal S128x128 .bf16) : k0_pay31 (F := Ideal) v = v := by
  unfold k0_pay31; simp only [shapeCast_id]
theorem p32 (v : Vec Ideal S128x128 .f32) : k0_pay32 (F := Ideal) v = v := by
  unfold k0_pay32; simp only [shapeCast_id]; rfl
theorem p33 (v : Vec Ideal S128x128 .f32) : k0_pay33 (F := Ideal) v = v := by
  unfold k0_pay33; simp only [shapeCast_id]; rfl
theorem p34 (v : Vec Ideal S128x128 .f32) : k0_pay34 (F := Ideal) v = v := by
  unfold k0_pay34; simp only [shapeCast_id]; rfl
theorem p35 (v : Vec Ideal S128x128 .f32) : k0_pay35 (F := Ideal) v = v := by
  unfold k0_pay35; simp only [shapeCast_id]; rfl
theorem p36 (v : Vec Ideal S128x128 .f32) : k0_pay36 (F := Ideal) v = v := by
  unfold k0_pay36; simp only [shapeCast_id]; rfl
theorem p37 (v : Vec Ideal S128x128 .f32) : k0_pay37 (F := Ideal) v = v := by
  unfold k0_pay37; simp only [shapeCast_id]; rfl
theorem p38 (v : Vec Ideal S128x128 .f32) : k0_pay38 (F := Ideal) v = v := by
  unfold k0_pay38; simp only [shapeCast_id]; rfl
theorem p39 (v : Vec Ideal S128x128 .f32) : k0_pay39 (F := Ideal) v = v := by
  unfold k0_pay39; simp only [shapeCast_id]; rfl
theorem mm22 (a b : Tile) (r cc : Fin 1024) : k0_pay22 (F := Ideal) a b (ix3 0 r cc) = acc a b r cc := by
  unfold acc
  pointwise [k0_pay22]
theorem p46 (v : Vec Ideal S128x128 .f32) : k0_pay46 (F := Ideal) v = v := by
  unfold k0_pay46; simp only [shapeCast_id]; rfl
theorem p47 (v : Vec Ideal S128x128 .f32) : k0_pay47 (F := Ideal) v = v := by
  unfold k0_pay47; simp only [shapeCast_id]; rfl
theorem p48 (v : Vec Ideal S128x128 .f32) : k0_pay48 (F := Ideal) v = v := by
  unfold k0_pay48; simp only [shapeCast_id]; rfl
theorem p49 (v : Vec Ideal S128x128 .f32) : k0_pay49 (F := Ideal) v = v := by
  unfold k0_pay49; simp only [shapeCast_id]; rfl
theorem p50 (v : Vec Ideal S128x128 .f32) : k0_pay50 (F := Ideal) v = v := by
  unfold k0_pay50; simp only [shapeCast_id]; rfl
theorem p51 (v : Vec Ideal S128x128 .f32) : k0_pay51 (F := Ideal) v = v := by
  unfold k0_pay51; simp only [shapeCast_id]; rfl
theorem p52 (v : Vec Ideal S128x128 .f32) : k0_pay52 (F := Ideal) v = v := by
  unfold k0_pay52; simp only [shapeCast_id]; rfl
theorem p53 (v : Vec Ideal S128x128 .f32) : k0_pay53 (F := Ideal) v = v := by
  unfold k0_pay53; simp only [shapeCast_id]; rfl
theorem p54 (v : Vec Ideal S128x128 .bf16) : k0_pay54 (F := Ideal) v = v := by
  unfold k0_pay54; simp only [shapeCast_id]
theorem p55 (v : Vec Ideal S128x128 .f32) : k0_pay55 (F := Ideal) v = v := by
  unfold k0_pay55; simp only [shapeCast_id]; rfl
theorem p56 (v : Vec Ideal S128x128 .f32) : k0_pay56 (F := Ideal) v = v := by
  unfold k0_pay56; simp only [shapeCast_id]; rfl
theorem p57 (v : Vec Ideal S128x128 .f32) : k0_pay57 (F := Ideal) v = v := by
  unfold k0_pay57; simp only [shapeCast_id]; rfl
theorem p58 (v : Vec Ideal S128x128 .f32) : k0_pay58 (F := Ideal) v = v := by
  unfold k0_pay58; simp only [shapeCast_id]; rfl
theorem p59 (v : Vec Ideal S128x128 .f32) : k0_pay59 (F := Ideal) v = v := by
  unfold k0_pay59; simp only [shapeCast_id]; rfl
theorem p60 (v : Vec Ideal S128x128 .f32) : k0_pay60 (F := Ideal) v = v := by
  unfold k0_pay60; simp only [shapeCast_id]; rfl
theorem p61 (v : Vec Ideal S128x128 .f32) : k0_pay61 (F := Ideal) v = v := by
  unfold k0_pay61; simp only [shapeCast_id]; rfl
theorem p62 (v : Vec Ideal S128x128 .f32) : k0_pay62 (F := Ideal) v = v := by
  unfold k0_pay62; simp only [shapeCast_id]; rfl
theorem mm45 (a b : Tile) (r cc : Fin 1024) : k0_pay45 (F := Ideal) a b (ix3 0 r cc) = acc a b r cc := by
  unfold acc
  pointwise [k0_pay45]
theorem p65 (v : Vec Ideal S128x128 .f32) : k0_pay65 (F := Ideal) v = v := by
  unfold k0_pay65; simp only [shapeCast_id]; rfl
theorem p66 (v : Vec Ideal S128x128 .f32) : k0_pay66 (F := Ideal) v = v := by
  unfold k0_pay66; simp only [shapeCast_id]; rfl
theorem p67 (v : Vec Ideal S128x128 .f32) : k0_pay67 (F := Ideal) v = v := by
  unfold k0_pay67; simp only [shapeCast_id]; rfl
theorem p68 (v : Vec Ideal S128x128 .f32) : k0_pay68 (F := Ideal) v = v := by
  unfold k0_pay68; simp only [shapeCast_id]; rfl
theorem p69 (v : Vec Ideal S128x128 .f32) : k0_pay69 (F := Ideal) v = v := by
  unfold k0_pay69; simp only [shapeCast_id]; rfl
theorem p70 (v : Vec Ideal S128x128 .f32) : k0_pay70 (F := Ideal) v = v := by
  unfold k0_pay70; simp only [shapeCast_id]; rfl
theorem p71 (v : Vec Ideal S128x128 .f32) : k0_pay71 (F := Ideal) v = v := by
  unfold k0_pay71; simp only [shapeCast_id]; rfl
theorem p72 (v : Vec Ideal S128x128 .f32) : k0_pay72 (F := Ideal) v = v := by
  unfold k0_pay72; simp only [shapeCast_id]; rfl
theorem p73 (v : Vec Ideal S128x128 .bf16) : k0_pay73 (F := Ideal) v = v := by
  unfold k0_pay73; simp only [shapeCast_id]
theorem p74 (v : Vec Ideal S128x128 .f32) : k0_pay74 (F := Ideal) v = v := by
  unfold k0_pay74; simp only [shapeCast_id]; rfl
theorem p75 (v : Vec Ideal S128x128 .f32) : k0_pay75 (F := Ideal) v = v := by
  unfold k0_pay75; simp only [shapeCast_id]; rfl
theorem p76 (v : Vec Ideal S128x128 .f32) : k0_pay76 (F := Ideal) v = v := by
  unfold k0_pay76; simp only [shapeCast_id]; rfl
theorem p77 (v : Vec Ideal S128x128 .f32) : k0_pay77 (F := Ideal) v = v := by
  unfold k0_pay77; simp only [shapeCast_id]; rfl
theorem p78 (v : Vec Ideal S128x128 .f32) : k0_pay78 (F := Ideal) v = v := by
  unfold k0_pay78; simp only [shapeCast_id]; rfl
theorem p79 (v : Vec Ideal S128x128 .f32) : k0_pay79 (F := Ideal) v = v := by
  unfold k0_pay79; simp only [shapeCast_id]; rfl
theorem p80 (v : Vec Ideal S128x128 .f32) : k0_pay80 (F := Ideal) v = v := by
  unfold k0_pay80; simp only [shapeCast_id]; rfl
theorem p81 (v : Vec Ideal S128x128 .f32) : k0_pay81 (F := Ideal) v = v := by
  unfold k0_pay81; simp only [shapeCast_id]; rfl
theorem mm64 (a b : Tile) (r cc : Fin 1024) : k0_pay64 (F := Ideal) a b (ix3 0 r cc) = acc a b r cc := by
  unfold acc
  pointwise [k0_pay64]

/-- A normed entry: the group's mean square by a matrix, its inverse root, the column's scale. -/
def nrm (a : Fin 256 → EReal) (g : Fin 256 → EReal) (x s : EReal) : EReal :=
  x * Ideal.rsqrt (∑ l, a l * a l * g l + Ideal.ofBits .f32 0x358637BD#32) * s

theorem n42 (a : Vec Ideal S1024x256 .f32) (g : Vec Ideal S1x256x256 .bf16) (s : Vec Ideal S1x256 .f32) (r : Fin 1024) (cc : Fin 256) :
    k0_pay42 a g s (ix2 r cc) = nrm (fun l => a (ix2 r l)) (fun l => g (ix3 0 l cc)) (a (ix2 r cc)) (s (ix2 0 cc)) := by
  unfold nrm
  pointwise [k0_pay42]
theorem n43 (a : Vec Ideal S1024x256 .f32) (g : Vec Ideal S1x256x256 .bf16) (s : Vec Ideal S1x256 .f32) (r : Fin 1024) (cc : Fin 256) :
    k0_pay43 a g s (ix2 r cc) = nrm (fun l => a (ix2 r l)) (fun l => g (ix3 0 l cc)) (a (ix2 r cc)) (s (ix2 0 cc)) := by
  unfold nrm
  pointwise [k0_pay43]
theorem n44 (a : Vec Ideal S1024x256 .f32) (g : Vec Ideal S1x256x256 .bf16) (s : Vec Ideal S1x256 .f32) (r : Fin 1024) (cc : Fin 256) :
    k0_pay44 a g s (ix2 r cc) = nrm (fun l => a (ix2 r l)) (fun l => g (ix3 0 l cc)) (a (ix2 r cc)) (s (ix2 0 cc)) := by
  unfold nrm
  pointwise [k0_pay44]
theorem n84 (a : Vec Ideal S1024x256 .f32) (g : Vec Ideal S1x256x256 .bf16) (s : Vec Ideal S1x256 .f32) (r : Fin 1024) (cc : Fin 256) :
    k0_pay84 a g s (ix2 r cc) = nrm (fun l => a (ix2 r l)) (fun l => g (ix3 0 l cc)) (a (ix2 r cc)) (s (ix2 0 cc)) := by
  unfold nrm
  pointwise [k0_pay84]
theorem n41 (a : Vec Ideal S1024x256 .f32) (g : Vec Ideal S1x256x256 .bf16) (s : Vec Ideal S1x256 .f32) (r : Fin 1024) (cc : Fin 256) :
    k0_pay41 a (k0_pay40 a) g s (ix2 r cc) = nrm (fun l => a (ix2 r l)) (fun l => g (ix3 0 l cc)) (a (ix2 r cc)) (s (ix2 0 cc)) := by
  unfold nrm
  pointwise [k0_pay41, k0_pay40]
theorem n83 (a : Vec Ideal S1024x256 .f32) (g : Vec Ideal S1x256x256 .bf16) (s : Vec Ideal S1x256 .f32) (r : Fin 1024) (cc : Fin 256) :
    k0_pay83 a (k0_pay82 a) g s (ix2 r cc) = nrm (fun l => a (ix2 r l)) (fun l => g (ix3 0 l cc)) (a (ix2 r cc)) (s (ix2 0 cc)) := by
  unfold nrm
  pointwise [k0_pay83, k0_pay82]

end Cert.InProj.ProjIdeal
end
-- ==== Proof.InProj.ProjIdeal.Fill.lean ====
module

public import proofs.«01_k».proof.Proof.InProj.ProjIdeal.Pay

@[expose] public section
set_option maxRecDepth 16384
noncomputable section
namespace Cert.InProj.ProjIdeal
open Idealize.ShloMosaic Idealize.ShloMosaic.TcCoe Idealize.SL.Sem Cert.ProjIdeal Cert.ProjIdeal.Gen

/-- The tile being filled after one more row block: that block's rows from the packed rows, the others kept. -/
def fill (a : ℕ) (x1 : Rows) (xn : Tile) : Tile := fun y =>
  if a * 128 ≤ (y 0).val ∧ (y 0).val < a * 128 + 128 then gath x1 (y 0) (y 1) else xn y

theorem inbL_of {a k : ℕ} {o : Fin 2 → ℕ} (h : o = ![a * 2048 + k, 0]) (ha : a < 8) (hk : k < 16) :
    ∀ b, S128x128.size b = 0 ∨ o b + (![16, 1] : Fin 2 → ℕ) b * (S128x128.size b - 1) < S16384x128.size b := by
  subst h
  intro b
  right
  fin_cases b
  · show a * 2048 + k + 16 * (128 - 1) < 16384
    omega
  · show 0 + 1 * (128 - 1) < 128
    omega

theorem inbS_of {a k : ℕ} {o : Fin 2 → ℕ} (h : o = ![a * 128, 128 * k]) (ha : a < 8) (hk : k < 16) :
    ∀ b, o b + S128x128.size b ≤ S1024x2048.size b := by
  subst h
  intro b
  fin_cases b
  · show a * 128 + 128 ≤ 1024
    omega
  · show 128 * k + 128 ≤ 2048
    omega

set_option maxHeartbeats 4000000 in
theorem fill_First (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : start (grid0.coords t)) (h1 : ¬evenPlain (grid0.coords t)) (h2 : evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn : Tile) :
    arg9.view.read (Elt Ideal) (arg9.view.writes (Elt Ideal) (harg9.unread xn) (runFirst (F := Ideal) c (grid0.coords t) arg2 harg2 arg3 harg3 arg4 harg4 arg5 harg5 arg6 harg6 arg7 harg7 arg8 harg8 arg9 harg9 arg10 harg10 h0 h1 h2 h3 h4 x0 x1 x2 x3 x4 xn).2.2.1) = fill (t.val % 8) x1 xn := by
  funext y
  unfold fill
  split_ifs with h
  · refine View.read_writes_apply_of_pieces arg9.view (harg9.unread xn) (fun y => gath x1 (y 0) (y 1)) (runFirst (F := Ideal) c (grid0.coords t) arg2 harg2 arg3 harg3 arg4 harg4 arg5 harg5 arg6 harg6 arg7 harg7 arg8 harg8 arg9 harg9 arg10 harg10 h0 h1 h2 h3 h4 x0 x1 x2 x3 x4 xn).2.2.1 ?_ y ?_
    · refine List.forall_mem_cons.mpr ⟨fun x => slice_val harg3 x1 (t.val % 8) 15 _ _ (lo18 t 15) (so34 t) (by omega) (inbL_of (lo18 t 15) (Nat.mod_lt _ (by omega)) (by omega)) (inbS_of (so34 t) (Nat.mod_lt _ (by omega)) (by omega)) _ (p39 _) x, ?_⟩
      refine List.forall_mem_cons.mpr ⟨fun x => slice_val harg3 x1 (t.val % 8) 14 _ _ (lo18 t 14) (so33 t) (by omega) (inbL_of (lo18 t 14) (Nat.mod_lt _ (by omega)) (by omega)) (inbS_of (so33 t) (Nat.mod_lt _ (by omega)) (by omega)) _ (p38 _) x, ?_⟩
      refine List.forall_mem_cons.mpr ⟨fun x => slice_val harg3 x1 (t.val % 8) 13 _ _ (lo18 t 13) (so32 t) (by omega) (inbL_of (lo18 t 13) (Nat.mod_lt _ (by omega)) (by omega)) (inbS_of (so32 t) (Nat.mod_lt _ (by omega)) (by omega)) _ (p37 _) x, ?_⟩
      refine List.forall_mem_cons.mpr ⟨fun x => slice_val harg3 x1 (t.val % 8) 12 _ _ (lo18 t 12) (so31 t) (by omega) (inbL_of (lo18 t 12) (Nat.mod_lt _ (by omega)) (by omega)) (inbS_of (so31 t) (Nat.mod_lt _ (by omega)) (by omega)) _ (p36 _) x, ?_⟩
      refine List.forall_mem_cons.mpr ⟨fun x => slice_val harg3 x1 (t.val % 8) 11 _ _ (lo18 t 11) (so30 t) (by omega) (inbL_of (lo18 t 11) (Nat.mod_lt _ (by omega)) (by omega)) (inbS_of (so30 t) (Nat.mod_lt _ (by omega)) (by omega)) _ (p35 _) x, ?_⟩
      refine List.forall_mem_cons.mpr ⟨fun x => slice_val harg3 x1 (t.val % 8) 10 _ _ (lo18 t 10) (so29 t) (by omega) (inbL_of (lo18 t 10) (Nat.mod_lt _ (by omega)) (by omega)) (inbS_of (so29 t) (Nat.mod_lt _ (by omega)) (by omega)) _ (p34 _) x, ?_⟩
      refine List.forall_mem_cons.mpr ⟨fun x => slice_val harg3 x1 (t.val % 8) 9 _ _ (lo18 t 9) (so28 t) (by omega) (inbL_of (lo18 t 9) (Nat.mod_lt _ (by omega)) (by omega)) (inbS_of (so28 t) (Nat.mod_lt _ (by omega)) (by omega)) _ (p33 _) x, ?_⟩
      refine List.forall_mem_cons.mpr ⟨fun x => slice_val harg3 x1 (t.val % 8) 8 _ _ (lo18 t 8) (so27 t) (by omega) (inbL_of (lo18 t 8) (Nat.mod_lt _ (by omega)) (by omega)) (inbS_of (so27 t) (Nat.mod_lt _ (by omega)) (by omega)) _ (p32 _) x, ?_⟩
      refine List.forall_mem_cons.mpr ⟨fun x => slice_val harg3 x1 (t.val % 8) 7 _ _ (lo18 t 7) (so26 t) (by omega) (inbL_of (lo18 t 7) (Nat.mod_lt _ (by omega)) (by omega)) (inbS_of (so26 t) (Nat.mod_lt _ (by omega)) (by omega)) _ ((p31 _).trans (p30 _)) x, ?_⟩
      refine List.forall_mem_cons.mpr ⟨fun x => slice_val harg3 x1 (t.val % 8) 6 _ _ (lo18 t 6) (so25 t) (by omega) (inbL_of (lo18 t 6) (Nat.mod_lt _ (by omega)) (by omega)) (inbS_of (so25 t) (Nat.mod_lt _ (by omega)) (by omega)) _ (p29 _) x, ?_⟩
      refine List.forall_mem_cons.mpr ⟨fun x => slice_val harg3 x1 (t.val % 8) 5 _ _ (lo18 t 5) (so24 t) (by omega) (inbL_of (lo18 t 5) (Nat.mod_lt _ (by omega)) (by omega)) (inbS_of (so24 t) (Nat.mod_lt _ (by omega)) (by omega)) _ (p28 _) x, ?_⟩
      refine List.forall_mem_cons.mpr ⟨fun x => slice_val harg3 x1 (t.val % 8) 4 _ _ (lo18 t 4) (so23 t) (by omega) (inbL_of (lo18 t 4) (Nat.mod_lt _ (by omega)) (by omega)) (inbS_of (so23 t) (Nat.mod_lt _ (by omega)) (by omega)) _ (p27 _) x, ?_⟩
      refine List.forall_mem_cons.mpr ⟨fun x => slice_val harg3 x1 (t.val % 8) 3 _ _ (lo18 t 3) (so22 t) (by omega) (inbL_of (lo18 t 3) (Nat.mod_lt _ (by omega)) (by omega)) (inbS_of (so22 t) (Nat.mod_lt _ (by omega)) (by omega)) _ (p26 _) x, ?_⟩
      refine List.forall_mem_cons.mpr ⟨fun x => slice_val harg3 x1 (t.val % 8) 2 _ _ (lo18 t 2) (so21 t) (by omega) (inbL_of (lo18 t 2) (Nat.mod_lt _ (by omega)) (by omega)) (inbS_of (so21 t) (Nat.mod_lt _ (by omega)) (by omega)) _ (p25 _) x, ?_⟩
      refine List.forall_mem_cons.mpr ⟨fun x => slice_val harg3 x1 (t.val % 8) 1 _ _ (lo18 t 1) (so20 t) (by omega) (inbL_of (lo18 t 1) (Nat.mod_lt _ (by omega)) (by omega)) (inbS_of (so20 t) (Nat.mod_lt _ (by omega)) (by omega)) _ (p24 _) x, ?_⟩
      refine List.forall_mem_cons.mpr ⟨fun x => slice_val harg3 x1 (t.val % 8) 0 _ _ (lo18 t 0) (so19 t) (by omega) (inbL_of (lo18 t 0) (Nat.mod_lt _ (by omega)) (by omega)) (inbS_of (so19 t) (Nat.mod_lt _ (by omega)) (by omega)) _ (p23 _) x, ?_⟩
      exact fun p hp => absurd hp List.not_mem_nil
    · have hk : (y 1).val / 128 < 16 := by have := (y 1).isLt; change (y 1).val < 2048 at this; omega
      obtain ⟨k, hk'⟩ : ∃ k, k = (y 1).val / 128 := ⟨_, rfl⟩
      rw [← hk'] at hk
      interval_cases k
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slice (t.val % 8) 0 _ (so19 t) (inbS_of (so19 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slice (t.val % 8) 1 _ (so20 t) (inbS_of (so20 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slice (t.val % 8) 2 _ (so21 t) (inbS_of (so21 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slice (t.val % 8) 3 _ (so22 t) (inbS_of (so22 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slice (t.val % 8) 4 _ (so23 t) (inbS_of (so23 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slice (t.val % 8) 5 _ (so24 t) (inbS_of (so24 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slice (t.val % 8) 6 _ (so25 t) (inbS_of (so25 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slice (t.val % 8) 7 _ (so26 t) (inbS_of (so26 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slice (t.val % 8) 8 _ (so27 t) (inbS_of (so27 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ List.mem_cons_self))))), mem_slice (t.val % 8) 9 _ (so28 t) (inbS_of (so28 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ List.mem_cons_self)))), mem_slice (t.val % 8) 10 _ (so29 t) (inbS_of (so29 t) (Nat.mod_lt _ (by omega)) (by omega)) y h.1 h.2 hk'.symm⟩
      · exact ⟨_, List.mem_cons_of_mem _ (List.mem_cons_of_mem _ (List.mem_cons_of_mem _ (List.mem_cons_of_mem _ List.mem_cons_self))), mem_slice (t.val % 8) 11 _ (so30 t) (inbS_of (so30 t) (Nat.mod_lt _ (by omega)) (by omega)) y h.1 h.2 hk'.symm⟩
      · exact ⟨_, List.mem_cons_of_mem _ (List.mem_cons_of_mem _ (List.mem_cons_of_mem _ List.mem_cons_self)), mem_slice (t.val % 8) 12 _ (so31 t) (inbS_of (so31 t) (Nat.mod_lt _ (by omega)) (by omega)) y h.1 h.2 hk'.symm⟩
      · exact ⟨_, List.mem_cons_of_mem _ (List.mem_cons_of_mem _ List.mem_cons_self), mem_slice (t.val % 8) 13 _ (so32 t) (inbS_of (so32 t) (Nat.mod_lt _ (by omega)) (by omega)) y h.1 h.2 hk'.symm⟩
      · exact ⟨_, List.mem_cons_of_mem _ List.mem_cons_self, mem_slice (t.val % 8) 14 _ (so33 t) (inbS_of (so33 t) (Nat.mod_lt _ (by omega)) (by omega)) y h.1 h.2 hk'.symm⟩
      · exact ⟨_, List.mem_cons_self, mem_slice (t.val % 8) 15 _ (so34 t) (inbS_of (so34 t) (Nat.mod_lt _ (by omega)) (by omega)) y h.1 h.2 hk'.symm⟩
  · refine (View.read_writes_apply_of_forall_not_mem arg9.view (harg9.unread xn) y (runFirst (F := Ideal) c (grid0.coords t) arg2 harg2 arg3 harg3 arg4 harg4 arg5 harg5 arg6 harg6 arg7 harg7 arg8 harg8 arg9 harg9 arg10 harg10 h0 h1 h2 h3 h4 x0 x1 x2 x3 x4 xn).2.2.1 ?_).trans (congrFun (harg9.read_unread xn) y)
    have h' : (y 0).val < t.val % 8 * 128 ∨ t.val % 8 * 128 + 128 ≤ (y 0).val := by omega
    refine List.forall_mem_cons.mpr ⟨not_mem_slice (t.val % 8) 15 _ (so34 t) (inbS_of (so34 t) (Nat.mod_lt _ (by omega)) (by omega)) y h', ?_⟩
    refine List.forall_mem_cons.mpr ⟨not_mem_slice (t.val % 8) 14 _ (so33 t) (inbS_of (so33 t) (Nat.mod_lt _ (by omega)) (by omega)) y h', ?_⟩
    refine List.forall_mem_cons.mpr ⟨not_mem_slice (t.val % 8) 13 _ (so32 t) (inbS_of (so32 t) (Nat.mod_lt _ (by omega)) (by omega)) y h', ?_⟩
    refine List.forall_mem_cons.mpr ⟨not_mem_slice (t.val % 8) 12 _ (so31 t) (inbS_of (so31 t) (Nat.mod_lt _ (by omega)) (by omega)) y h', ?_⟩
    refine List.forall_mem_cons.mpr ⟨not_mem_slice (t.val % 8) 11 _ (so30 t) (inbS_of (so30 t) (Nat.mod_lt _ (by omega)) (by omega)) y h', ?_⟩
    refine List.forall_mem_cons.mpr ⟨not_mem_slice (t.val % 8) 10 _ (so29 t) (inbS_of (so29 t) (Nat.mod_lt _ (by omega)) (by omega)) y h', ?_⟩
    refine List.forall_mem_cons.mpr ⟨not_mem_slice (t.val % 8) 9 _ (so28 t) (inbS_of (so28 t) (Nat.mod_lt _ (by omega)) (by omega)) y h', ?_⟩
    refine List.forall_mem_cons.mpr ⟨not_mem_slice (t.val % 8) 8 _ (so27 t) (inbS_of (so27 t) (Nat.mod_lt _ (by omega)) (by omega)) y h', ?_⟩
    refine List.forall_mem_cons.mpr ⟨not_mem_slice (t.val % 8) 7 _ (so26 t) (inbS_of (so26 t) (Nat.mod_lt _ (by omega)) (by omega)) y h', ?_⟩
    refine List.forall_mem_cons.mpr ⟨not_mem_slice (t.val % 8) 6 _ (so25 t) (inbS_of (so25 t) (Nat.mod_lt _ (by omega)) (by omega)) y h', ?_⟩
    refine List.forall_mem_cons.mpr ⟨not_mem_slice (t.val % 8) 5 _ (so24 t) (inbS_of (so24 t) (Nat.mod_lt _ (by omega)) (by omega)) y h', ?_⟩
    refine List.forall_mem_cons.mpr ⟨not_mem_slice (t.val % 8) 4 _ (so23 t) (inbS_of (so23 t) (Nat.mod_lt _ (by omega)) (by omega)) y h', ?_⟩
    refine List.forall_mem_cons.mpr ⟨not_mem_slice (t.val % 8) 3 _ (so22 t) (inbS_of (so22 t) (Nat.mod_lt _ (by omega)) (by omega)) y h', ?_⟩
    refine List.forall_mem_cons.mpr ⟨not_mem_slice (t.val % 8) 2 _ (so21 t) (inbS_of (so21 t) (Nat.mod_lt _ (by omega)) (by omega)) y h', ?_⟩
    refine List.forall_mem_cons.mpr ⟨not_mem_slice (t.val % 8) 1 _ (so20 t) (inbS_of (so20 t) (Nat.mod_lt _ (by omega)) (by omega)) y h', ?_⟩
    refine List.forall_mem_cons.mpr ⟨not_mem_slice (t.val % 8) 0 _ (so19 t) (inbS_of (so19 t) (Nat.mod_lt _ (by omega)) (by omega)) y h', ?_⟩
    exact fun p hp => absurd hp List.not_mem_nil

set_option maxHeartbeats 4000000 in
theorem fill_EvenFull (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : ¬evenPlain (grid0.coords t)) (h2 : evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn xc : Tile) :
    arg9.view.read (Elt Ideal) (arg9.view.writes (Elt Ideal) (harg9.unread xn) (runEvenFull (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1) = fill (t.val % 8) x1 xn := by
  funext y
  unfold fill
  split_ifs with h
  · refine View.read_writes_apply_of_pieces arg9.view (harg9.unread xn) (fun y => gath x1 (y 0) (y 1)) (runEvenFull (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_ y ?_
    · refine List.forall_mem_cons.mpr ⟨fun x => slice_val harg3 x1 (t.val % 8) 15 _ _ (lo18 t 15) (so34 t) (by omega) (inbL_of (lo18 t 15) (Nat.mod_lt _ (by omega)) (by omega)) (inbS_of (so34 t) (Nat.mod_lt _ (by omega)) (by omega)) _ (p39 _) x, ?_⟩
      refine List.forall_mem_cons.mpr ⟨fun x => slice_val harg3 x1 (t.val % 8) 14 _ _ (lo18 t 14) (so33 t) (by omega) (inbL_of (lo18 t 14) (Nat.mod_lt _ (by omega)) (by omega)) (inbS_of (so33 t) (Nat.mod_lt _ (by omega)) (by omega)) _ (p38 _) x, ?_⟩
      refine List.forall_mem_cons.mpr ⟨fun x => slice_val harg3 x1 (t.val % 8) 13 _ _ (lo18 t 13) (so32 t) (by omega) (inbL_of (lo18 t 13) (Nat.mod_lt _ (by omega)) (by omega)) (inbS_of (so32 t) (Nat.mod_lt _ (by omega)) (by omega)) _ (p37 _) x, ?_⟩
      refine List.forall_mem_cons.mpr ⟨fun x => slice_val harg3 x1 (t.val % 8) 12 _ _ (lo18 t 12) (so31 t) (by omega) (inbL_of (lo18 t 12) (Nat.mod_lt _ (by omega)) (by omega)) (inbS_of (so31 t) (Nat.mod_lt _ (by omega)) (by omega)) _ (p36 _) x, ?_⟩
      refine List.forall_mem_cons.mpr ⟨fun x => slice_val harg3 x1 (t.val % 8) 11 _ _ (lo18 t 11) (so30 t) (by omega) (inbL_of (lo18 t 11) (Nat.mod_lt _ (by omega)) (by omega)) (inbS_of (so30 t) (Nat.mod_lt _ (by omega)) (by omega)) _ (p35 _) x, ?_⟩
      refine List.forall_mem_cons.mpr ⟨fun x => slice_val harg3 x1 (t.val % 8) 10 _ _ (lo18 t 10) (so29 t) (by omega) (inbL_of (lo18 t 10) (Nat.mod_lt _ (by omega)) (by omega)) (inbS_of (so29 t) (Nat.mod_lt _ (by omega)) (by omega)) _ (p34 _) x, ?_⟩
      refine List.forall_mem_cons.mpr ⟨fun x => slice_val harg3 x1 (t.val % 8) 9 _ _ (lo18 t 9) (so28 t) (by omega) (inbL_of (lo18 t 9) (Nat.mod_lt _ (by omega)) (by omega)) (inbS_of (so28 t) (Nat.mod_lt _ (by omega)) (by omega)) _ (p33 _) x, ?_⟩
      refine List.forall_mem_cons.mpr ⟨fun x => slice_val harg3 x1 (t.val % 8) 8 _ _ (lo18 t 8) (so27 t) (by omega) (inbL_of (lo18 t 8) (Nat.mod_lt _ (by omega)) (by omega)) (inbS_of (so27 t) (Nat.mod_lt _ (by omega)) (by omega)) _ (p32 _) x, ?_⟩
      refine List.forall_mem_cons.mpr ⟨fun x => slice_val harg3 x1 (t.val % 8) 7 _ _ (lo18 t 7) (so26 t) (by omega) (inbL_of (lo18 t 7) (Nat.mod_lt _ (by omega)) (by omega)) (inbS_of (so26 t) (Nat.mod_lt _ (by omega)) (by omega)) _ ((p31 _).trans (p30 _)) x, ?_⟩
      refine List.forall_mem_cons.mpr ⟨fun x => slice_val harg3 x1 (t.val % 8) 6 _ _ (lo18 t 6) (so25 t) (by omega) (inbL_of (lo18 t 6) (Nat.mod_lt _ (by omega)) (by omega)) (inbS_of (so25 t) (Nat.mod_lt _ (by omega)) (by omega)) _ (p29 _) x, ?_⟩
      refine List.forall_mem_cons.mpr ⟨fun x => slice_val harg3 x1 (t.val % 8) 5 _ _ (lo18 t 5) (so24 t) (by omega) (inbL_of (lo18 t 5) (Nat.mod_lt _ (by omega)) (by omega)) (inbS_of (so24 t) (Nat.mod_lt _ (by omega)) (by omega)) _ (p28 _) x, ?_⟩
      refine List.forall_mem_cons.mpr ⟨fun x => slice_val harg3 x1 (t.val % 8) 4 _ _ (lo18 t 4) (so23 t) (by omega) (inbL_of (lo18 t 4) (Nat.mod_lt _ (by omega)) (by omega)) (inbS_of (so23 t) (Nat.mod_lt _ (by omega)) (by omega)) _ (p27 _) x, ?_⟩
      refine List.forall_mem_cons.mpr ⟨fun x => slice_val harg3 x1 (t.val % 8) 3 _ _ (lo18 t 3) (so22 t) (by omega) (inbL_of (lo18 t 3) (Nat.mod_lt _ (by omega)) (by omega)) (inbS_of (so22 t) (Nat.mod_lt _ (by omega)) (by omega)) _ (p26 _) x, ?_⟩
      refine List.forall_mem_cons.mpr ⟨fun x => slice_val harg3 x1 (t.val % 8) 2 _ _ (lo18 t 2) (so21 t) (by omega) (inbL_of (lo18 t 2) (Nat.mod_lt _ (by omega)) (by omega)) (inbS_of (so21 t) (Nat.mod_lt _ (by omega)) (by omega)) _ (p25 _) x, ?_⟩
      refine List.forall_mem_cons.mpr ⟨fun x => slice_val harg3 x1 (t.val % 8) 1 _ _ (lo18 t 1) (so20 t) (by omega) (inbL_of (lo18 t 1) (Nat.mod_lt _ (by omega)) (by omega)) (inbS_of (so20 t) (Nat.mod_lt _ (by omega)) (by omega)) _ (p24 _) x, ?_⟩
      refine List.forall_mem_cons.mpr ⟨fun x => slice_val harg3 x1 (t.val % 8) 0 _ _ (lo18 t 0) (so19 t) (by omega) (inbL_of (lo18 t 0) (Nat.mod_lt _ (by omega)) (by omega)) (inbS_of (so19 t) (Nat.mod_lt _ (by omega)) (by omega)) _ (p23 _) x, ?_⟩
      exact fun p hp => absurd hp List.not_mem_nil
    · have hk : (y 1).val / 128 < 16 := by have := (y 1).isLt; change (y 1).val < 2048 at this; omega
      obtain ⟨k, hk'⟩ : ∃ k, k = (y 1).val / 128 := ⟨_, rfl⟩
      rw [← hk'] at hk
      interval_cases k
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slice (t.val % 8) 0 _ (so19 t) (inbS_of (so19 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slice (t.val % 8) 1 _ (so20 t) (inbS_of (so20 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slice (t.val % 8) 2 _ (so21 t) (inbS_of (so21 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slice (t.val % 8) 3 _ (so22 t) (inbS_of (so22 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slice (t.val % 8) 4 _ (so23 t) (inbS_of (so23 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slice (t.val % 8) 5 _ (so24 t) (inbS_of (so24 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slice (t.val % 8) 6 _ (so25 t) (inbS_of (so25 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slice (t.val % 8) 7 _ (so26 t) (inbS_of (so26 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slice (t.val % 8) 8 _ (so27 t) (inbS_of (so27 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ List.mem_cons_self))))), mem_slice (t.val % 8) 9 _ (so28 t) (inbS_of (so28 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ List.mem_cons_self)))), mem_slice (t.val % 8) 10 _ (so29 t) (inbS_of (so29 t) (Nat.mod_lt _ (by omega)) (by omega)) y h.1 h.2 hk'.symm⟩
      · exact ⟨_, List.mem_cons_of_mem _ (List.mem_cons_of_mem _ (List.mem_cons_of_mem _ (List.mem_cons_of_mem _ List.mem_cons_self))), mem_slice (t.val % 8) 11 _ (so30 t) (inbS_of (so30 t) (Nat.mod_lt _ (by omega)) (by omega)) y h.1 h.2 hk'.symm⟩
      · exact ⟨_, List.mem_cons_of_mem _ (List.mem_cons_of_mem _ (List.mem_cons_of_mem _ List.mem_cons_self)), mem_slice (t.val % 8) 12 _ (so31 t) (inbS_of (so31 t) (Nat.mod_lt _ (by omega)) (by omega)) y h.1 h.2 hk'.symm⟩
      · exact ⟨_, List.mem_cons_of_mem _ (List.mem_cons_of_mem _ List.mem_cons_self), mem_slice (t.val % 8) 13 _ (so32 t) (inbS_of (so32 t) (Nat.mod_lt _ (by omega)) (by omega)) y h.1 h.2 hk'.symm⟩
      · exact ⟨_, List.mem_cons_of_mem _ List.mem_cons_self, mem_slice (t.val % 8) 14 _ (so33 t) (inbS_of (so33 t) (Nat.mod_lt _ (by omega)) (by omega)) y h.1 h.2 hk'.symm⟩
      · exact ⟨_, List.mem_cons_self, mem_slice (t.val % 8) 15 _ (so34 t) (inbS_of (so34 t) (Nat.mod_lt _ (by omega)) (by omega)) y h.1 h.2 hk'.symm⟩
  · refine (View.read_writes_apply_of_forall_not_mem arg9.view (harg9.unread xn) y (runEvenFull (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_).trans (congrFun (harg9.read_unread xn) y)
    have h' : (y 0).val < t.val % 8 * 128 ∨ t.val % 8 * 128 + 128 ≤ (y 0).val := by omega
    refine List.forall_mem_cons.mpr ⟨not_mem_slice (t.val % 8) 15 _ (so34 t) (inbS_of (so34 t) (Nat.mod_lt _ (by omega)) (by omega)) y h', ?_⟩
    refine List.forall_mem_cons.mpr ⟨not_mem_slice (t.val % 8) 14 _ (so33 t) (inbS_of (so33 t) (Nat.mod_lt _ (by omega)) (by omega)) y h', ?_⟩
    refine List.forall_mem_cons.mpr ⟨not_mem_slice (t.val % 8) 13 _ (so32 t) (inbS_of (so32 t) (Nat.mod_lt _ (by omega)) (by omega)) y h', ?_⟩
    refine List.forall_mem_cons.mpr ⟨not_mem_slice (t.val % 8) 12 _ (so31 t) (inbS_of (so31 t) (Nat.mod_lt _ (by omega)) (by omega)) y h', ?_⟩
    refine List.forall_mem_cons.mpr ⟨not_mem_slice (t.val % 8) 11 _ (so30 t) (inbS_of (so30 t) (Nat.mod_lt _ (by omega)) (by omega)) y h', ?_⟩
    refine List.forall_mem_cons.mpr ⟨not_mem_slice (t.val % 8) 10 _ (so29 t) (inbS_of (so29 t) (Nat.mod_lt _ (by omega)) (by omega)) y h', ?_⟩
    refine List.forall_mem_cons.mpr ⟨not_mem_slice (t.val % 8) 9 _ (so28 t) (inbS_of (so28 t) (Nat.mod_lt _ (by omega)) (by omega)) y h', ?_⟩
    refine List.forall_mem_cons.mpr ⟨not_mem_slice (t.val % 8) 8 _ (so27 t) (inbS_of (so27 t) (Nat.mod_lt _ (by omega)) (by omega)) y h', ?_⟩
    refine List.forall_mem_cons.mpr ⟨not_mem_slice (t.val % 8) 7 _ (so26 t) (inbS_of (so26 t) (Nat.mod_lt _ (by omega)) (by omega)) y h', ?_⟩
    refine List.forall_mem_cons.mpr ⟨not_mem_slice (t.val % 8) 6 _ (so25 t) (inbS_of (so25 t) (Nat.mod_lt _ (by omega)) (by omega)) y h', ?_⟩
    refine List.forall_mem_cons.mpr ⟨not_mem_slice (t.val % 8) 5 _ (so24 t) (inbS_of (so24 t) (Nat.mod_lt _ (by omega)) (by omega)) y h', ?_⟩
    refine List.forall_mem_cons.mpr ⟨not_mem_slice (t.val % 8) 4 _ (so23 t) (inbS_of (so23 t) (Nat.mod_lt _ (by omega)) (by omega)) y h', ?_⟩
    refine List.forall_mem_cons.mpr ⟨not_mem_slice (t.val % 8) 3 _ (so22 t) (inbS_of (so22 t) (Nat.mod_lt _ (by omega)) (by omega)) y h', ?_⟩
    refine List.forall_mem_cons.mpr ⟨not_mem_slice (t.val % 8) 2 _ (so21 t) (inbS_of (so21 t) (Nat.mod_lt _ (by omega)) (by omega)) y h', ?_⟩
    refine List.forall_mem_cons.mpr ⟨not_mem_slice (t.val % 8) 1 _ (so20 t) (inbS_of (so20 t) (Nat.mod_lt _ (by omega)) (by omega)) y h', ?_⟩
    refine List.forall_mem_cons.mpr ⟨not_mem_slice (t.val % 8) 0 _ (so19 t) (inbS_of (so19 t) (Nat.mod_lt _ (by omega)) (by omega)) y h', ?_⟩
    exact fun p hp => absurd hp List.not_mem_nil

set_option maxHeartbeats 4000000 in
theorem fill_EvenPlain (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : evenPlain (grid0.coords t)) (h2 : ¬evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn xc : Tile) :
    arg9.view.read (Elt Ideal) (arg9.view.writes (Elt Ideal) (harg9.unread xn) (runEvenPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1) = fill (t.val % 8) x1 xn := by
  funext y
  unfold fill
  split_ifs with h
  · refine View.read_writes_apply_of_pieces arg9.view (harg9.unread xn) (fun y => gath x1 (y 0) (y 1)) (runEvenPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_ y ?_
    · refine List.forall_mem_cons.mpr ⟨fun x => slice_val harg3 x1 (t.val % 8) 15 _ _ (lo1 t 15) (so17 t) (by omega) (inbL_of (lo1 t 15) (Nat.mod_lt _ (by omega)) (by omega)) (inbS_of (so17 t) (Nat.mod_lt _ (by omega)) (by omega)) _ (p20 _) x, ?_⟩
      refine List.forall_mem_cons.mpr ⟨fun x => slice_val harg3 x1 (t.val % 8) 14 _ _ (lo1 t 14) (so16 t) (by omega) (inbL_of (lo1 t 14) (Nat.mod_lt _ (by omega)) (by omega)) (inbS_of (so16 t) (Nat.mod_lt _ (by omega)) (by omega)) _ (p19 _) x, ?_⟩
      refine List.forall_mem_cons.mpr ⟨fun x => slice_val harg3 x1 (t.val % 8) 13 _ _ (lo1 t 13) (so15 t) (by omega) (inbL_of (lo1 t 13) (Nat.mod_lt _ (by omega)) (by omega)) (inbS_of (so15 t) (Nat.mod_lt _ (by omega)) (by omega)) _ (p18 _) x, ?_⟩
      refine List.forall_mem_cons.mpr ⟨fun x => slice_val harg3 x1 (t.val % 8) 12 _ _ (lo1 t 12) (so14 t) (by omega) (inbL_of (lo1 t 12) (Nat.mod_lt _ (by omega)) (by omega)) (inbS_of (so14 t) (Nat.mod_lt _ (by omega)) (by omega)) _ (p17 _) x, ?_⟩
      refine List.forall_mem_cons.mpr ⟨fun x => slice_val harg3 x1 (t.val % 8) 11 _ _ (lo1 t 11) (so13 t) (by omega) (inbL_of (lo1 t 11) (Nat.mod_lt _ (by omega)) (by omega)) (inbS_of (so13 t) (Nat.mod_lt _ (by omega)) (by omega)) _ (p16 _) x, ?_⟩
      refine List.forall_mem_cons.mpr ⟨fun x => slice_val harg3 x1 (t.val % 8) 10 _ _ (lo1 t 10) (so12 t) (by omega) (inbL_of (lo1 t 10) (Nat.mod_lt _ (by omega)) (by omega)) (inbS_of (so12 t) (Nat.mod_lt _ (by omega)) (by omega)) _ (p15 _) x, ?_⟩
      refine List.forall_mem_cons.mpr ⟨fun x => slice_val harg3 x1 (t.val % 8) 9 _ _ (lo1 t 9) (so11 t) (by omega) (inbL_of (lo1 t 9) (Nat.mod_lt _ (by omega)) (by omega)) (inbS_of (so11 t) (Nat.mod_lt _ (by omega)) (by omega)) _ (p14 _) x, ?_⟩
      refine List.forall_mem_cons.mpr ⟨fun x => slice_val harg3 x1 (t.val % 8) 8 _ _ (lo1 t 8) (so10 t) (by omega) (inbL_of (lo1 t 8) (Nat.mod_lt _ (by omega)) (by omega)) (inbS_of (so10 t) (Nat.mod_lt _ (by omega)) (by omega)) _ (p13 _) x, ?_⟩
      refine List.forall_mem_cons.mpr ⟨fun x => slice_val harg3 x1 (t.val % 8) 7 _ _ (lo1 t 7) (so9 t) (by omega) (inbL_of (lo1 t 7) (Nat.mod_lt _ (by omega)) (by omega)) (inbS_of (so9 t) (Nat.mod_lt _ (by omega)) (by omega)) _ ((p12 _).trans (p11 _)) x, ?_⟩
      refine List.forall_mem_cons.mpr ⟨fun x => slice_val harg3 x1 (t.val % 8) 6 _ _ (lo1 t 6) (so8 t) (by omega) (inbL_of (lo1 t 6) (Nat.mod_lt _ (by omega)) (by omega)) (inbS_of (so8 t) (Nat.mod_lt _ (by omega)) (by omega)) _ (p10 _) x, ?_⟩
      refine List.forall_mem_cons.mpr ⟨fun x => slice_val harg3 x1 (t.val % 8) 5 _ _ (lo1 t 5) (so7 t) (by omega) (inbL_of (lo1 t 5) (Nat.mod_lt _ (by omega)) (by omega)) (inbS_of (so7 t) (Nat.mod_lt _ (by omega)) (by omega)) _ (p9 _) x, ?_⟩
      refine List.forall_mem_cons.mpr ⟨fun x => slice_val harg3 x1 (t.val % 8) 4 _ _ (lo1 t 4) (so6 t) (by omega) (inbL_of (lo1 t 4) (Nat.mod_lt _ (by omega)) (by omega)) (inbS_of (so6 t) (Nat.mod_lt _ (by omega)) (by omega)) _ (p8 _) x, ?_⟩
      refine List.forall_mem_cons.mpr ⟨fun x => slice_val harg3 x1 (t.val % 8) 3 _ _ (lo1 t 3) (so5 t) (by omega) (inbL_of (lo1 t 3) (Nat.mod_lt _ (by omega)) (by omega)) (inbS_of (so5 t) (Nat.mod_lt _ (by omega)) (by omega)) _ (p7 _) x, ?_⟩
      refine List.forall_mem_cons.mpr ⟨fun x => slice_val harg3 x1 (t.val % 8) 2 _ _ (lo1 t 2) (so4 t) (by omega) (inbL_of (lo1 t 2) (Nat.mod_lt _ (by omega)) (by omega)) (inbS_of (so4 t) (Nat.mod_lt _ (by omega)) (by omega)) _ (p6 _) x, ?_⟩
      refine List.forall_mem_cons.mpr ⟨fun x => slice_val harg3 x1 (t.val % 8) 1 _ _ (lo1 t 1) (so3 t) (by omega) (inbL_of (lo1 t 1) (Nat.mod_lt _ (by omega)) (by omega)) (inbS_of (so3 t) (Nat.mod_lt _ (by omega)) (by omega)) _ (p5 _) x, ?_⟩
      refine List.forall_mem_cons.mpr ⟨fun x => slice_val harg3 x1 (t.val % 8) 0 _ _ (lo1 t 0) (so2 t) (by omega) (inbL_of (lo1 t 0) (Nat.mod_lt _ (by omega)) (by omega)) (inbS_of (so2 t) (Nat.mod_lt _ (by omega)) (by omega)) _ (p4 _) x, ?_⟩
      exact fun p hp => absurd hp List.not_mem_nil
    · have hk : (y 1).val / 128 < 16 := by have := (y 1).isLt; change (y 1).val < 2048 at this; omega
      obtain ⟨k, hk'⟩ : ∃ k, k = (y 1).val / 128 := ⟨_, rfl⟩
      rw [← hk'] at hk
      interval_cases k
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slice (t.val % 8) 0 _ (so2 t) (inbS_of (so2 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slice (t.val % 8) 1 _ (so3 t) (inbS_of (so3 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slice (t.val % 8) 2 _ (so4 t) (inbS_of (so4 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slice (t.val % 8) 3 _ (so5 t) (inbS_of (so5 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slice (t.val % 8) 4 _ (so6 t) (inbS_of (so6 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slice (t.val % 8) 5 _ (so7 t) (inbS_of (so7 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slice (t.val % 8) 6 _ (so8 t) (inbS_of (so8 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slice (t.val % 8) 7 _ (so9 t) (inbS_of (so9 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slice (t.val % 8) 8 _ (so10 t) (inbS_of (so10 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ List.mem_cons_self))))), mem_slice (t.val % 8) 9 _ (so11 t) (inbS_of (so11 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ List.mem_cons_self)))), mem_slice (t.val % 8) 10 _ (so12 t) (inbS_of (so12 t) (Nat.mod_lt _ (by omega)) (by omega)) y h.1 h.2 hk'.symm⟩
      · exact ⟨_, List.mem_cons_of_mem _ (List.mem_cons_of_mem _ (List.mem_cons_of_mem _ (List.mem_cons_of_mem _ List.mem_cons_self))), mem_slice (t.val % 8) 11 _ (so13 t) (inbS_of (so13 t) (Nat.mod_lt _ (by omega)) (by omega)) y h.1 h.2 hk'.symm⟩
      · exact ⟨_, List.mem_cons_of_mem _ (List.mem_cons_of_mem _ (List.mem_cons_of_mem _ List.mem_cons_self)), mem_slice (t.val % 8) 12 _ (so14 t) (inbS_of (so14 t) (Nat.mod_lt _ (by omega)) (by omega)) y h.1 h.2 hk'.symm⟩
      · exact ⟨_, List.mem_cons_of_mem _ (List.mem_cons_of_mem _ List.mem_cons_self), mem_slice (t.val % 8) 13 _ (so15 t) (inbS_of (so15 t) (Nat.mod_lt _ (by omega)) (by omega)) y h.1 h.2 hk'.symm⟩
      · exact ⟨_, List.mem_cons_of_mem _ List.mem_cons_self, mem_slice (t.val % 8) 14 _ (so16 t) (inbS_of (so16 t) (Nat.mod_lt _ (by omega)) (by omega)) y h.1 h.2 hk'.symm⟩
      · exact ⟨_, List.mem_cons_self, mem_slice (t.val % 8) 15 _ (so17 t) (inbS_of (so17 t) (Nat.mod_lt _ (by omega)) (by omega)) y h.1 h.2 hk'.symm⟩
  · refine (View.read_writes_apply_of_forall_not_mem arg9.view (harg9.unread xn) y (runEvenPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_).trans (congrFun (harg9.read_unread xn) y)
    have h' : (y 0).val < t.val % 8 * 128 ∨ t.val % 8 * 128 + 128 ≤ (y 0).val := by omega
    refine List.forall_mem_cons.mpr ⟨not_mem_slice (t.val % 8) 15 _ (so17 t) (inbS_of (so17 t) (Nat.mod_lt _ (by omega)) (by omega)) y h', ?_⟩
    refine List.forall_mem_cons.mpr ⟨not_mem_slice (t.val % 8) 14 _ (so16 t) (inbS_of (so16 t) (Nat.mod_lt _ (by omega)) (by omega)) y h', ?_⟩
    refine List.forall_mem_cons.mpr ⟨not_mem_slice (t.val % 8) 13 _ (so15 t) (inbS_of (so15 t) (Nat.mod_lt _ (by omega)) (by omega)) y h', ?_⟩
    refine List.forall_mem_cons.mpr ⟨not_mem_slice (t.val % 8) 12 _ (so14 t) (inbS_of (so14 t) (Nat.mod_lt _ (by omega)) (by omega)) y h', ?_⟩
    refine List.forall_mem_cons.mpr ⟨not_mem_slice (t.val % 8) 11 _ (so13 t) (inbS_of (so13 t) (Nat.mod_lt _ (by omega)) (by omega)) y h', ?_⟩
    refine List.forall_mem_cons.mpr ⟨not_mem_slice (t.val % 8) 10 _ (so12 t) (inbS_of (so12 t) (Nat.mod_lt _ (by omega)) (by omega)) y h', ?_⟩
    refine List.forall_mem_cons.mpr ⟨not_mem_slice (t.val % 8) 9 _ (so11 t) (inbS_of (so11 t) (Nat.mod_lt _ (by omega)) (by omega)) y h', ?_⟩
    refine List.forall_mem_cons.mpr ⟨not_mem_slice (t.val % 8) 8 _ (so10 t) (inbS_of (so10 t) (Nat.mod_lt _ (by omega)) (by omega)) y h', ?_⟩
    refine List.forall_mem_cons.mpr ⟨not_mem_slice (t.val % 8) 7 _ (so9 t) (inbS_of (so9 t) (Nat.mod_lt _ (by omega)) (by omega)) y h', ?_⟩
    refine List.forall_mem_cons.mpr ⟨not_mem_slice (t.val % 8) 6 _ (so8 t) (inbS_of (so8 t) (Nat.mod_lt _ (by omega)) (by omega)) y h', ?_⟩
    refine List.forall_mem_cons.mpr ⟨not_mem_slice (t.val % 8) 5 _ (so7 t) (inbS_of (so7 t) (Nat.mod_lt _ (by omega)) (by omega)) y h', ?_⟩
    refine List.forall_mem_cons.mpr ⟨not_mem_slice (t.val % 8) 4 _ (so6 t) (inbS_of (so6 t) (Nat.mod_lt _ (by omega)) (by omega)) y h', ?_⟩
    refine List.forall_mem_cons.mpr ⟨not_mem_slice (t.val % 8) 3 _ (so5 t) (inbS_of (so5 t) (Nat.mod_lt _ (by omega)) (by omega)) y h', ?_⟩
    refine List.forall_mem_cons.mpr ⟨not_mem_slice (t.val % 8) 2 _ (so4 t) (inbS_of (so4 t) (Nat.mod_lt _ (by omega)) (by omega)) y h', ?_⟩
    refine List.forall_mem_cons.mpr ⟨not_mem_slice (t.val % 8) 1 _ (so3 t) (inbS_of (so3 t) (Nat.mod_lt _ (by omega)) (by omega)) y h', ?_⟩
    refine List.forall_mem_cons.mpr ⟨not_mem_slice (t.val % 8) 0 _ (so2 t) (inbS_of (so2 t) (Nat.mod_lt _ (by omega)) (by omega)) y h', ?_⟩
    exact fun p hp => absurd hp List.not_mem_nil

set_option maxHeartbeats 4000000 in
theorem fill_OddPlain (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : ¬evenPlain (grid0.coords t)) (h2 : ¬evenFull (grid0.coords t)) (h3 : oddPlain (grid0.coords t)) (h4 : ¬oddHalf (grid0.coords t))
    (x0 : Tile) (x1 : Rows) (x2 : Tile) (x3 : Vec Ideal S1x1024 .f32) (x4 : Vec Ideal S4x256x256 .bf16) (xn xc : Tile) :
    arg8.view.read (Elt Ideal) (arg8.view.writes (Elt Ideal) (harg8.unread xn) (runOddPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1) = fill (t.val % 8) x1 xn := by
  funext y
  unfold fill
  split_ifs with h
  · refine View.read_writes_apply_of_pieces arg8.view (harg8.unread xn) (fun y => gath x1 (y 0) (y 1)) (runOddPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_ y ?_
    · refine List.forall_mem_cons.mpr ⟨fun x => slice_val harg3 x1 (t.val % 8) 15 _ _ (lo35 t 15) (so51 t) (by omega) (inbL_of (lo35 t 15) (Nat.mod_lt _ (by omega)) (by omega)) (inbS_of (so51 t) (Nat.mod_lt _ (by omega)) (by omega)) _ (p62 _) x, ?_⟩
      refine List.forall_mem_cons.mpr ⟨fun x => slice_val harg3 x1 (t.val % 8) 14 _ _ (lo35 t 14) (so50 t) (by omega) (inbL_of (lo35 t 14) (Nat.mod_lt _ (by omega)) (by omega)) (inbS_of (so50 t) (Nat.mod_lt _ (by omega)) (by omega)) _ (p61 _) x, ?_⟩
      refine List.forall_mem_cons.mpr ⟨fun x => slice_val harg3 x1 (t.val % 8) 13 _ _ (lo35 t 13) (so49 t) (by omega) (inbL_of (lo35 t 13) (Nat.mod_lt _ (by omega)) (by omega)) (inbS_of (so49 t) (Nat.mod_lt _ (by omega)) (by omega)) _ (p60 _) x, ?_⟩
      refine List.forall_mem_cons.mpr ⟨fun x => slice_val harg3 x1 (t.val % 8) 12 _ _ (lo35 t 12) (so48 t) (by omega) (inbL_of (lo35 t 12) (Nat.mod_lt _ (by omega)) (by omega)) (inbS_of (so48 t) (Nat.mod_lt _ (by omega)) (by omega)) _ (p59 _) x, ?_⟩
      refine List.forall_mem_cons.mpr ⟨fun x => slice_val harg3 x1 (t.val % 8) 11 _ _ (lo35 t 11) (so47 t) (by omega) (inbL_of (lo35 t 11) (Nat.mod_lt _ (by omega)) (by omega)) (inbS_of (so47 t) (Nat.mod_lt _ (by omega)) (by omega)) _ (p58 _) x, ?_⟩
      refine List.forall_mem_cons.mpr ⟨fun x => slice_val harg3 x1 (t.val % 8) 10 _ _ (lo35 t 10) (so46 t) (by omega) (inbL_of (lo35 t 10) (Nat.mod_lt _ (by omega)) (by omega)) (inbS_of (so46 t) (Nat.mod_lt _ (by omega)) (by omega)) _ (p57 _) x, ?_⟩
      refine List.forall_mem_cons.mpr ⟨fun x => slice_val harg3 x1 (t.val % 8) 9 _ _ (lo35 t 9) (so45 t) (by omega) (inbL_of (lo35 t 9) (Nat.mod_lt _ (by omega)) (by omega)) (inbS_of (so45 t) (Nat.mod_lt _ (by omega)) (by omega)) _ (p56 _) x, ?_⟩
      refine List.forall_mem_cons.mpr ⟨fun x => slice_val harg3 x1 (t.val % 8) 8 _ _ (lo35 t 8) (so44 t) (by omega) (inbL_of (lo35 t 8) (Nat.mod_lt _ (by omega)) (by omega)) (inbS_of (so44 t) (Nat.mod_lt _ (by omega)) (by omega)) _ (p55 _) x, ?_⟩
      refine List.forall_mem_cons.mpr ⟨fun x => slice_val harg3 x1 (t.val % 8) 7 _ _ (lo35 t 7) (so43 t) (by omega) (inbL_of (lo35 t 7) (Nat.mod_lt _ (by omega)) (by omega)) (inbS_of (so43 t) (Nat.mod_lt _ (by omega)) (by omega)) _ ((p54 _).trans (p53 _)) x, ?_⟩
      refine List.forall_mem_cons.mpr ⟨fun x => slice_val harg3 x1 (t.val % 8) 6 _ _ (lo35 t 6) (so42 t) (by omega) (inbL_of (lo35 t 6) (Nat.mod_lt _ (by omega)) (by omega)) (inbS_of (so42 t) (Nat.mod_lt _ (by omega)) (by omega)) _ (p52 _) x, ?_⟩
      refine List.forall_mem_cons.mpr ⟨fun x => slice_val harg3 x1 (t.val % 8) 5 _ _ (lo35 t 5) (so41 t) (by omega) (inbL_of (lo35 t 5) (Nat.mod_lt _ (by omega)) (by omega)) (inbS_of (so41 t) (Nat.mod_lt _ (by omega)) (by omega)) _ (p51 _) x, ?_⟩
      refine List.forall_mem_cons.mpr ⟨fun x => slice_val harg3 x1 (t.val % 8) 4 _ _ (lo35 t 4) (so40 t) (by omega) (inbL_of (lo35 t 4) (Nat.mod_lt _ (by omega)) (by omega)) (inbS_of (so40 t) (Nat.mod_lt _ (by omega)) (by omega)) _ (p50 _) x, ?_⟩
      refine List.forall_mem_cons.mpr ⟨fun x => slice_val harg3 x1 (t.val % 8) 3 _ _ (lo35 t 3) (so39 t) (by omega) (inbL_of (lo35 t 3) (Nat.mod_lt _ (by omega)) (by omega)) (inbS_of (so39 t) (Nat.mod_lt _ (by omega)) (by omega)) _ (p49 _) x, ?_⟩
      refine List.forall_mem_cons.mpr ⟨fun x => slice_val harg3 x1 (t.val % 8) 2 _ _ (lo35 t 2) (so38 t) (by omega) (inbL_of (lo35 t 2) (Nat.mod_lt _ (by omega)) (by omega)) (inbS_of (so38 t) (Nat.mod_lt _ (by omega)) (by omega)) _ (p48 _) x, ?_⟩
      refine List.forall_mem_cons.mpr ⟨fun x => slice_val harg3 x1 (t.val % 8) 1 _ _ (lo35 t 1) (so37 t) (by omega) (inbL_of (lo35 t 1) (Nat.mod_lt _ (by omega)) (by omega)) (inbS_of (so37 t) (Nat.mod_lt _ (by omega)) (by omega)) _ (p47 _) x, ?_⟩
      refine List.forall_mem_cons.mpr ⟨fun x => slice_val harg3 x1 (t.val % 8) 0 _ _ (lo35 t 0) (so36 t) (by omega) (inbL_of (lo35 t 0) (Nat.mod_lt _ (by omega)) (by omega)) (inbS_of (so36 t) (Nat.mod_lt _ (by omega)) (by omega)) _ (p46 _) x, ?_⟩
      exact fun p hp => absurd hp List.not_mem_nil
    · have hk : (y 1).val / 128 < 16 := by have := (y 1).isLt; change (y 1).val < 2048 at this; omega
      obtain ⟨k, hk'⟩ : ∃ k, k = (y 1).val / 128 := ⟨_, rfl⟩
      rw [← hk'] at hk
      interval_cases k
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slice (t.val % 8) 0 _ (so36 t) (inbS_of (so36 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slice (t.val % 8) 1 _ (so37 t) (inbS_of (so37 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slice (t.val % 8) 2 _ (so38 t) (inbS_of (so38 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slice (t.val % 8) 3 _ (so39 t) (inbS_of (so39 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slice (t.val % 8) 4 _ (so40 t) (inbS_of (so40 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slice (t.val % 8) 5 _ (so41 t) (inbS_of (so41 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slice (t.val % 8) 6 _ (so42 t) (inbS_of (so42 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slice (t.val % 8) 7 _ (so43 t) (inbS_of (so43 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slice (t.val % 8) 8 _ (so44 t) (inbS_of (so44 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ List.mem_cons_self))))), mem_slice (t.val % 8) 9 _ (so45 t) (inbS_of (so45 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ List.mem_cons_self)))), mem_slice (t.val % 8) 10 _ (so46 t) (inbS_of (so46 t) (Nat.mod_lt _ (by omega)) (by omega)) y h.1 h.2 hk'.symm⟩
      · exact ⟨_, List.mem_cons_of_mem _ (List.mem_cons_of_mem _ (List.mem_cons_of_mem _ (List.mem_cons_of_mem _ List.mem_cons_self))), mem_slice (t.val % 8) 11 _ (so47 t) (inbS_of (so47 t) (Nat.mod_lt _ (by omega)) (by omega)) y h.1 h.2 hk'.symm⟩
      · exact ⟨_, List.mem_cons_of_mem _ (List.mem_cons_of_mem _ (List.mem_cons_of_mem _ List.mem_cons_self)), mem_slice (t.val % 8) 12 _ (so48 t) (inbS_of (so48 t) (Nat.mod_lt _ (by omega)) (by omega)) y h.1 h.2 hk'.symm⟩
      · exact ⟨_, List.mem_cons_of_mem _ (List.mem_cons_of_mem _ List.mem_cons_self), mem_slice (t.val % 8) 13 _ (so49 t) (inbS_of (so49 t) (Nat.mod_lt _ (by omega)) (by omega)) y h.1 h.2 hk'.symm⟩
      · exact ⟨_, List.mem_cons_of_mem _ List.mem_cons_self, mem_slice (t.val % 8) 14 _ (so50 t) (inbS_of (so50 t) (Nat.mod_lt _ (by omega)) (by omega)) y h.1 h.2 hk'.symm⟩
      · exact ⟨_, List.mem_cons_self, mem_slice (t.val % 8) 15 _ (so51 t) (inbS_of (so51 t) (Nat.mod_lt _ (by omega)) (by omega)) y h.1 h.2 hk'.symm⟩
  · refine (View.read_writes_apply_of_forall_not_mem arg8.view (harg8.unread xn) y (runOddPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_).trans (congrFun (harg8.read_unread xn) y)
    have h' : (y 0).val < t.val % 8 * 128 ∨ t.val % 8 * 128 + 128 ≤ (y 0).val := by omega
    refine List.forall_mem_cons.mpr ⟨not_mem_slice (t.val % 8) 15 _ (so51 t) (inbS_of (so51 t) (Nat.mod_lt _ (by omega)) (by omega)) y h', ?_⟩
    refine List.forall_mem_cons.mpr ⟨not_mem_slice (t.val % 8) 14 _ (so50 t) (inbS_of (so50 t) (Nat.mod_lt _ (by omega)) (by omega)) y h', ?_⟩
    refine List.forall_mem_cons.mpr ⟨not_mem_slice (t.val % 8) 13 _ (so49 t) (inbS_of (so49 t) (Nat.mod_lt _ (by omega)) (by omega)) y h', ?_⟩
    refine List.forall_mem_cons.mpr ⟨not_mem_slice (t.val % 8) 12 _ (so48 t) (inbS_of (so48 t) (Nat.mod_lt _ (by omega)) (by omega)) y h', ?_⟩
    refine List.forall_mem_cons.mpr ⟨not_mem_slice (t.val % 8) 11 _ (so47 t) (inbS_of (so47 t) (Nat.mod_lt _ (by omega)) (by omega)) y h', ?_⟩
    refine List.forall_mem_cons.mpr ⟨not_mem_slice (t.val % 8) 10 _ (so46 t) (inbS_of (so46 t) (Nat.mod_lt _ (by omega)) (by omega)) y h', ?_⟩
    refine List.forall_mem_cons.mpr ⟨not_mem_slice (t.val % 8) 9 _ (so45 t) (inbS_of (so45 t) (Nat.mod_lt _ (by omega)) (by omega)) y h', ?_⟩
    refine List.forall_mem_cons.mpr ⟨not_mem_slice (t.val % 8) 8 _ (so44 t) (inbS_of (so44 t) (Nat.mod_lt _ (by omega)) (by omega)) y h', ?_⟩
    refine List.forall_mem_cons.mpr ⟨not_mem_slice (t.val % 8) 7 _ (so43 t) (inbS_of (so43 t) (Nat.mod_lt _ (by omega)) (by omega)) y h', ?_⟩
    refine List.forall_mem_cons.mpr ⟨not_mem_slice (t.val % 8) 6 _ (so42 t) (inbS_of (so42 t) (Nat.mod_lt _ (by omega)) (by omega)) y h', ?_⟩
    refine List.forall_mem_cons.mpr ⟨not_mem_slice (t.val % 8) 5 _ (so41 t) (inbS_of (so41 t) (Nat.mod_lt _ (by omega)) (by omega)) y h', ?_⟩
    refine List.forall_mem_cons.mpr ⟨not_mem_slice (t.val % 8) 4 _ (so40 t) (inbS_of (so40 t) (Nat.mod_lt _ (by omega)) (by omega)) y h', ?_⟩
    refine List.forall_mem_cons.mpr ⟨not_mem_slice (t.val % 8) 3 _ (so39 t) (inbS_of (so39 t) (Nat.mod_lt _ (by omega)) (by omega)) y h', ?_⟩
    refine List.forall_mem_cons.mpr ⟨not_mem_slice (t.val % 8) 2 _ (so38 t) (inbS_of (so38 t) (Nat.mod_lt _ (by omega)) (by omega)) y h', ?_⟩
    refine List.forall_mem_cons.mpr ⟨not_mem_slice (t.val % 8) 1 _ (so37 t) (inbS_of (so37 t) (Nat.mod_lt _ (by omega)) (by omega)) y h', ?_⟩
    refine List.forall_mem_cons.mpr ⟨not_mem_slice (t.val % 8) 0 _ (so36 t) (inbS_of (so36 t) (Nat.mod_lt _ (by omega)) (by omega)) y h', ?_⟩
    exact fun p hp => absurd hp List.not_mem_nil

set_option maxHeartbeats 4000000 in
theorem fill_OddHalf (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : ¬evenPlain (grid0.coords t)) (h2 : ¬evenFull (grid0.coords t)) (h3 : ¬oddPlain (grid0.coords t)) (h4 : oddHalf (grid0.coords t))
    (x0 : Tile) (x1 : Rows) (x2 : Tile) (x3 : Vec Ideal S1x1024 .f32) (x4 : Vec Ideal S4x256x256 .bf16) (xn xc : Tile) :
    arg8.view.read (Elt Ideal) (arg8.view.writes (Elt Ideal) (harg8.unread xn) (runOddHalf (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1) = fill (t.val % 8) x1 xn := by
  funext y
  unfold fill
  split_ifs with h
  · refine View.read_writes_apply_of_pieces arg8.view (harg8.unread xn) (fun y => gath x1 (y 0) (y 1)) (runOddHalf (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_ y ?_
    · refine List.forall_mem_cons.mpr ⟨fun x => slice_val harg3 x1 (t.val % 8) 15 _ _ (lo52 t 15) (so68 t) (by omega) (inbL_of (lo52 t 15) (Nat.mod_lt _ (by omega)) (by omega)) (inbS_of (so68 t) (Nat.mod_lt _ (by omega)) (by omega)) _ (p81 _) x, ?_⟩
      refine List.forall_mem_cons.mpr ⟨fun x => slice_val harg3 x1 (t.val % 8) 14 _ _ (lo52 t 14) (so67 t) (by omega) (inbL_of (lo52 t 14) (Nat.mod_lt _ (by omega)) (by omega)) (inbS_of (so67 t) (Nat.mod_lt _ (by omega)) (by omega)) _ (p80 _) x, ?_⟩
      refine List.forall_mem_cons.mpr ⟨fun x => slice_val harg3 x1 (t.val % 8) 13 _ _ (lo52 t 13) (so66 t) (by omega) (inbL_of (lo52 t 13) (Nat.mod_lt _ (by omega)) (by omega)) (inbS_of (so66 t) (Nat.mod_lt _ (by omega)) (by omega)) _ (p79 _) x, ?_⟩
      refine List.forall_mem_cons.mpr ⟨fun x => slice_val harg3 x1 (t.val % 8) 12 _ _ (lo52 t 12) (so65 t) (by omega) (inbL_of (lo52 t 12) (Nat.mod_lt _ (by omega)) (by omega)) (inbS_of (so65 t) (Nat.mod_lt _ (by omega)) (by omega)) _ (p78 _) x, ?_⟩
      refine List.forall_mem_cons.mpr ⟨fun x => slice_val harg3 x1 (t.val % 8) 11 _ _ (lo52 t 11) (so64 t) (by omega) (inbL_of (lo52 t 11) (Nat.mod_lt _ (by omega)) (by omega)) (inbS_of (so64 t) (Nat.mod_lt _ (by omega)) (by omega)) _ (p77 _) x, ?_⟩
      refine List.forall_mem_cons.mpr ⟨fun x => slice_val harg3 x1 (t.val % 8) 10 _ _ (lo52 t 10) (so63 t) (by omega) (inbL_of (lo52 t 10) (Nat.mod_lt _ (by omega)) (by omega)) (inbS_of (so63 t) (Nat.mod_lt _ (by omega)) (by omega)) _ (p76 _) x, ?_⟩
      refine List.forall_mem_cons.mpr ⟨fun x => slice_val harg3 x1 (t.val % 8) 9 _ _ (lo52 t 9) (so62 t) (by omega) (inbL_of (lo52 t 9) (Nat.mod_lt _ (by omega)) (by omega)) (inbS_of (so62 t) (Nat.mod_lt _ (by omega)) (by omega)) _ (p75 _) x, ?_⟩
      refine List.forall_mem_cons.mpr ⟨fun x => slice_val harg3 x1 (t.val % 8) 8 _ _ (lo52 t 8) (so61 t) (by omega) (inbL_of (lo52 t 8) (Nat.mod_lt _ (by omega)) (by omega)) (inbS_of (so61 t) (Nat.mod_lt _ (by omega)) (by omega)) _ (p74 _) x, ?_⟩
      refine List.forall_mem_cons.mpr ⟨fun x => slice_val harg3 x1 (t.val % 8) 7 _ _ (lo52 t 7) (so60 t) (by omega) (inbL_of (lo52 t 7) (Nat.mod_lt _ (by omega)) (by omega)) (inbS_of (so60 t) (Nat.mod_lt _ (by omega)) (by omega)) _ ((p73 _).trans (p72 _)) x, ?_⟩
      refine List.forall_mem_cons.mpr ⟨fun x => slice_val harg3 x1 (t.val % 8) 6 _ _ (lo52 t 6) (so59 t) (by omega) (inbL_of (lo52 t 6) (Nat.mod_lt _ (by omega)) (by omega)) (inbS_of (so59 t) (Nat.mod_lt _ (by omega)) (by omega)) _ (p71 _) x, ?_⟩
      refine List.forall_mem_cons.mpr ⟨fun x => slice_val harg3 x1 (t.val % 8) 5 _ _ (lo52 t 5) (so58 t) (by omega) (inbL_of (lo52 t 5) (Nat.mod_lt _ (by omega)) (by omega)) (inbS_of (so58 t) (Nat.mod_lt _ (by omega)) (by omega)) _ (p70 _) x, ?_⟩
      refine List.forall_mem_cons.mpr ⟨fun x => slice_val harg3 x1 (t.val % 8) 4 _ _ (lo52 t 4) (so57 t) (by omega) (inbL_of (lo52 t 4) (Nat.mod_lt _ (by omega)) (by omega)) (inbS_of (so57 t) (Nat.mod_lt _ (by omega)) (by omega)) _ (p69 _) x, ?_⟩
      refine List.forall_mem_cons.mpr ⟨fun x => slice_val harg3 x1 (t.val % 8) 3 _ _ (lo52 t 3) (so56 t) (by omega) (inbL_of (lo52 t 3) (Nat.mod_lt _ (by omega)) (by omega)) (inbS_of (so56 t) (Nat.mod_lt _ (by omega)) (by omega)) _ (p68 _) x, ?_⟩
      refine List.forall_mem_cons.mpr ⟨fun x => slice_val harg3 x1 (t.val % 8) 2 _ _ (lo52 t 2) (so55 t) (by omega) (inbL_of (lo52 t 2) (Nat.mod_lt _ (by omega)) (by omega)) (inbS_of (so55 t) (Nat.mod_lt _ (by omega)) (by omega)) _ (p67 _) x, ?_⟩
      refine List.forall_mem_cons.mpr ⟨fun x => slice_val harg3 x1 (t.val % 8) 1 _ _ (lo52 t 1) (so54 t) (by omega) (inbL_of (lo52 t 1) (Nat.mod_lt _ (by omega)) (by omega)) (inbS_of (so54 t) (Nat.mod_lt _ (by omega)) (by omega)) _ (p66 _) x, ?_⟩
      refine List.forall_mem_cons.mpr ⟨fun x => slice_val harg3 x1 (t.val % 8) 0 _ _ (lo52 t 0) (so53 t) (by omega) (inbL_of (lo52 t 0) (Nat.mod_lt _ (by omega)) (by omega)) (inbS_of (so53 t) (Nat.mod_lt _ (by omega)) (by omega)) _ (p65 _) x, ?_⟩
      exact fun p hp => absurd hp List.not_mem_nil
    · have hk : (y 1).val / 128 < 16 := by have := (y 1).isLt; change (y 1).val < 2048 at this; omega
      obtain ⟨k, hk'⟩ : ∃ k, k = (y 1).val / 128 := ⟨_, rfl⟩
      rw [← hk'] at hk
      interval_cases k
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slice (t.val % 8) 0 _ (so53 t) (inbS_of (so53 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slice (t.val % 8) 1 _ (so54 t) (inbS_of (so54 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slice (t.val % 8) 2 _ (so55 t) (inbS_of (so55 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slice (t.val % 8) 3 _ (so56 t) (inbS_of (so56 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slice (t.val % 8) 4 _ (so57 t) (inbS_of (so57 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slice (t.val % 8) 5 _ (so58 t) (inbS_of (so58 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slice (t.val % 8) 6 _ (so59 t) (inbS_of (so59 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slice (t.val % 8) 7 _ (so60 t) (inbS_of (so60 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slice (t.val % 8) 8 _ (so61 t) (inbS_of (so61 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ (List.mem_cons_of_mem _ List.mem_cons_self))))), mem_slice (t.val % 8) 9 _ (so62 t) (inbS_of (so62 t) (Nat.mod_lt _ (by omega)) (by omega)) y h.1 h.2 hk'.symm⟩
      · exact ⟨_, List.mem_cons_of_mem _ (List.mem_cons_of_mem _ (List.mem_cons_of_mem _ (List.mem_cons_of_mem _ (List.mem_cons_of_mem _ List.mem_cons_self)))), mem_slice (t.val % 8) 10 _ (so63 t) (inbS_of (so63 t) (Nat.mod_lt _ (by omega)) (by omega)) y h.1 h.2 hk'.symm⟩
      · exact ⟨_, List.mem_cons_of_mem _ (List.mem_cons_of_mem _ (List.mem_cons_of_mem _ (List.mem_cons_of_mem _ List.mem_cons_self))), mem_slice (t.val % 8) 11 _ (so64 t) (inbS_of (so64 t) (Nat.mod_lt _ (by omega)) (by omega)) y h.1 h.2 hk'.symm⟩
      · exact ⟨_, List.mem_cons_of_mem _ (List.mem_cons_of_mem _ (List.mem_cons_of_mem _ List.mem_cons_self)), mem_slice (t.val % 8) 12 _ (so65 t) (inbS_of (so65 t) (Nat.mod_lt _ (by omega)) (by omega)) y h.1 h.2 hk'.symm⟩
      · exact ⟨_, List.mem_cons_of_mem _ (List.mem_cons_of_mem _ List.mem_cons_self), mem_slice (t.val % 8) 13 _ (so66 t) (inbS_of (so66 t) (Nat.mod_lt _ (by omega)) (by omega)) y h.1 h.2 hk'.symm⟩
      · exact ⟨_, List.mem_cons_of_mem _ List.mem_cons_self, mem_slice (t.val % 8) 14 _ (so67 t) (inbS_of (so67 t) (Nat.mod_lt _ (by omega)) (by omega)) y h.1 h.2 hk'.symm⟩
      · exact ⟨_, List.mem_cons_self, mem_slice (t.val % 8) 15 _ (so68 t) (inbS_of (so68 t) (Nat.mod_lt _ (by omega)) (by omega)) y h.1 h.2 hk'.symm⟩
  · refine (View.read_writes_apply_of_forall_not_mem arg8.view (harg8.unread xn) y (runOddHalf (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).2.1 ?_).trans (congrFun (harg8.read_unread xn) y)
    have h' : (y 0).val < t.val % 8 * 128 ∨ t.val % 8 * 128 + 128 ≤ (y 0).val := by omega
    refine List.forall_mem_cons.mpr ⟨not_mem_slice (t.val % 8) 15 _ (so68 t) (inbS_of (so68 t) (Nat.mod_lt _ (by omega)) (by omega)) y h', ?_⟩
    refine List.forall_mem_cons.mpr ⟨not_mem_slice (t.val % 8) 14 _ (so67 t) (inbS_of (so67 t) (Nat.mod_lt _ (by omega)) (by omega)) y h', ?_⟩
    refine List.forall_mem_cons.mpr ⟨not_mem_slice (t.val % 8) 13 _ (so66 t) (inbS_of (so66 t) (Nat.mod_lt _ (by omega)) (by omega)) y h', ?_⟩
    refine List.forall_mem_cons.mpr ⟨not_mem_slice (t.val % 8) 12 _ (so65 t) (inbS_of (so65 t) (Nat.mod_lt _ (by omega)) (by omega)) y h', ?_⟩
    refine List.forall_mem_cons.mpr ⟨not_mem_slice (t.val % 8) 11 _ (so64 t) (inbS_of (so64 t) (Nat.mod_lt _ (by omega)) (by omega)) y h', ?_⟩
    refine List.forall_mem_cons.mpr ⟨not_mem_slice (t.val % 8) 10 _ (so63 t) (inbS_of (so63 t) (Nat.mod_lt _ (by omega)) (by omega)) y h', ?_⟩
    refine List.forall_mem_cons.mpr ⟨not_mem_slice (t.val % 8) 9 _ (so62 t) (inbS_of (so62 t) (Nat.mod_lt _ (by omega)) (by omega)) y h', ?_⟩
    refine List.forall_mem_cons.mpr ⟨not_mem_slice (t.val % 8) 8 _ (so61 t) (inbS_of (so61 t) (Nat.mod_lt _ (by omega)) (by omega)) y h', ?_⟩
    refine List.forall_mem_cons.mpr ⟨not_mem_slice (t.val % 8) 7 _ (so60 t) (inbS_of (so60 t) (Nat.mod_lt _ (by omega)) (by omega)) y h', ?_⟩
    refine List.forall_mem_cons.mpr ⟨not_mem_slice (t.val % 8) 6 _ (so59 t) (inbS_of (so59 t) (Nat.mod_lt _ (by omega)) (by omega)) y h', ?_⟩
    refine List.forall_mem_cons.mpr ⟨not_mem_slice (t.val % 8) 5 _ (so58 t) (inbS_of (so58 t) (Nat.mod_lt _ (by omega)) (by omega)) y h', ?_⟩
    refine List.forall_mem_cons.mpr ⟨not_mem_slice (t.val % 8) 4 _ (so57 t) (inbS_of (so57 t) (Nat.mod_lt _ (by omega)) (by omega)) y h', ?_⟩
    refine List.forall_mem_cons.mpr ⟨not_mem_slice (t.val % 8) 3 _ (so56 t) (inbS_of (so56 t) (Nat.mod_lt _ (by omega)) (by omega)) y h', ?_⟩
    refine List.forall_mem_cons.mpr ⟨not_mem_slice (t.val % 8) 2 _ (so55 t) (inbS_of (so55 t) (Nat.mod_lt _ (by omega)) (by omega)) y h', ?_⟩
    refine List.forall_mem_cons.mpr ⟨not_mem_slice (t.val % 8) 1 _ (so54 t) (inbS_of (so54 t) (Nat.mod_lt _ (by omega)) (by omega)) y h', ?_⟩
    refine List.forall_mem_cons.mpr ⟨not_mem_slice (t.val % 8) 0 _ (so53 t) (inbS_of (so53 t) (Nat.mod_lt _ (by omega)) (by omega)) y h', ?_⟩
    exact fun p hp => absurd hp List.not_mem_nil

end Cert.InProj.ProjIdeal
end
-- ==== Proof.InProj.ProjIdeal.OutBase.lean ====
module

public import proofs.«01_k».proof.Proof.InProj.ProjIdeal.Pay

@[expose] public section
set_option maxRecDepth 16384
noncomputable section
namespace Cert.InProj.ProjIdeal
open Idealize.ShloMosaic Idealize.ShloMosaic.TcCoe Idealize.SL.Sem Cert.ProjIdeal Cert.ProjIdeal.Gen

/-- A normed entry of an output tile: its group of 256 columns by the group's matrix, its column's scale. -/
def lane (x0 xc : Tile) (x3 : Vec Ideal S1x1024 .f32) (x4 : Vec Ideal S4x256x256 .bf16) (y : S1024x1024.Idx) : EReal :=
  nrm (fun l : Fin 256 => acc x0 xc (y 0) ⟨(y 1).val / 256 * 256 + l.val, by have := (y 1).isLt; change (y 1).val < 1024 at this; omega⟩)
    (fun l => x4 (ix3 ⟨(y 1).val / 256, by have := (y 1).isLt; change (y 1).val < 1024 at this; omega⟩ l ⟨(y 1).val % 256, by omega⟩))
    (acc x0 xc (y 0) (y 1)) (x3 (ix2 0 (y 1)))

/-- The output tiles: no column normed, all normed, the first half normed. -/
def outPlain (x0 xc : Tile) : S1024x1024.Idx → EReal := fun y => acc x0 xc (y 0) (y 1)
def outHalf (x0 xc : Tile) (x3 : Vec Ideal S1x1024 .f32) (x4 : Vec Ideal S4x256x256 .bf16) : S1024x1024.Idx → EReal := fun y =>
  if (y 1).val < 512 then lane x0 xc x3 x4 y else acc x0 xc (y 0) (y 1)

theorem whole_load {arg : Memref sig .tc .vmem S1024x2048 .bf16} (h : arg.IsWhole) (x : Tile)
    (inb : ∀ b, (![0, 0] : Fin 2 → ℕ) b + S1024x2048.size b ≤ S1024x2048.size b) :
    arg.view.readAt (Elt Ideal) (Rect.unit (s := S1024x2048) ![0, 0] S1024x2048.size inb).toLoadRect (h.unread x) = x := by
  funext y
  rw [View.readAt_apply, h.read_unread]
  congr 1
  funext b
  apply Fin.ext
  fin_cases b
  · show 0 + 1 * (y 0).val = (y 0).val
    omega
  · show 0 + 1 * (y 1).val = (y 1).val
    omega

theorem g_load {arg6 : Memref sig .tc .vmem S4x256x256 .bf16} (h : arg6.IsWhole) (x4 : Vec Ideal S4x256x256 .bf16) (k : ℕ) (hk : k < 4)
    (inb : ∀ b, (![k, 0, 0] : Fin 3 → ℕ) b + S1x256x256.size b ≤ S4x256x256.size b) (l cc : Fin 256) :
    arg6.view.readAt (Elt Ideal) (Rect.unit (s := S4x256x256) ![k, 0, 0] S1x256x256.size inb).toLoadRect (h.unread x4) (ix3 0 l cc) = x4 (ix3 ⟨k, hk⟩ l cc) := by
  rw [View.readAt_apply, h.read_unread]
  congr 1
  funext b
  apply Fin.ext
  fin_cases b
  · show k + 1 * 0 = k
    omega
  · show 0 + 1 * l.val = l.val
    omega
  · show 0 + 1 * cc.val = cc.val
    omega

theorem s_load {arg5 : Memref sig .tc .vmem S1x1024 .f32} (h : arg5.IsWhole) (x3 : Vec Ideal S1x1024 .f32) (o : ℕ)
    (inb : ∀ b, (![0, o] : Fin 2 → ℕ) b + S1x256.size b ≤ S1x1024.size b) (cc : Fin 256) (hc : o + cc.val < 1024) :
    arg5.view.readAt (Elt Ideal) (Rect.unit (s := S1x1024) ![0, o] S1x256.size inb).toLoadRect (h.unread x3) (ix2 0 cc) = x3 (ix2 0 ⟨o + cc.val, hc⟩) := by
  rw [View.readAt_apply, h.read_unread]
  congr 1
  funext b
  apply Fin.ext
  fin_cases b
  · show 0 + 1 * 0 = 0
    omega
  · show o + 1 * cc.val = o + cc.val
    omega

/-- The stored accumulator's payload on the tile loaded, -/
theorem acc_pay {arg2 a : Memref sig .tc .vmem S1024x2048 .bf16} (h2 : arg2.IsWhole) (h : a.IsWhole) (x0 xc : Tile)
    (inb : ∀ b, (![0, 0] : Fin 2 → ℕ) b + S1024x2048.size b ≤ S1024x2048.size b)
    (f : Tile → Tile → S1x1024x1024.Idx → EReal) (hf : ∀ a b r cc, f a b (ix3 0 r cc) = acc a b r cc) (r cc : Fin 1024) :
    f (arg2.view.readAt (Elt Ideal) (Rect.unit (s := S1024x2048) ![0, 0] S1024x2048.size inb).toLoadRect (h2.unread x0))
      (a.view.readAt (Elt Ideal) (Rect.unit (s := S1024x2048) ![0, 0] S1024x2048.size inb).toLoadRect (h.unread xc)) (ix3 0 r cc) = acc x0 xc r cc := by
  rw [hf, whole_load, whole_load]

/-- A box of columns of the accumulator, read back. -/
theorem col_val (x0 xc : Tile) (o w : ℕ) (v : View sig .tc .vmem S2x1024x1024 .f32) (pay : S1x1024x1024.Idx → EReal)
    (hp : ∀ r cc, pay (ix3 0 r cc) = acc x0 xc r cc)
    (inb : ∀ b, (![0, 0, 0] : Fin 3 → ℕ) b + S1x1024x1024.size b ≤ S2x1024x1024.size b)
    (inbr : ∀ b, (![0, o] : Fin 2 → ℕ) b + (![1024, w] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hst : ∀ b, (Rect.unit (s := S2x1024x1024) ![0, 0, 0] S1x1024x1024.size inb).stride b = 1)
    (hR : (Rect.unit (s := S1024x1024) ![0, o] ![1024, w] inbr).shape.numel = ((Rect.unit (s := S1024x1024) ![0, o] ![1024, w] inbr).consLift ![1, 1024, 1024] h0 hs).shape.numel)
    (r : Fin 1024) (c : Fin w) (hc : o + c.val < 1024) :
    v.readCov (Val := Elt Ideal) [⟨Rect.unit (s := S2x1024x1024) ![0, 0, 0] S1x1024x1024.size inb, pay⟩]
        ((Rect.unit (s := S2x1024x1024) ![0, 0, 0] S1x1024x1024.size inb).withinL ((Rect.unit (s := S1024x1024) ![0, o] ![1024, w] inbr).consLift ![1, 1024, 1024] h0 hs).toLoadRect hst)
        (Shape.reshapeEquiv hR (ix2 r c)) = acc x0 xc r ⟨o + c.val, hc⟩ := by
  refine (plane_load (sS := S2x1024x1024.size) (sz := S1x1024x1024.size) v pay (Rect.unit (s := S1024x1024) ![0, o] ![1024, w] inbr) inb h0 hs hst hR (ix2 r c)
    (ix3 (0 : Fin 1) r (⟨o + c.val, hc⟩ : Fin 1024)) rfl fun i => ?_).trans (hp _ _)
  fin_cases i
  · show r.val = 0 + 1 * r.val
    omega
  · show o + c.val = o + 1 * c.val
    omega

/-- A stored box of plain columns. -/
theorem plain_piece (x0 xc : Tile) (o w : ℕ) (how : o + w ≤ 1024) (a : (⟨2, ![1024, w]⟩ : Shape).Idx → EReal)
    (ha : ∀ (r : Fin 1024) (c : Fin w) (hc : o + c.val < 1024), a (ix2 r c) = acc x0 xc r ⟨o + c.val, hc⟩)
    (inb : ∀ b, (![0, o] : Fin 2 → ℕ) b + (![1024, w] : Fin 2 → ℕ) b ≤ S1024x1024.size b)
    (x : (Rect.unit (s := S1024x1024) ![0, o] ![1024, w] inb).shape.Idx) :
    a x = acc x0 xc ((Rect.unit (s := S1024x1024) ![0, o] ![1024, w] inb).emb x 0) ((Rect.unit (s := S1024x1024) ![0, o] ![1024, w] inb).emb x 1) := by
  have h1 : (x 1).val < w := (x 1).isLt
  have hx : x = ix2 (x 0) (x 1) := by funext b; fin_cases b <;> rfl
  have e := ha (x 0) (x 1) (by omega)
  have h2 : a x = a (ix2 (x 0) (x 1)) := congrArg a hx
  rw [h2, e]
  congr 1
  · apply Fin.ext
    show (x 0).val = 0 + 1 * (x 0).val
    omega
  · apply Fin.ext
    show o + (x 1).val = o + 1 * (x 1).val
    omega

theorem nrm_congr {a a' g g' : Fin 256 → EReal} {x x' s s' : EReal} (ha : ∀ l, a l = a' l) (hg : ∀ l, g l = g' l) (hx : x = x') (hs : s = s') :
    nrm a g x s = nrm a' g' x' s' := by
  rw [funext ha, funext hg, hx, hs]

/-- A stored box of normed columns. -/
theorem norm_piece (x0 xc : Tile) (x3 : Vec Ideal S1x1024 .f32) (x4 : Vec Ideal S4x256x256 .bf16) (o k : ℕ) (ho : o = 256 * k) (hk : k < 4)
    (a : S1024x256.Idx → EReal) (ha : ∀ (r : Fin 1024) (c : Fin 256) (hc : o + c.val < 1024), a (ix2 r c) = acc x0 xc r ⟨o + c.val, hc⟩)
    (g : S1x256x256.Idx → EReal) (hg : ∀ l cc : Fin 256, g (ix3 0 l cc) = x4 (ix3 ⟨k, hk⟩ l cc))
    (s : S1x256.Idx → EReal) (hs : ∀ (c : Fin 256) (hc : o + c.val < 1024), s (ix2 0 c) = x3 (ix2 0 ⟨o + c.val, hc⟩))
    (pay : S1024x256.Idx → EReal)
    (hp : ∀ (r : Fin 1024) (cc : Fin 256), pay (ix2 r cc) = nrm (fun l => a (ix2 r l)) (fun l => g (ix3 0 l cc)) (a (ix2 r cc)) (s (ix2 0 cc)))
    (inb : ∀ b, (![0, o] : Fin 2 → ℕ) b + S1024x256.size b ≤ S1024x1024.size b)
    (x : (Rect.unit (s := S1024x1024) ![0, o] S1024x256.size inb).shape.Idx) :
    pay x = lane x0 xc x3 x4 ((Rect.unit (s := S1024x1024) ![0, o] S1024x256.size inb).emb x) := by
  obtain ⟨r, cc, rfl⟩ : ∃ (r : Fin 1024) (cc : Fin 256), x = ix2 r cc := ⟨x 0, x 1, by funext b; fin_cases b <;> rfl⟩
  have hcc := cc.isLt
  have hc : o + cc.val < 1024 := by omega
  obtain ⟨y, hy⟩ : ∃ y : S1024x1024.Idx, y = (Rect.unit (s := S1024x1024) ![0, o] S1024x256.size inb).emb (ix2 r cc) := ⟨_, rfl⟩
  have y0 : y 0 = r := by rw [hy]; apply Fin.ext; show 0 + 1 * r.val = r.val; omega
  have y1 : y 1 = (⟨o + cc.val, hc⟩ : Fin 1024) := by rw [hy]; apply Fin.ext; show o + 1 * cc.val = o + cc.val; omega
  have y1v : (y 1).val = o + cc.val := congrArg Fin.val y1
  rw [← hy]
  refine (hp r cc).trans ?_
  refine nrm_congr (fun l => ?_) (fun l => ?_) ?_ ?_
  · refine (ha r l (by omega)).trans (congrArg₂ (acc x0 xc) y0.symm (Fin.ext ?_))
    show o + l.val = (y 1).val / 256 * 256 + l.val
    rw [y1v]
    omega
  · refine (hg l cc).trans (congrArg₂ (fun p q => x4 (ix3 p l q)) (Fin.ext ?_) (Fin.ext ?_))
    · show k = (y 1).val / 256
      rw [y1v]
      omega
    · show cc.val = (y 1).val % 256
      rw [y1v]
      omega
  · exact (ha r cc hc).trans (congrArg₂ (acc x0 xc) y0.symm y1.symm)
  · exact (hs cc hc).trans (congrArg (fun p => x3 (ix2 0 p)) y1.symm)

theorem pl2 (v : Vec Ideal S1024x512 .f32) : k0_pay2 (F := Ideal) v = v := by
  unfold k0_pay2; simp only [shapeCast_id]; rfl
theorem pl21 (v : Vec Ideal S1024x1024 .f32) : k0_pay21 (F := Ideal) v = v := by
  unfold k0_pay21; simp only [shapeCast_id]; rfl
theorem pl63 (v : Vec Ideal S1024x1024 .f32) : k0_pay63 (F := Ideal) v = v := by
  unfold k0_pay63; simp only [shapeCast_id]; rfl

end Cert.InProj.ProjIdeal
end
-- ==== Proof.InProj.ProjIdeal.Out.lean ====
module

public import proofs.«01_k».proof.Proof.InProj.ProjIdeal.OutBase

@[expose] public section
set_option maxRecDepth 16384
noncomputable section
namespace Cert.InProj.ProjIdeal
open Idealize.ShloMosaic Idealize.ShloMosaic.TcCoe Idealize.SL.Sem Cert.ProjIdeal Cert.ProjIdeal.Gen

theorem p1 (v : Vec Ideal S1024x2048 .bf16) : k0_pay1 (F := Ideal) v = v := by
  unfold k0_pay1; simp only [shapeCast_id]

/-- The accumulator's payload on a tile stored just before, -/
theorem acc_first {arg2 : Memref sig .tc .vmem S1024x2048 .bf16} (h2 : arg2.IsWhole) (x0 x2 : Tile) (v : View sig .tc .vmem S1024x2048 .bf16)
    (inb : ∀ b, (![0, 0] : Fin 2 → ℕ) b + S1024x2048.size b ≤ S1024x2048.size b)
    (f : Tile → Tile → S1x1024x1024.Idx → EReal) (hf : ∀ a b r cc, f a b (ix3 0 r cc) = acc a b r cc) (q : Tile) (hq : q = x2) (r cc : Fin 1024) :
    f (arg2.view.readAt (Elt Ideal) (Rect.unit (s := S1024x2048) ![0, 0] S1024x2048.size inb).toLoadRect (h2.unread x0))
      (v.readCov (Val := Elt Ideal) [⟨Rect.unit (s := S1024x2048) ![0, 0] S1024x2048.size inb, q⟩] (Rect.unit (s := S1024x2048) ![0, 0] S1024x2048.size inb).toLoadRect) (ix3 0 r cc)
      = acc x0 x2 r cc := by
  have e : v.readCov (Val := Elt Ideal) [⟨Rect.unit (s := S1024x2048) ![0, 0] S1024x2048.size inb, q⟩] (Rect.unit (s := S1024x2048) ![0, 0] S1024x2048.size inb).toLoadRect = q :=
    View.readCov_unit_lit v inb q (by decide)
  rw [hf, whole_load, e, hq]

theorem mem_cols (o w : ℕ) (inb : ∀ b, (![0, o] : Fin 2 → ℕ) b + (![1024, w] : Fin 2 → ℕ) b ≤ S1024x1024.size b) (y : S1024x1024.Idx)
    (h0 : o ≤ (y 1).val) (h1 : (y 1).val < o + w) : y ∈ (Rect.unit (s := S1024x1024) ![0, o] ![1024, w] inb).set := by
  rw [Rect.mem_set_unit]
  intro b
  fin_cases b
  · have h : (y 0).val < 1024 := (y 0).isLt
    show 0 ≤ (y 0).val ∧ (y 0).val < 0 + 1024
    omega
  · exact ⟨h0, h1⟩

theorem col_First_768 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 768] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 768] ![1024, 256] inbr).toLoadRect.shape.numel = ((Rect.unit (s := S1024x1024) ![0, 768] ![1024, 256] inbr).consLift ![1, 1024, 1024] h0 hs).toLoadRect.shape.numel)
    (r : Fin 1024) (cc : Fin 256) (hc : 768 + cc.val < 1024) :
    LoadRect.valAlong (lr := (Rect.unit (s := S1024x1024) ![0, 768] ![1024, 256] inbr).toLoadRect) (LR := ((Rect.unit (s := S1024x1024) ![0, 768] ![1024, 256] inbr).consLift ![1, 1024, 1024] h0 hs).toLoadRect) hR (V := EReal) (runFirst.sl.v240 (F := Ideal) c arg2 harg2 arg4 harg4 arg8 arg10 x0 x2) (ix2 r cc) = acc x0 x2 r ⟨768 + cc.val, hc⟩ := by
  unfold runFirst.sl.v240 runFirst.sl.H10_1 runFirst.sl.v38 runFirst.sl.Harg8_1
  exact col_val x0 x2 768 256 arg10.view _ (acc_first harg2 x0 x2 arg8.view inb_S1024x2048_S1024x2048_0_0 k0_pay22 mm22 _ ((p1 _).trans (whole_load harg4 x2 inb_S1024x2048_S1024x2048_0_0))) inb_S2x1024x1024_S1x1024x1024_0_0_0 inbr h0 hs (fun _ => rfl) hR r cc hc

theorem piece_First_768 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 768] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 768] ![1024, 256] inbr).toLoadRect.shape.numel = ((Rect.unit (s := S1024x1024) ![0, 768] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 768] ![1024, 256] inbr).shape.Idx) :
    k0_pay44 (F := Ideal) (LoadRect.valAlong (lr := (Rect.unit (s := S1024x1024) ![0, 768] ![1024, 256] inbr).toLoadRect) (LR := ((Rect.unit (s := S1024x1024) ![0, 768] ![1024, 256] inbr).consLift ![1, 1024, 1024] h0 hs).toLoadRect) hR (V := EReal) (runFirst.sl.v240 (F := Ideal) c arg2 harg2 arg4 harg4 arg8 arg10 x0 x2)) (arg6.view.readAt (Elt Ideal) (Rect.unit (s := S4x256x256) ![3, 0, 0] S1x256x256.size inb_S4x256x256_S1x256x256_3_0_0).toLoadRect (harg6.unread x4)) (arg5.view.readAt (Elt Ideal) (Rect.unit (s := S1x1024) ![0, 768] S1x256.size inb_S1x1024_S1x256_0_768).toLoadRect (harg5.unread x3)) x = lane x0 x2 x3 x4 ((Rect.unit (s := S1024x1024) ![0, 768] ![1024, 256] inbr).emb x) := by
  exact norm_piece x0 x2 x3 x4 768 3 rfl (by omega) _ (fun r cc hc => col_First_768 c arg2 harg2 arg4 harg4 arg8 arg10 x0 x2 inbr h0 hs hR r cc hc) _ (fun l cc => g_load harg6 x4 3 (by omega) inb_S4x256x256_S1x256x256_3_0_0 l cc)
    _ (fun cc hc => s_load harg5 x3 768 inb_S1x1024_S1x256_0_768 cc hc) _ (fun r cc => n44 _ _ _ r cc) inbr x

theorem col_First_512 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 512] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 512] ![1024, 256] inbr).toLoadRect.shape.numel = ((Rect.unit (s := S1024x1024) ![0, 512] ![1024, 256] inbr).consLift ![1, 1024, 1024] h0 hs).toLoadRect.shape.numel)
    (r : Fin 1024) (cc : Fin 256) (hc : 512 + cc.val < 1024) :
    LoadRect.valAlong (lr := (Rect.unit (s := S1024x1024) ![0, 512] ![1024, 256] inbr).toLoadRect) (LR := ((Rect.unit (s := S1024x1024) ![0, 512] ![1024, 256] inbr).consLift ![1, 1024, 1024] h0 hs).toLoadRect) hR (V := EReal) (runFirst.sl.v223 (F := Ideal) c arg2 harg2 arg4 harg4 arg8 arg10 x0 x2) (ix2 r cc) = acc x0 x2 r ⟨512 + cc.val, hc⟩ := by
  unfold runFirst.sl.v223 runFirst.sl.H10_1 runFirst.sl.v38 runFirst.sl.Harg8_1
  exact col_val x0 x2 512 256 arg10.view _ (acc_first harg2 x0 x2 arg8.view inb_S1024x2048_S1024x2048_0_0 k0_pay22 mm22 _ ((p1 _).trans (whole_load harg4 x2 inb_S1024x2048_S1024x2048_0_0))) inb_S2x1024x1024_S1x1024x1024_0_0_0 inbr h0 hs (fun _ => rfl) hR r cc hc

theorem piece_First_512 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 512] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 512] ![1024, 256] inbr).toLoadRect.shape.numel = ((Rect.unit (s := S1024x1024) ![0, 512] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 512] ![1024, 256] inbr).shape.Idx) :
    k0_pay43 (F := Ideal) (LoadRect.valAlong (lr := (Rect.unit (s := S1024x1024) ![0, 512] ![1024, 256] inbr).toLoadRect) (LR := ((Rect.unit (s := S1024x1024) ![0, 512] ![1024, 256] inbr).consLift ![1, 1024, 1024] h0 hs).toLoadRect) hR (V := EReal) (runFirst.sl.v223 (F := Ideal) c arg2 harg2 arg4 harg4 arg8 arg10 x0 x2)) (arg6.view.readAt (Elt Ideal) (Rect.unit (s := S4x256x256) ![2, 0, 0] S1x256x256.size inb_S4x256x256_S1x256x256_2_0_0).toLoadRect (harg6.unread x4)) (arg5.view.readAt (Elt Ideal) (Rect.unit (s := S1x1024) ![0, 512] S1x256.size inb_S1x1024_S1x256_0_512).toLoadRect (harg5.unread x3)) x = lane x0 x2 x3 x4 ((Rect.unit (s := S1024x1024) ![0, 512] ![1024, 256] inbr).emb x) := by
  exact norm_piece x0 x2 x3 x4 512 2 rfl (by omega) _ (fun r cc hc => col_First_512 c arg2 harg2 arg4 harg4 arg8 arg10 x0 x2 inbr h0 hs hR r cc hc) _ (fun l cc => g_load harg6 x4 2 (by omega) inb_S4x256x256_S1x256x256_2_0_0 l cc)
    _ (fun cc hc => s_load harg5 x3 512 inb_S1x1024_S1x256_0_512 cc hc) _ (fun r cc => n43 _ _ _ r cc) inbr x

theorem col_First_256 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 256] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 256] ![1024, 256] inbr).toLoadRect.shape.numel = ((Rect.unit (s := S1024x1024) ![0, 256] ![1024, 256] inbr).consLift ![1, 1024, 1024] h0 hs).toLoadRect.shape.numel)
    (r : Fin 1024) (cc : Fin 256) (hc : 256 + cc.val < 1024) :
    LoadRect.valAlong (lr := (Rect.unit (s := S1024x1024) ![0, 256] ![1024, 256] inbr).toLoadRect) (LR := ((Rect.unit (s := S1024x1024) ![0, 256] ![1024, 256] inbr).consLift ![1, 1024, 1024] h0 hs).toLoadRect) hR (V := EReal) (runFirst.sl.v206 (F := Ideal) c arg2 harg2 arg4 harg4 arg8 arg10 x0 x2) (ix2 r cc) = acc x0 x2 r ⟨256 + cc.val, hc⟩ := by
  unfold runFirst.sl.v206 runFirst.sl.H10_1 runFirst.sl.v38 runFirst.sl.Harg8_1
  exact col_val x0 x2 256 256 arg10.view _ (acc_first harg2 x0 x2 arg8.view inb_S1024x2048_S1024x2048_0_0 k0_pay22 mm22 _ ((p1 _).trans (whole_load harg4 x2 inb_S1024x2048_S1024x2048_0_0))) inb_S2x1024x1024_S1x1024x1024_0_0_0 inbr h0 hs (fun _ => rfl) hR r cc hc

theorem piece_First_256 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 256] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 256] ![1024, 256] inbr).toLoadRect.shape.numel = ((Rect.unit (s := S1024x1024) ![0, 256] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 256] ![1024, 256] inbr).shape.Idx) :
    k0_pay42 (F := Ideal) (LoadRect.valAlong (lr := (Rect.unit (s := S1024x1024) ![0, 256] ![1024, 256] inbr).toLoadRect) (LR := ((Rect.unit (s := S1024x1024) ![0, 256] ![1024, 256] inbr).consLift ![1, 1024, 1024] h0 hs).toLoadRect) hR (V := EReal) (runFirst.sl.v206 (F := Ideal) c arg2 harg2 arg4 harg4 arg8 arg10 x0 x2)) (arg6.view.readAt (Elt Ideal) (Rect.unit (s := S4x256x256) ![1, 0, 0] S1x256x256.size inb_S4x256x256_S1x256x256_1_0_0).toLoadRect (harg6.unread x4)) (arg5.view.readAt (Elt Ideal) (Rect.unit (s := S1x1024) ![0, 256] S1x256.size inb_S1x1024_S1x256_0_256).toLoadRect (harg5.unread x3)) x = lane x0 x2 x3 x4 ((Rect.unit (s := S1024x1024) ![0, 256] ![1024, 256] inbr).emb x) := by
  exact norm_piece x0 x2 x3 x4 256 1 rfl (by omega) _ (fun r cc hc => col_First_256 c arg2 harg2 arg4 harg4 arg8 arg10 x0 x2 inbr h0 hs hR r cc hc) _ (fun l cc => g_load harg6 x4 1 (by omega) inb_S4x256x256_S1x256x256_1_0_0 l cc)
    _ (fun cc hc => s_load harg5 x3 256 inb_S1x1024_S1x256_0_256 cc hc) _ (fun r cc => n42 _ _ _ r cc) inbr x

theorem col_First_0 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 0] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 256] inbr).toLoadRect.shape.numel = ((Rect.unit (s := S1024x1024) ![0, 0] ![1024, 256] inbr).consLift ![1, 1024, 1024] h0 hs).toLoadRect.shape.numel)
    (r : Fin 1024) (cc : Fin 256) (hc : 0 + cc.val < 1024) :
    LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runFirst.sl.v189 (F := Ideal) c arg2 harg2 arg4 harg4 arg8 arg10 x0 x2) (ix2 r cc) = acc x0 x2 r ⟨0 + cc.val, hc⟩ := by
  unfold runFirst.sl.v189 runFirst.sl.H10_1 runFirst.sl.v38 runFirst.sl.Harg8_1
  exact col_val x0 x2 0 256 arg10.view _ (acc_first harg2 x0 x2 arg8.view inb_S1024x2048_S1024x2048_0_0 k0_pay22 mm22 _ ((p1 _).trans (whole_load harg4 x2 inb_S1024x2048_S1024x2048_0_0))) inb_S2x1024x1024_S1x1024x1024_0_0_0 inbr h0 hs (fun _ => rfl) hR r cc hc

theorem piece_First_0 (c : Dev nD) (arg2 : Memref sig .tc .vmem S1024x2048 .bf16) (harg2 : arg2.IsWhole) (arg4 : Memref sig .tc .vmem S1024x2048 .bf16) (harg4 : arg4.IsWhole) (arg8 : Memref sig .tc .vmem S1024x2048 .bf16) (arg10 : Memref sig .tc .vmem S2x1024x1024 .f32) (x0 x2 : Tile)
    (inbr : ∀ b, (![0, 0] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 256] inbr).toLoadRect.shape.numel = ((Rect.unit (s := S1024x1024) ![0, 0] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 0] ![1024, 256] inbr).shape.Idx) :
    k0_pay41 (F := Ideal) (LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runFirst.sl.v189 (F := Ideal) c arg2 harg2 arg4 harg4 arg8 arg10 x0 x2)) (k0_pay40 (F := Ideal) (LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runFirst.sl.v189 (F := Ideal) c arg2 harg2 arg4 harg4 arg8 arg10 x0 x2))) (arg6.view.readAt (Elt Ideal) (Rect.unit (s := S4x256x256) ![0, 0, 0] S1x256x256.size inb_S4x256x256_S1x256x256_0_0_0).toLoadRect (harg6.unread x4)) (arg5.view.readAt (Elt Ideal) (Rect.unit (s := S1x1024) ![0, 0] S1x256.size inb_S1x1024_S1x256_0_0).toLoadRect (harg5.unread x3)) x = lane x0 x2 x3 x4 ((Rect.unit (s := S1024x1024) ![0, 0] ![1024, 256] inbr).emb x) := by
  exact norm_piece x0 x2 x3 x4 0 0 rfl (by omega) _ (fun r cc hc => col_First_0 c arg2 harg2 arg4 harg4 arg8 arg10 x0 x2 inbr h0 hs hR r cc hc) _ (fun l cc => g_load harg6 x4 0 (by omega) inb_S4x256x256_S1x256x256_0_0_0 l cc)
    _ (fun cc hc => s_load harg5 x3 0 inb_S1x1024_S1x256_0_0 cc hc) _ (fun r cc => n41 _ _ _ r cc) inbr x

set_option maxHeartbeats 1000000 in
theorem out_First (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : start (grid0.coords t)) (h1 : ¬evenPlain (grid0.coords t)) (h2 : evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn : Tile) (f : arg7.view.ty.Contents (Elt Ideal)) :
    arg7.view.read (Elt Ideal) (arg7.view.writes (Elt Ideal) f (runFirst (F := Ideal) c (grid0.coords t) arg2 harg2 arg3 harg3 arg4 harg4 arg5 harg5 arg6 harg6 arg7 harg7 arg8 harg8 arg9 harg9 arg10 harg10 h0 h1 h2 h3 h4 x0 x1 x2 x3 x4 xn).1) = lane x0 x2 x3 x4 := by
  funext y
  refine View.read_writes_apply_of_pieces arg7.view f (lane x0 x2 x3 x4) (runFirst (F := Ideal) c (grid0.coords t) arg2 harg2 arg3 harg3 arg4 harg4 arg5 harg5 arg6 harg6 arg7 harg7 arg8 harg8 arg9 harg9 arg10 harg10 h0 h1 h2 h3 h4 x0 x1 x2 x3 x4 xn).1 ?_ y ?_
  · refine List.forall_mem_cons.mpr ⟨fun x => (piece_First_768 c arg2 harg2 arg4 harg4 arg8 arg10 x0 x2 (by decide) rfl (fun i => by fin_cases i <;> rfl) (LoadRect.numel_consLift (Rect.unit (s := S1024x1024) ![0, 768] ![1024, 256] (by decide)).toLoadRect ![1, 1024, 1024] rfl (fun i => by fin_cases i <;> rfl)) arg5 harg5 arg6 harg6 x3 x4 x), ?_⟩
    refine List.forall_mem_cons.mpr ⟨fun x => (piece_First_512 c arg2 harg2 arg4 harg4 arg8 arg10 x0 x2 (by decide) rfl (fun i => by fin_cases i <;> rfl) (LoadRect.numel_consLift (Rect.unit (s := S1024x1024) ![0, 512] ![1024, 256] (by decide)).toLoadRect ![1, 1024, 1024] rfl (fun i => by fin_cases i <;> rfl)) arg5 harg5 arg6 harg6 x3 x4 x), ?_⟩
    refine List.forall_mem_cons.mpr ⟨fun x => (piece_First_256 c arg2 harg2 arg4 harg4 arg8 arg10 x0 x2 (by decide) rfl (fun i => by fin_cases i <;> rfl) (LoadRect.numel_consLift (Rect.unit (s := S1024x1024) ![0, 256] ![1024, 256] (by decide)).toLoadRect ![1, 1024, 1024] rfl (fun i => by fin_cases i <;> rfl)) arg5 harg5 arg6 harg6 x3 x4 x), ?_⟩
    refine List.forall_mem_cons.mpr ⟨fun x => (piece_First_0 c arg2 harg2 arg4 harg4 arg8 arg10 x0 x2 (by decide) rfl (fun i => by fin_cases i <;> rfl) (LoadRect.numel_consLift (Rect.unit (s := S1024x1024) ![0, 0] ![1024, 256] (by decide)).toLoadRect ![1, 1024, 1024] rfl (fun i => by fin_cases i <;> rfl)) arg5 harg5 arg6 harg6 x3 x4 x), ?_⟩
    exact fun p hp => absurd hp List.not_mem_nil
  · have h1 : (y 1).val < 1024 := (y 1).isLt
    have h0 : (y 0).val < 1024 := (y 0).isLt
    rcases (by omega : (768 ≤ (y 1).val ∧ (y 1).val < 1024) ∨ (512 ≤ (y 1).val ∧ (y 1).val < 768) ∨ (256 ≤ (y 1).val ∧ (y 1).val < 512) ∨ (0 ≤ (y 1).val ∧ (y 1).val < 256)) with h | h | h | h
    · exact ⟨_, List.mem_cons_self, mem_cols 768 256 (by decide) y (by omega) (by omega)⟩
    · exact ⟨_, List.mem_cons_of_mem _ (List.mem_cons_self), mem_cols 512 256 (by decide) y (by omega) (by omega)⟩
    · exact ⟨_, List.mem_cons_of_mem _ (List.mem_cons_of_mem _ (List.mem_cons_self)), mem_cols 256 256 (by decide) y (by omega) (by omega)⟩
    · exact ⟨_, List.mem_cons_of_mem _ (List.mem_cons_of_mem _ (List.mem_cons_of_mem _ (List.mem_cons_self))), mem_cols 0 256 (by decide) y (by omega) (by omega)⟩

/-- The copied tile. -/
theorem copied (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : start (grid0.coords t)) (h1 : ¬evenPlain (grid0.coords t)) (h2 : evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn : Tile) (f : arg8.view.ty.Contents (Elt Ideal)) :
    arg8.view.read (Elt Ideal) (arg8.view.writes (Elt Ideal) f (runFirst (F := Ideal) c (grid0.coords t) arg2 harg2 arg3 harg3 arg4 harg4 arg5 harg5 arg6 harg6 arg7 harg7 arg8 harg8 arg9 harg9 arg10 harg10 h0 h1 h2 h3 h4 x0 x1 x2 x3 x4 xn).2.1) = x2 := by
  funext y
  refine (View.read_writes_cons_hit_of_coords arg8.view f (Rect.unit (s := S1024x2048) ![0, 0] S1024x2048.size inb_S1024x2048_S1024x2048_0_0) _ _ y y fun b => ?_).trans
    (congrFun ((p1 _).trans (whole_load harg4 x2 inb_S1024x2048_S1024x2048_0_0)) y)
  fin_cases b
  · show (y 0).val = 0 + 1 * (y 0).val
    omega
  · show (y 1).val = 0 + 1 * (y 1).val
    omega

theorem col_EvenFull_768 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 768] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 768] ![1024, 256] inbr).toLoadRect.shape.numel = ((Rect.unit (s := S1024x1024) ![0, 768] ![1024, 256] inbr).consLift ![1, 1024, 1024] h0 hs).toLoadRect.shape.numel)
    (r : Fin 1024) (cc : Fin 256) (hc : 768 + cc.val < 1024) :
    LoadRect.valAlong (lr := (Rect.unit (s := S1024x1024) ![0, 768] ![1024, 256] inbr).toLoadRect) (LR := ((Rect.unit (s := S1024x1024) ![0, 768] ![1024, 256] inbr).consLift ![1, 1024, 1024] h0 hs).toLoadRect) hR (V := EReal) (runEvenFull.sl.v240 (F := Ideal) c arg2 harg2 arg8 harg8 arg10 x0 xc) (ix2 r cc) = acc x0 xc r ⟨768 + cc.val, hc⟩ := by
  unfold runEvenFull.sl.v240 runEvenFull.sl.H10_1
  exact col_val x0 xc 768 256 arg10.view _ (acc_pay harg2 harg8 x0 xc inb_S1024x2048_S1024x2048_0_0 k0_pay22 mm22) inb_S2x1024x1024_S1x1024x1024_0_0_0 inbr h0 hs (fun _ => rfl) hR r cc hc

theorem piece_EvenFull_768 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 768] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 768] ![1024, 256] inbr).toLoadRect.shape.numel = ((Rect.unit (s := S1024x1024) ![0, 768] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 768] ![1024, 256] inbr).shape.Idx) :
    k0_pay44 (F := Ideal) (LoadRect.valAlong (lr := (Rect.unit (s := S1024x1024) ![0, 768] ![1024, 256] inbr).toLoadRect) (LR := ((Rect.unit (s := S1024x1024) ![0, 768] ![1024, 256] inbr).consLift ![1, 1024, 1024] h0 hs).toLoadRect) hR (V := EReal) (runEvenFull.sl.v240 (F := Ideal) c arg2 harg2 arg8 harg8 arg10 x0 xc)) (arg6.view.readAt (Elt Ideal) (Rect.unit (s := S4x256x256) ![3, 0, 0] S1x256x256.size inb_S4x256x256_S1x256x256_3_0_0).toLoadRect (harg6.unread x4)) (arg5.view.readAt (Elt Ideal) (Rect.unit (s := S1x1024) ![0, 768] S1x256.size inb_S1x1024_S1x256_0_768).toLoadRect (harg5.unread x3)) x = lane x0 xc x3 x4 ((Rect.unit (s := S1024x1024) ![0, 768] ![1024, 256] inbr).emb x) := by
  exact norm_piece x0 xc x3 x4 768 3 rfl (by omega) _ (fun r cc hc => col_EvenFull_768 c arg2 harg2 arg8 harg8 arg10 x0 xc inbr h0 hs hR r cc hc) _ (fun l cc => g_load harg6 x4 3 (by omega) inb_S4x256x256_S1x256x256_3_0_0 l cc)
    _ (fun cc hc => s_load harg5 x3 768 inb_S1x1024_S1x256_0_768 cc hc) _ (fun r cc => n44 _ _ _ r cc) inbr x

theorem col_EvenFull_512 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 512] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 512] ![1024, 256] inbr).toLoadRect.shape.numel = ((Rect.unit (s := S1024x1024) ![0, 512] ![1024, 256] inbr).consLift ![1, 1024, 1024] h0 hs).toLoadRect.shape.numel)
    (r : Fin 1024) (cc : Fin 256) (hc : 512 + cc.val < 1024) :
    LoadRect.valAlong (lr := (Rect.unit (s := S1024x1024) ![0, 512] ![1024, 256] inbr).toLoadRect) (LR := ((Rect.unit (s := S1024x1024) ![0, 512] ![1024, 256] inbr).consLift ![1, 1024, 1024] h0 hs).toLoadRect) hR (V := EReal) (runEvenFull.sl.v223 (F := Ideal) c arg2 harg2 arg8 harg8 arg10 x0 xc) (ix2 r cc) = acc x0 xc r ⟨512 + cc.val, hc⟩ := by
  unfold runEvenFull.sl.v223 runEvenFull.sl.H10_1
  exact col_val x0 xc 512 256 arg10.view _ (acc_pay harg2 harg8 x0 xc inb_S1024x2048_S1024x2048_0_0 k0_pay22 mm22) inb_S2x1024x1024_S1x1024x1024_0_0_0 inbr h0 hs (fun _ => rfl) hR r cc hc

theorem piece_EvenFull_512 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 512] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 512] ![1024, 256] inbr).toLoadRect.shape.numel = ((Rect.unit (s := S1024x1024) ![0, 512] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 512] ![1024, 256] inbr).shape.Idx) :
    k0_pay43 (F := Ideal) (LoadRect.valAlong (lr := (Rect.unit (s := S1024x1024) ![0, 512] ![1024, 256] inbr).toLoadRect) (LR := ((Rect.unit (s := S1024x1024) ![0, 512] ![1024, 256] inbr).consLift ![1, 1024, 1024] h0 hs).toLoadRect) hR (V := EReal) (runEvenFull.sl.v223 (F := Ideal) c arg2 harg2 arg8 harg8 arg10 x0 xc)) (arg6.view.readAt (Elt Ideal) (Rect.unit (s := S4x256x256) ![2, 0, 0] S1x256x256.size inb_S4x256x256_S1x256x256_2_0_0).toLoadRect (harg6.unread x4)) (arg5.view.readAt (Elt Ideal) (Rect.unit (s := S1x1024) ![0, 512] S1x256.size inb_S1x1024_S1x256_0_512).toLoadRect (harg5.unread x3)) x = lane x0 xc x3 x4 ((Rect.unit (s := S1024x1024) ![0, 512] ![1024, 256] inbr).emb x) := by
  exact norm_piece x0 xc x3 x4 512 2 rfl (by omega) _ (fun r cc hc => col_EvenFull_512 c arg2 harg2 arg8 harg8 arg10 x0 xc inbr h0 hs hR r cc hc) _ (fun l cc => g_load harg6 x4 2 (by omega) inb_S4x256x256_S1x256x256_2_0_0 l cc)
    _ (fun cc hc => s_load harg5 x3 512 inb_S1x1024_S1x256_0_512 cc hc) _ (fun r cc => n43 _ _ _ r cc) inbr x

theorem col_EvenFull_256 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 256] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 256] ![1024, 256] inbr).toLoadRect.shape.numel = ((Rect.unit (s := S1024x1024) ![0, 256] ![1024, 256] inbr).consLift ![1, 1024, 1024] h0 hs).toLoadRect.shape.numel)
    (r : Fin 1024) (cc : Fin 256) (hc : 256 + cc.val < 1024) :
    LoadRect.valAlong (lr := (Rect.unit (s := S1024x1024) ![0, 256] ![1024, 256] inbr).toLoadRect) (LR := ((Rect.unit (s := S1024x1024) ![0, 256] ![1024, 256] inbr).consLift ![1, 1024, 1024] h0 hs).toLoadRect) hR (V := EReal) (runEvenFull.sl.v206 (F := Ideal) c arg2 harg2 arg8 harg8 arg10 x0 xc) (ix2 r cc) = acc x0 xc r ⟨256 + cc.val, hc⟩ := by
  unfold runEvenFull.sl.v206 runEvenFull.sl.H10_1
  exact col_val x0 xc 256 256 arg10.view _ (acc_pay harg2 harg8 x0 xc inb_S1024x2048_S1024x2048_0_0 k0_pay22 mm22) inb_S2x1024x1024_S1x1024x1024_0_0_0 inbr h0 hs (fun _ => rfl) hR r cc hc

theorem piece_EvenFull_256 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 256] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 256] ![1024, 256] inbr).toLoadRect.shape.numel = ((Rect.unit (s := S1024x1024) ![0, 256] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 256] ![1024, 256] inbr).shape.Idx) :
    k0_pay42 (F := Ideal) (LoadRect.valAlong (lr := (Rect.unit (s := S1024x1024) ![0, 256] ![1024, 256] inbr).toLoadRect) (LR := ((Rect.unit (s := S1024x1024) ![0, 256] ![1024, 256] inbr).consLift ![1, 1024, 1024] h0 hs).toLoadRect) hR (V := EReal) (runEvenFull.sl.v206 (F := Ideal) c arg2 harg2 arg8 harg8 arg10 x0 xc)) (arg6.view.readAt (Elt Ideal) (Rect.unit (s := S4x256x256) ![1, 0, 0] S1x256x256.size inb_S4x256x256_S1x256x256_1_0_0).toLoadRect (harg6.unread x4)) (arg5.view.readAt (Elt Ideal) (Rect.unit (s := S1x1024) ![0, 256] S1x256.size inb_S1x1024_S1x256_0_256).toLoadRect (harg5.unread x3)) x = lane x0 xc x3 x4 ((Rect.unit (s := S1024x1024) ![0, 256] ![1024, 256] inbr).emb x) := by
  exact norm_piece x0 xc x3 x4 256 1 rfl (by omega) _ (fun r cc hc => col_EvenFull_256 c arg2 harg2 arg8 harg8 arg10 x0 xc inbr h0 hs hR r cc hc) _ (fun l cc => g_load harg6 x4 1 (by omega) inb_S4x256x256_S1x256x256_1_0_0 l cc)
    _ (fun cc hc => s_load harg5 x3 256 inb_S1x1024_S1x256_0_256 cc hc) _ (fun r cc => n42 _ _ _ r cc) inbr x

theorem col_EvenFull_0 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 0] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 256] inbr).toLoadRect.shape.numel = ((Rect.unit (s := S1024x1024) ![0, 0] ![1024, 256] inbr).consLift ![1, 1024, 1024] h0 hs).toLoadRect.shape.numel)
    (r : Fin 1024) (cc : Fin 256) (hc : 0 + cc.val < 1024) :
    LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runEvenFull.sl.v189 (F := Ideal) c arg2 harg2 arg8 harg8 arg10 x0 xc) (ix2 r cc) = acc x0 xc r ⟨0 + cc.val, hc⟩ := by
  unfold runEvenFull.sl.v189 runEvenFull.sl.H10_1
  exact col_val x0 xc 0 256 arg10.view _ (acc_pay harg2 harg8 x0 xc inb_S1024x2048_S1024x2048_0_0 k0_pay22 mm22) inb_S2x1024x1024_S1x1024x1024_0_0_0 inbr h0 hs (fun _ => rfl) hR r cc hc

theorem piece_EvenFull_0 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 0] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 256] inbr).toLoadRect.shape.numel = ((Rect.unit (s := S1024x1024) ![0, 0] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 0] ![1024, 256] inbr).shape.Idx) :
    k0_pay41 (F := Ideal) (LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runEvenFull.sl.v189 (F := Ideal) c arg2 harg2 arg8 harg8 arg10 x0 xc)) (k0_pay40 (F := Ideal) (LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runEvenFull.sl.v189 (F := Ideal) c arg2 harg2 arg8 harg8 arg10 x0 xc))) (arg6.view.readAt (Elt Ideal) (Rect.unit (s := S4x256x256) ![0, 0, 0] S1x256x256.size inb_S4x256x256_S1x256x256_0_0_0).toLoadRect (harg6.unread x4)) (arg5.view.readAt (Elt Ideal) (Rect.unit (s := S1x1024) ![0, 0] S1x256.size inb_S1x1024_S1x256_0_0).toLoadRect (harg5.unread x3)) x = lane x0 xc x3 x4 ((Rect.unit (s := S1024x1024) ![0, 0] ![1024, 256] inbr).emb x) := by
  exact norm_piece x0 xc x3 x4 0 0 rfl (by omega) _ (fun r cc hc => col_EvenFull_0 c arg2 harg2 arg8 harg8 arg10 x0 xc inbr h0 hs hR r cc hc) _ (fun l cc => g_load harg6 x4 0 (by omega) inb_S4x256x256_S1x256x256_0_0_0 l cc)
    _ (fun cc hc => s_load harg5 x3 0 inb_S1x1024_S1x256_0_0 cc hc) _ (fun r cc => n41 _ _ _ r cc) inbr x

set_option maxHeartbeats 1000000 in
theorem out_EvenFull (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : ¬evenPlain (grid0.coords t)) (h2 : evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn xc : Tile) (f : arg7.view.ty.Contents (Elt Ideal)) :
    arg7.view.read (Elt Ideal) (arg7.view.writes (Elt Ideal) f (runEvenFull (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1) = lane x0 xc x3 x4 := by
  funext y
  refine View.read_writes_apply_of_pieces arg7.view f (lane x0 xc x3 x4) (runEvenFull (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1 ?_ y ?_
  · refine List.forall_mem_cons.mpr ⟨fun x => (piece_EvenFull_768 c arg2 harg2 arg8 harg8 arg10 x0 xc (by decide) rfl (fun i => by fin_cases i <;> rfl) (LoadRect.numel_consLift (Rect.unit (s := S1024x1024) ![0, 768] ![1024, 256] (by decide)).toLoadRect ![1, 1024, 1024] rfl (fun i => by fin_cases i <;> rfl)) arg5 harg5 arg6 harg6 x3 x4 x), ?_⟩
    refine List.forall_mem_cons.mpr ⟨fun x => (piece_EvenFull_512 c arg2 harg2 arg8 harg8 arg10 x0 xc (by decide) rfl (fun i => by fin_cases i <;> rfl) (LoadRect.numel_consLift (Rect.unit (s := S1024x1024) ![0, 512] ![1024, 256] (by decide)).toLoadRect ![1, 1024, 1024] rfl (fun i => by fin_cases i <;> rfl)) arg5 harg5 arg6 harg6 x3 x4 x), ?_⟩
    refine List.forall_mem_cons.mpr ⟨fun x => (piece_EvenFull_256 c arg2 harg2 arg8 harg8 arg10 x0 xc (by decide) rfl (fun i => by fin_cases i <;> rfl) (LoadRect.numel_consLift (Rect.unit (s := S1024x1024) ![0, 256] ![1024, 256] (by decide)).toLoadRect ![1, 1024, 1024] rfl (fun i => by fin_cases i <;> rfl)) arg5 harg5 arg6 harg6 x3 x4 x), ?_⟩
    refine List.forall_mem_cons.mpr ⟨fun x => (piece_EvenFull_0 c arg2 harg2 arg8 harg8 arg10 x0 xc (by decide) rfl (fun i => by fin_cases i <;> rfl) (LoadRect.numel_consLift (Rect.unit (s := S1024x1024) ![0, 0] ![1024, 256] (by decide)).toLoadRect ![1, 1024, 1024] rfl (fun i => by fin_cases i <;> rfl)) arg5 harg5 arg6 harg6 x3 x4 x), ?_⟩
    exact fun p hp => absurd hp List.not_mem_nil
  · have h1 : (y 1).val < 1024 := (y 1).isLt
    have h0 : (y 0).val < 1024 := (y 0).isLt
    rcases (by omega : (768 ≤ (y 1).val ∧ (y 1).val < 1024) ∨ (512 ≤ (y 1).val ∧ (y 1).val < 768) ∨ (256 ≤ (y 1).val ∧ (y 1).val < 512) ∨ (0 ≤ (y 1).val ∧ (y 1).val < 256)) with h | h | h | h
    · exact ⟨_, List.mem_cons_self, mem_cols 768 256 (by decide) y (by omega) (by omega)⟩
    · exact ⟨_, List.mem_cons_of_mem _ (List.mem_cons_self), mem_cols 512 256 (by decide) y (by omega) (by omega)⟩
    · exact ⟨_, List.mem_cons_of_mem _ (List.mem_cons_of_mem _ (List.mem_cons_self)), mem_cols 256 256 (by decide) y (by omega) (by omega)⟩
    · exact ⟨_, List.mem_cons_of_mem _ (List.mem_cons_of_mem _ (List.mem_cons_of_mem _ (List.mem_cons_self))), mem_cols 0 256 (by decide) y (by omega) (by omega)⟩

theorem col_EvenPlain_0 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 0] : Fin 2 → ℕ) b + (![1024, 1024] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 1024] inbr).toLoadRect.shape.numel = ((Rect.unit (s := S1024x1024) ![0, 0] ![1024, 1024] inbr).consLift ![1, 1024, 1024] h0 hs).toLoadRect.shape.numel)
    (r : Fin 1024) (cc : Fin 1024) (hc : 0 + cc.val < 1024) :
    LoadRect.valAlong (lr := (Rect.unit (s := S1024x1024) ![0, 0] ![1024, 1024] inbr).toLoadRect) (LR := ((Rect.unit (s := S1024x1024) ![0, 0] ![1024, 1024] inbr).consLift ![1, 1024, 1024] h0 hs).toLoadRect) hR (V := EReal) (runEvenPlain.sl.v189 (F := Ideal) c arg2 harg2 arg8 harg8 arg10 x0 xc) (ix2 r cc) = acc x0 xc r ⟨0 + cc.val, hc⟩ := by
  unfold runEvenPlain.sl.v189 runEvenPlain.sl.H10_1
  exact col_val x0 xc 0 1024 arg10.view _ (acc_pay harg2 harg8 x0 xc inb_S1024x2048_S1024x2048_0_0 k0_pay3 mm3) inb_S2x1024x1024_S1x1024x1024_0_0_0 inbr h0 hs (fun _ => rfl) hR r cc hc

theorem piece_EvenPlain_0 (c : Dev nD) (arg2 : Memref sig .tc .vmem S1024x2048 .bf16) (harg2 : arg2.IsWhole) (arg8 : Memref sig .tc .vmem S1024x2048 .bf16) (harg8 : arg8.IsWhole) (arg10 : Memref sig .tc .vmem S2x1024x1024 .f32) (x0 xc : Tile)
    (inbr : ∀ b, (![0, 0] : Fin 2 → ℕ) b + (![1024, 1024] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 1024] inbr).toLoadRect.shape.numel = ((Rect.unit (s := S1024x1024) ![0, 0] ![1024, 1024] inbr).consLift ![1, 1024, 1024] h0 hs).toLoadRect.shape.numel)
    (x : (Rect.unit (s := S1024x1024) ![0, 0] ![1024, 1024] inbr).shape.Idx) :
    k0_pay21 (F := Ideal) (LoadRect.valAlong (lr := (Rect.unit (s := S1024x1024) ![0, 0] ![1024, 1024] inbr).toLoadRect) (LR := ((Rect.unit (s := S1024x1024) ![0, 0] ![1024, 1024] inbr).consLift ![1, 1024, 1024] h0 hs).toLoadRect) hR (V := EReal) (runEvenPlain.sl.v189 (F := Ideal) c arg2 harg2 arg8 harg8 arg10 x0 xc)) x = acc x0 xc ((Rect.unit (s := S1024x1024) ![0, 0] ![1024, 1024] inbr).emb x 0) ((Rect.unit (s := S1024x1024) ![0, 0] ![1024, 1024] inbr).emb x 1) := by
  rw [pl21]
  exact plain_piece x0 xc 0 1024 (by omega) _ (fun r cc hc => col_EvenPlain_0 c arg2 harg2 arg8 harg8 arg10 x0 xc inbr h0 hs hR r cc hc) inbr x

set_option maxHeartbeats 1000000 in
theorem out_EvenPlain (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : evenPlain (grid0.coords t)) (h2 : ¬evenFull (grid0.coords t)) (h3 : ¬oddPlain (grid0.coords t)) (h4 : ¬oddHalf (grid0.coords t))
    (x0 : Tile) (x1 : Rows) (x2 : Tile) (x3 : Vec Ideal S1x1024 .f32) (x4 : Vec Ideal S4x256x256 .bf16) (xn xc : Tile) (f : arg7.view.ty.Contents (Elt Ideal)) :
    arg7.view.read (Elt Ideal) (arg7.view.writes (Elt Ideal) f (runEvenPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1) = outPlain x0 xc := by
  funext y
  refine View.read_writes_apply_of_pieces arg7.view f (outPlain x0 xc) (runEvenPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1 ?_ y ?_
  · refine List.forall_mem_cons.mpr ⟨fun x => (piece_EvenPlain_0 c arg2 harg2 arg8 harg8 arg10 x0 xc (by decide) rfl (fun i => by fin_cases i <;> rfl) (LoadRect.numel_consLift (Rect.unit (s := S1024x1024) ![0, 0] ![1024, 1024] (by decide)).toLoadRect ![1, 1024, 1024] rfl (fun i => by fin_cases i <;> rfl)) x), ?_⟩
    exact fun p hp => absurd hp List.not_mem_nil
  · have h1 : (y 1).val < 1024 := (y 1).isLt
    have h0 : (y 0).val < 1024 := (y 0).isLt
    exact ⟨_, List.mem_cons_self, mem_cols 0 1024 (by decide) y (by omega) (by omega)⟩

theorem col_OddPlain_0 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 0] : Fin 2 → ℕ) b + (![1024, 1024] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 1024] inbr).toLoadRect.shape.numel = ((Rect.unit (s := S1024x1024) ![0, 0] ![1024, 1024] inbr).consLift ![1, 1024, 1024] h0 hs).toLoadRect.shape.numel)
    (r : Fin 1024) (cc : Fin 1024) (hc : 0 + cc.val < 1024) :
    LoadRect.valAlong (lr := (Rect.unit (s := S1024x1024) ![0, 0] ![1024, 1024] inbr).toLoadRect) (LR := ((Rect.unit (s := S1024x1024) ![0, 0] ![1024, 1024] inbr).consLift ![1, 1024, 1024] h0 hs).toLoadRect) hR (V := EReal) (runOddPlain.sl.v189 (F := Ideal) c arg2 harg2 arg9 harg9 arg10 x0 xc) (ix2 r cc) = acc x0 xc r ⟨0 + cc.val, hc⟩ := by
  unfold runOddPlain.sl.v189 runOddPlain.sl.H10_1
  exact col_val x0 xc 0 1024 arg10.view _ (acc_pay harg2 harg9 x0 xc inb_S1024x2048_S1024x2048_0_0 k0_pay45 mm45) inb_S2x1024x1024_S1x1024x1024_0_0_0 inbr h0 hs (fun _ => rfl) hR r cc hc

theorem piece_OddPlain_0 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 0] : Fin 2 → ℕ) b + (![1024, 1024] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 1024] inbr).toLoadRect.shape.numel = ((Rect.unit (s := S1024x1024) ![0, 0] ![1024, 1024] inbr).consLift ![1, 1024, 1024] h0 hs).toLoadRect.shape.numel)
    (x : (Rect.unit (s := S1024x1024) ![0, 0] ![1024, 1024] inbr).shape.Idx) :
    k0_pay63 (F := Ideal) (LoadRect.valAlong (lr := (Rect.unit (s := S1024x1024) ![0, 0] ![1024, 1024] inbr).toLoadRect) (LR := ((Rect.unit (s := S1024x1024) ![0, 0] ![1024, 1024] inbr).consLift ![1, 1024, 1024] h0 hs).toLoadRect) hR (V := EReal) (runOddPlain.sl.v189 (F := Ideal) c arg2 harg2 arg9 harg9 arg10 x0 xc)) x = acc x0 xc ((Rect.unit (s := S1024x1024) ![0, 0] ![1024, 1024] inbr).emb x 0) ((Rect.unit (s := S1024x1024) ![0, 0] ![1024, 1024] inbr).emb x 1) := by
  rw [pl63]
  exact plain_piece x0 xc 0 1024 (by omega) _ (fun r cc hc => col_OddPlain_0 c arg2 harg2 arg9 harg9 arg10 x0 xc inbr h0 hs hR r cc hc) inbr x

set_option maxHeartbeats 1000000 in
theorem out_OddPlain (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : ¬evenPlain (grid0.coords t)) (h2 : ¬evenFull (grid0.coords t)) (h3 : oddPlain (grid0.coords t)) (h4 : ¬oddHalf (grid0.coords t))
    (x0 : Tile) (x1 : Rows) (x2 : Tile) (x3 : Vec Ideal S1x1024 .f32) (x4 : Vec Ideal S4x256x256 .bf16) (xn xc : Tile) (f : arg7.view.ty.Contents (Elt Ideal)) :
    arg7.view.read (Elt Ideal) (arg7.view.writes (Elt Ideal) f (runOddPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1) = outPlain x0 xc := by
  funext y
  refine View.read_writes_apply_of_pieces arg7.view f (outPlain x0 xc) (runOddPlain (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1 ?_ y ?_
  · refine List.forall_mem_cons.mpr ⟨fun x => (piece_OddPlain_0 c arg2 harg2 arg9 harg9 arg10 x0 xc (by decide) rfl (fun i => by fin_cases i <;> rfl) (LoadRect.numel_consLift (Rect.unit (s := S1024x1024) ![0, 0] ![1024, 1024] (by decide)).toLoadRect ![1, 1024, 1024] rfl (fun i => by fin_cases i <;> rfl)) x), ?_⟩
    exact fun p hp => absurd hp List.not_mem_nil
  · have h1 : (y 1).val < 1024 := (y 1).isLt
    have h0 : (y 0).val < 1024 := (y 0).isLt
    exact ⟨_, List.mem_cons_self, mem_cols 0 1024 (by decide) y (by omega) (by omega)⟩

theorem col_OddHalf_512 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 512] : Fin 2 → ℕ) b + (![1024, 512] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 512] ![1024, 512] inbr).toLoadRect.shape.numel = ((Rect.unit (s := S1024x1024) ![0, 512] ![1024, 512] inbr).consLift ![1, 1024, 1024] h0 hs).toLoadRect.shape.numel)
    (r : Fin 1024) (cc : Fin 512) (hc : 512 + cc.val < 1024) :
    LoadRect.valAlong (lr := (Rect.unit (s := S1024x1024) ![0, 512] ![1024, 512] inbr).toLoadRect) (LR := ((Rect.unit (s := S1024x1024) ![0, 512] ![1024, 512] inbr).consLift ![1, 1024, 1024] h0 hs).toLoadRect) hR (V := EReal) (runOddHalf.sl.v223 (F := Ideal) c arg2 harg2 arg9 harg9 arg10 x0 xc) (ix2 r cc) = acc x0 xc r ⟨512 + cc.val, hc⟩ := by
  unfold runOddHalf.sl.v223 runOddHalf.sl.H10_1
  exact col_val x0 xc 512 512 arg10.view _ (acc_pay harg2 harg9 x0 xc inb_S1024x2048_S1024x2048_0_0 k0_pay64 mm64) inb_S2x1024x1024_S1x1024x1024_0_0_0 inbr h0 hs (fun _ => rfl) hR r cc hc

theorem piece_OddHalf_512 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 512] : Fin 2 → ℕ) b + (![1024, 512] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 512] ![1024, 512] inbr).toLoadRect.shape.numel = ((Rect.unit (s := S1024x1024) ![0, 512] ![1024, 512] inbr).consLift ![1, 1024, 1024] h0 hs).toLoadRect.shape.numel)
    (x : (Rect.unit (s := S1024x1024) ![0, 512] ![1024, 512] inbr).shape.Idx) :
    k0_pay2 (F := Ideal) (LoadRect.valAlong (lr := (Rect.unit (s := S1024x1024) ![0, 512] ![1024, 512] inbr).toLoadRect) (LR := ((Rect.unit (s := S1024x1024) ![0, 512] ![1024, 512] inbr).consLift ![1, 1024, 1024] h0 hs).toLoadRect) hR (V := EReal) (runOddHalf.sl.v223 (F := Ideal) c arg2 harg2 arg9 harg9 arg10 x0 xc)) x = acc x0 xc ((Rect.unit (s := S1024x1024) ![0, 512] ![1024, 512] inbr).emb x 0) ((Rect.unit (s := S1024x1024) ![0, 512] ![1024, 512] inbr).emb x 1) := by
  rw [pl2]
  exact plain_piece x0 xc 512 512 (by omega) _ (fun r cc hc => col_OddHalf_512 c arg2 harg2 arg9 harg9 arg10 x0 xc inbr h0 hs hR r cc hc) inbr x

theorem col_OddHalf_256 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 256] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 256] ![1024, 256] inbr).toLoadRect.shape.numel = ((Rect.unit (s := S1024x1024) ![0, 256] ![1024, 256] inbr).consLift ![1, 1024, 1024] h0 hs).toLoadRect.shape.numel)
    (r : Fin 1024) (cc : Fin 256) (hc : 256 + cc.val < 1024) :
    LoadRect.valAlong (lr := (Rect.unit (s := S1024x1024) ![0, 256] ![1024, 256] inbr).toLoadRect) (LR := ((Rect.unit (s := S1024x1024) ![0, 256] ![1024, 256] inbr).consLift ![1, 1024, 1024] h0 hs).toLoadRect) hR (V := EReal) (runOddHalf.sl.v206 (F := Ideal) c arg2 harg2 arg9 harg9 arg10 x0 xc) (ix2 r cc) = acc x0 xc r ⟨256 + cc.val, hc⟩ := by
  unfold runOddHalf.sl.v206 runOddHalf.sl.H10_1
  exact col_val x0 xc 256 256 arg10.view _ (acc_pay harg2 harg9 x0 xc inb_S1024x2048_S1024x2048_0_0 k0_pay64 mm64) inb_S2x1024x1024_S1x1024x1024_0_0_0 inbr h0 hs (fun _ => rfl) hR r cc hc

theorem piece_OddHalf_256 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 256] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 256] ![1024, 256] inbr).toLoadRect.shape.numel = ((Rect.unit (s := S1024x1024) ![0, 256] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 256] ![1024, 256] inbr).shape.Idx) :
    k0_pay84 (F := Ideal) (LoadRect.valAlong (lr := (Rect.unit (s := S1024x1024) ![0, 256] ![1024, 256] inbr).toLoadRect) (LR := ((Rect.unit (s := S1024x1024) ![0, 256] ![1024, 256] inbr).consLift ![1, 1024, 1024] h0 hs).toLoadRect) hR (V := EReal) (runOddHalf.sl.v206 (F := Ideal) c arg2 harg2 arg9 harg9 arg10 x0 xc)) (arg6.view.readAt (Elt Ideal) (Rect.unit (s := S4x256x256) ![1, 0, 0] S1x256x256.size inb_S4x256x256_S1x256x256_1_0_0).toLoadRect (harg6.unread x4)) (arg5.view.readAt (Elt Ideal) (Rect.unit (s := S1x1024) ![0, 256] S1x256.size inb_S1x1024_S1x256_0_256).toLoadRect (harg5.unread x3)) x = lane x0 xc x3 x4 ((Rect.unit (s := S1024x1024) ![0, 256] ![1024, 256] inbr).emb x) := by
  exact norm_piece x0 xc x3 x4 256 1 rfl (by omega) _ (fun r cc hc => col_OddHalf_256 c arg2 harg2 arg9 harg9 arg10 x0 xc inbr h0 hs hR r cc hc) _ (fun l cc => g_load harg6 x4 1 (by omega) inb_S4x256x256_S1x256x256_1_0_0 l cc)
    _ (fun cc hc => s_load harg5 x3 256 inb_S1x1024_S1x256_0_256 cc hc) _ (fun r cc => n84 _ _ _ r cc) inbr x

theorem col_OddHalf_0 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 0] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 256] inbr).toLoadRect.shape.numel = ((Rect.unit (s := S1024x1024) ![0, 0] ![1024, 256] inbr).consLift ![1, 1024, 1024] h0 hs).toLoadRect.shape.numel)
    (r : Fin 1024) (cc : Fin 256) (hc : 0 + cc.val < 1024) :
    LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runOddHalf.sl.v189 (F := Ideal) c arg2 harg2 arg9 harg9 arg10 x0 xc) (ix2 r cc) = acc x0 xc r ⟨0 + cc.val, hc⟩ := by
  unfold runOddHalf.sl.v189 runOddHalf.sl.H10_1
  exact col_val x0 xc 0 256 arg10.view _ (acc_pay harg2 harg9 x0 xc inb_S1024x2048_S1024x2048_0_0 k0_pay64 mm64) inb_S2x1024x1024_S1x1024x1024_0_0_0 inbr h0 hs (fun _ => rfl) hR r cc hc

theorem piece_OddHalf_0 (c : Dev nD) (arg2 : Memref sig .tc .vmem S1024x2048 .bf16) (harg2 : arg2.IsWhole) (arg9 : Memref sig .tc .vmem S1024x2048 .bf16) (harg9 : arg9.IsWhole) (arg10 : Memref sig .tc .vmem S2x1024x1024 .f32) (x0 xc : Tile)
    (inbr : ∀ b, (![0, 0] : Fin 2 → ℕ) b + (![1024, 256] : Fin 2 → ℕ) b ≤ S1024x1024.size b)
    (h0 : (![1, 1024, 1024] : Fin 3 → ℕ) 0 = 1) (hs : ∀ i : Fin 2, (![1, 1024, 1024] : Fin 3 → ℕ) i.succ = (![1024, 1024] : Fin 2 → ℕ) i)
    (hR : (Rect.unit (s := S1024x1024) ![0, 0] ![1024, 256] inbr).toLoadRect.shape.numel = ((Rect.unit (s := S1024x1024) ![0, 0] ![1024, 256] inbr).consLift ![1, 1024, 1024] h0 hs).toLoadRect.shape.numel)
    (arg5 : Memref sig .tc .vmem S1x1024 .f32) (harg5 : arg5.IsWhole) (arg6 : Memref sig .tc .vmem S4x256x256 .bf16) (harg6 : arg6.IsWhole)
    (x3 : Vec Ideal S1x1024 .f32) (x4 : Vec Ideal S4x256x256 .bf16) (x : (Rect.unit (s := S1024x1024) ![0, 0] ![1024, 256] inbr).shape.Idx) :
    k0_pay83 (F := Ideal) (LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runOddHalf.sl.v189 (F := Ideal) c arg2 harg2 arg9 harg9 arg10 x0 xc)) (k0_pay82 (F := Ideal) (LoadRect.valAlong (lr := (Rect.unit (s := S1024x1024) ![0, 0] ![1024, 256] inbr).toLoadRect) (LR := ((Rect.unit (s := S1024x1024) ![0, 0] ![1024, 256] inbr).consLift ![1, 1024, 1024] h0 hs).toLoadRect) hR (V := EReal) (runOddHalf.sl.v189 (F := Ideal) c arg2 harg2 arg9 harg9 arg10 x0 xc))) (arg6.view.readAt (Elt Ideal) (Rect.unit (s := S4x256x256) ![0, 0, 0] S1x256x256.size inb_S4x256x256_S1x256x256_0_0_0).toLoadRect (harg6.unread x4)) (arg5.view.readAt (Elt Ideal) (Rect.unit (s := S1x1024) ![0, 0] S1x256.size inb_S1x1024_S1x256_0_0).toLoadRect (harg5.unread x3)) x = lane x0 xc x3 x4 ((Rect.unit (s := S1024x1024) ![0, 0] ![1024, 256] inbr).emb x) := by
  exact norm_piece x0 xc x3 x4 0 0 rfl (by omega) _ (fun r cc hc => col_OddHalf_0 c arg2 harg2 arg9 harg9 arg10 x0 xc inbr h0 hs hR r cc hc) _ (fun l cc => g_load harg6 x4 0 (by omega) inb_S4x256x256_S1x256x256_0_0_0 l cc)
    _ (fun cc hc => s_load harg5 x3 0 inb_S1x1024_S1x256_0_0 cc hc) _ (fun r cc => n83 _ _ _ r cc) inbr x

set_option maxHeartbeats 1000000 in
theorem out_OddHalf (c : Dev nD) (t : Fin cfg0.N) (arg2 : Memref sig .tc .vmem S1024x2048 .bf16) (harg2 : arg2.IsWhole) (arg3 : Memref sig .tc .vmem S16384x128 .f32) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S2x1024x1024 .f32) (harg10 : arg10.IsWhole) (h0 : ¬start (grid0.coords t)) (h1 : ¬evenPlain (grid0.coords t)) (h2 : ¬evenFull (grid0.coords t)) (h3 : ¬oddPlain (grid0.coords t)) (h4 : oddHalf (grid0.coords t))
    (x0 : Tile) (x1 : Rows) (x2 : Tile) (x3 : Vec Ideal S1x1024 .f32) (x4 : Vec Ideal S4x256x256 .bf16) (xn xc : Tile) (f : arg7.view.ty.Contents (Elt Ideal)) :
    arg7.view.read (Elt Ideal) (arg7.view.writes (Elt Ideal) f (runOddHalf (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1) = outHalf x0 xc x3 x4 := by
  funext y
  refine View.read_writes_apply_of_pieces arg7.view f (outHalf x0 xc x3 x4) (runOddHalf (F := Ideal) c (grid0.coords t) arg2 harg2 arg3 harg3 arg4 harg4 arg5 harg5 arg6 harg6 arg7 harg7 arg8 harg8 arg9 harg9 arg10 harg10 h0 h1 h2 h3 h4 x0 x1 x2 x3 x4 xn xc).1 ?_ y ?_
  · refine List.forall_mem_cons.mpr ⟨fun x => (piece_OddHalf_512 c arg2 harg2 arg9 harg9 arg10 x0 xc (by decide) rfl (fun i => by fin_cases i <;> rfl) (LoadRect.numel_consLift (Rect.unit (s := S1024x1024) ![0, 512] ![1024, 512] (by decide)).toLoadRect ![1, 1024, 1024] rfl (fun i => by fin_cases i <;> rfl)) x).trans (if_neg (by show ¬ 512 + 1 * (x 1).val < 512; omega)).symm, ?_⟩
    refine List.forall_mem_cons.mpr ⟨fun x => (piece_OddHalf_256 c arg2 harg2 arg9 harg9 arg10 x0 xc (by decide) rfl (fun i => by fin_cases i <;> rfl) (LoadRect.numel_consLift (Rect.unit (s := S1024x1024) ![0, 256] ![1024, 256] (by decide)).toLoadRect ![1, 1024, 1024] rfl (fun i => by fin_cases i <;> rfl)) arg5 harg5 arg6 harg6 x3 x4 x).trans (if_pos (by have := (x 1).isLt; change (x 1).val < 256 at this; show 256 + 1 * (x 1).val < 512; omega)).symm, ?_⟩
    refine List.forall_mem_cons.mpr ⟨fun x => (piece_OddHalf_0 c arg2 harg2 arg9 harg9 arg10 x0 xc (by decide) rfl (fun i => by fin_cases i <;> rfl) (LoadRect.numel_consLift (Rect.unit (s := S1024x1024) ![0, 0] ![1024, 256] (by decide)).toLoadRect ![1, 1024, 1024] rfl (fun i => by fin_cases i <;> rfl)) arg5 harg5 arg6 harg6 x3 x4 x).trans (if_pos (by have := (x 1).isLt; change (x 1).val < 256 at this; show 0 + 1 * (x 1).val < 512; omega)).symm, ?_⟩
    exact fun p hp => absurd hp List.not_mem_nil
  · have h1 : (y 1).val < 1024 := (y 1).isLt
    have h0 : (y 0).val < 1024 := (y 0).isLt
    rcases (by omega : (512 ≤ (y 1).val ∧ (y 1).val < 1024) ∨ (256 ≤ (y 1).val ∧ (y 1).val < 512) ∨ (0 ≤ (y 1).val ∧ (y 1).val < 256)) with h | h | h
    · exact ⟨_, List.mem_cons_self, mem_cols 512 512 (by decide) y (by omega) (by omega)⟩
    · exact ⟨_, List.mem_cons_of_mem _ (List.mem_cons_self), mem_cols 256 256 (by decide) y (by omega) (by omega)⟩
    · exact ⟨_, List.mem_cons_of_mem _ (List.mem_cons_of_mem _ (List.mem_cons_self)), mem_cols 0 256 (by decide) y (by omega) (by omega)⟩

end Cert.InProj.ProjIdeal
end
-- ==== Proof.InProj.ProjIdeal.Tiles.lean ====
module

public import proofs.«01_k».proof.Proof.InProj.ProjIdeal.Fill
public import proofs.«01_k».proof.Proof.InProj.ProjIdeal.Out

@[expose] public section
set_option maxRecDepth 16384
noncomputable section
namespace Cert.InProj.ProjIdeal
open Idealize.ShloMosaic Idealize.ShloMosaic.TcCoe Idealize.SL.Sem Cert.ProjIdeal Cert.ProjIdeal.Gen

/-- Every window's block index at point `t`. -/
theorem idx : ∀ t : Fin cfg0.N, win0_0.index t = ![t.val % 8, 0] ∧ win0_1.index t = ![(min (t.val / 8 + 1) 11 * 1024 + if t.val / 8 < 4 then 0 else 12) * 16, 0] ∧ win0_2.index t = ![0, 0]
    ∧ win0_3.index t = ![0, (if t.val / 8 < 2 then 0 else if t.val / 8 < 3 then 1 else if t.val / 8 < 5 then 2 else 3)] ∧ win0_4.index t = ![(if t.val / 8 < 2 then 0 else if t.val / 8 < 3 then 1 else if t.val / 8 < 5 then 2 else 3), 0, 0] ∧ win0_5.index t = ![t.val % 8, t.val / 8] :=
  (by decide +kernel : ∀ t : Fin grid0.N, _)

variable (m : (ℓ : Loc nD τ sig) → Buf (Elt Ideal) ℓ) (c : Dev nD)

theorem rd1_lt (t : Fin cfg0.N) (p : Fin 16384) : (min (t.val / 8 + 1) 11 * 1024 + if t.val / 8 < 4 then 0 else 12) * 16 + p.val < 196800 := by
  have := lt96 t
  split_ifs <;> omega

theorem rd1 (t : Fin cfg0.N) (p : Fin 16384) (q : Fin 128) :
    iblk m c 1 t (ix2 p q) = V m c main_v1 (ix2 ⟨(min (t.val / 8 + 1) 11 * 1024 + if t.val / 8 < 4 then 0 else 12) * 16 + p.val, rd1_lt t p⟩ q) := by
  have h := (idx t).2.1
  have h0 : win0_1.index t 0 = (min (t.val / 8 + 1) 11 * 1024 + if t.val / 8 < 4 then 0 else 12) * 16 := congrFun h 0
  have h1 : win0_1.index t 1 = 0 := congrFun h 1
  unfold iblk
  show V m c main_v1 ((win0_1.rect t).emb (ix2 p q)) = _
  congr 1
  funext b
  apply Fin.ext
  fin_cases b
  · show win0_1.index t 0 + 1 * p.val = _
    rw [h0, Nat.one_mul]
    rfl
  · show win0_1.index t 1 + 1 * q.val = q.val
    rw [h1]
    omega

/-- The packed rows staged while tile `j` is in use: those of the tile that follows. -/
def rows (j : ℕ) : Rows := iblk m c 1 ⟨min (8 * j) 95, Nat.lt_of_lt_of_eq (by omega) N_0.symm⟩

theorem iblk_rows (t : Fin cfg0.N) : iblk m c 1 t = rows m c (t.val / 8) := by
  funext y
  unfold rows
  obtain ⟨p, q, rfl⟩ : ∃ (p : Fin 16384) (q : Fin 128), y = ix2 p q := ⟨y 0, y 1, by funext b; fin_cases b <;> rfl⟩
  have ht := lt96 t
  rw [rd1, rd1]
  congr 3
  show _ = (min (min (8 * (t.val / 8)) 95 / 8 + 1) 11 * 1024 + if min (8 * (t.val / 8)) 95 / 8 < 4 then 0 else 12) * 16 + p.val
  rw [show min (8 * (t.val / 8)) 95 / 8 = t.val / 8 by omega]

/-- Tile `j` of the weights. -/
def tile : ℕ → Tile
  | 0 => iblk m c 2 ⟨0, Nat.lt_of_lt_of_eq (by omega) N_0.symm⟩
  | j + 1 => fun y => gath (rows m c j) (y 0) (y 1)

/-- After `n` points: the tile in use, and the rows already filled of the tile that follows. -/
def Inv (n : ℕ) (xc xn : Tile) : Prop :=
  xc = tile m c (n / 8) ∧ ∀ y : S1024x2048.Idx, (y 0).val < n % 8 * 128 → xn y = tile m c (n / 8 + 1) y

def Filled (n : ℕ) (xA xB : Tile) : Prop := n ≠ 0 → if n / 8 % 2 = 0 then Inv m c n xA xB else Inv m c n xB xA

theorem filled_zero (xA xB : Tile) : Filled m c 0 xA xB := fun h => absurd rfl h

theorem inv_step (t : Fin cfg0.N) (xc xn : Tile) (h : Inv m c t.val xc xn) :
    if (t.val + 1) % 8 = 0 then Inv m c (t.val + 1) (fill (t.val % 8) (iblk m c 1 t) xn) xc
      else Inv m c (t.val + 1) xc (fill (t.val % 8) (iblk m c 1 t) xn) := by
  have hr : ∀ y : S1024x2048.Idx, (y 0).val < t.val % 8 * 128 + 128 → fill (t.val % 8) (iblk m c 1 t) xn y = tile m c (t.val / 8 + 1) y := by
    intro y hy
    unfold fill
    split_ifs with hb
    · rw [iblk_rows]
      rfl
    · exact h.2 y (by omega)
  split_ifs with h8
  · refine ⟨?_, fun y hy => absurd hy (by omega)⟩
    funext y
    have hy : (y 0).val < 1024 := (y 0).isLt
    rw [hr y (by omega), show (t.val + 1) / 8 = t.val / 8 + 1 by omega]
  · refine ⟨?_, fun y hy => ?_⟩
    · rw [show (t.val + 1) / 8 = t.val / 8 by omega]
      exact h.1
    · rw [hr y (by omega), show (t.val + 1) / 8 = t.val / 8 by omega]

theorem step_even (t : Fin cfg0.N) (hp : t.val / 8 % 2 = 0) (xA xB : Tile) (h : Inv m c t.val xA xB) :
    Filled m c (t.val + 1) xA (fill (t.val % 8) (iblk m c 1 t) xB) := by
  intro _
  have hs := inv_step m c t xA xB h
  by_cases h8 : (t.val + 1) % 8 = 0
  · rw [if_pos h8] at hs
    rw [if_neg (by omega)]
    exact hs
  · rw [if_neg h8] at hs
    rw [if_pos (by omega)]
    exact hs

theorem filled_even (t : Fin cfg0.N) (hp : t.val ≠ 0 ∧ t.val / 8 % 2 = 0) (xA xB : Tile) (h : Filled m c t.val xA xB) :
    Filled m c (t.val + 1) xA (fill (t.val % 8) (iblk m c 1 t) xB) := by
  have h' := h hp.1
  rw [if_pos hp.2] at h'
  exact step_even m c t hp.2 xA xB h'

theorem filled_odd (t : Fin cfg0.N) (hp : t.val / 8 % 2 = 1) (xA xB : Tile) (h : Filled m c t.val xA xB) :
    Filled m c (t.val + 1) (fill (t.val % 8) (iblk m c 1 t) xA) xB := by
  have h' := h (by omega)
  rw [if_neg (by omega)] at h'
  intro _
  have hs := inv_step m c t xB xA h'
  by_cases h8 : (t.val + 1) % 8 = 0
  · rw [if_pos h8] at hs
    rw [if_pos (by omega)]
    exact hs
  · rw [if_neg h8] at hs
    rw [if_neg (by omega)]
    exact hs

theorem cur_even (t : Fin cfg0.N) (h0 : t.val ≠ 0) (hp : t.val / 8 % 2 = 0) (xA xB : Tile) (h : Filled m c t.val xA xB) : xA = tile m c (t.val / 8) := by
  have h' := h h0
  rw [if_pos hp] at h'
  exact h'.1

theorem cur_odd (t : Fin cfg0.N) (h0 : t.val ≠ 0) (hp : t.val / 8 % 2 = 1) (xA xB : Tile) (h : Filled m c t.val xA xB) : xB = tile m c (t.val / 8) := by
  have h' := h h0
  rw [if_neg (by omega)] at h'
  exact h'.1

theorem cur_first (t : Fin cfg0.N) (h : t.val = 0) : iblk m c 2 t = tile m c (t.val / 8) := by
  obtain ⟨n, hn⟩ := t
  change n = 0 at h
  subst h
  have h0 : (⟨0, hn⟩ : Fin cfg0.N).val / 8 = 0 := Nat.zero_div 8
  rw [h0, tile]

theorem filled_first (t : Fin cfg0.N) (h : t.val = 0) (xB : Tile) : Filled m c (t.val + 1) (iblk m c 2 t) (fill (t.val % 8) (iblk m c 1 t) xB) :=
  step_even m c t (by omega) _ _ ⟨cur_first m c t h, fun y hy => absurd hy (by omega)⟩

/-- What is left in the output's buffer at a point. -/
def tileOut (t : Fin cfg0.N) : S1024x1024.Idx → EReal :=
  if t.val / 8 = 0 ∨ t.val / 8 = 2 then lane (iblk m c 0 t) (tile m c (t.val / 8)) (iblk m c 3 t) (iblk m c 4 t)
  else if t.val / 8 = 3 ∨ t.val / 8 = 5 then outHalf (iblk m c 0 t) (tile m c (t.val / 8)) (iblk m c 3 t) (iblk m c 4 t)
  else outPlain (iblk m c 0 t) (tile m c (t.val / 8))

theorem tileOut_EvenFull (t : Fin cfg0.N) (h : t.val / 8 = 0 ∨ t.val / 8 = 2) : tileOut m c t = lane (iblk m c 0 t) (tile m c (t.val / 8)) (iblk m c 3 t) (iblk m c 4 t) := if_pos h
theorem tileOut_OddHalf (t : Fin cfg0.N) (h : t.val / 8 = 3 ∨ t.val / 8 = 5) : tileOut m c t = outHalf (iblk m c 0 t) (tile m c (t.val / 8)) (iblk m c 3 t) (iblk m c 4 t) :=
  (if_neg (by omega)).trans (if_pos h)
theorem tileOut_EvenPlain (t : Fin cfg0.N) (h : t.val / 8 = 4 ∨ t.val / 8 = 6 ∨ t.val / 8 = 8 ∨ t.val / 8 = 10) : tileOut m c t = outPlain (iblk m c 0 t) (tile m c (t.val / 8)) :=
  (if_neg (by omega)).trans (if_neg (by omega))
theorem tileOut_OddPlain (t : Fin cfg0.N) (h : t.val / 8 = 1 ∨ t.val / 8 = 7 ∨ t.val / 8 = 9 ∨ t.val / 8 = 11) : tileOut m c t = outPlain (iblk m c 0 t) (tile m c (t.val / 8)) :=
  (if_neg (by omega)).trans (if_neg (by omega))

end Cert.InProj.ProjIdeal
end
-- ==== Proof.InProj.ProjIdeal.Host.lean ====
module

public import proofs.«01_k».proof.Proof.InProj.ProjIdeal.Tiles
public import Idealize.ShloMosaic.Lib.StableHlo.Run

@[expose] public section
set_option maxRecDepth 16384
noncomputable section
namespace Cert.InProj.ProjIdeal
open Idealize.ShloMosaic Idealize.ShloMosaic.TcCoe Idealize.SL.Sem Idealize.ShloMosaic.StableHlo Cert.ProjIdeal Cert.ProjIdeal.Gen

variable (m : (ℓ : Loc nD τ sig) → Buf (Elt Ideal) ℓ) (c : Dev nD)

/-- The packed rows: the transposed weights, 128 values to a row. -/
theorem V_v1 : V m c main_v1 = shapeCast S196800x128 (transpose S12300x2048 [1, 0] (m ((c : Thread nD τ).loc main_arg1)) transposes_S2048x12300_S12300x2048_1_0) shapeCasts_S12300x2048_S196800x128 := by
  simp only [V, hostOps0, hostOps0_1, hostOps0_2, hostOps0_3, hostOps0_4, hostOps0_5, hostOps0_6, List.flatten_cons, List.flatten_nil, List.append_nil, List.cons_append, List.nil_append,
    TRef.binary, TRef.nullary, TRef.unary, TRef.ternary, TRef.toBuf, TRef.ofBuf, cast_eq]
  after_results_simp <;> rfl

/-- The first tile: the first rows of the packed ones, read back as a tile. -/
theorem V_v4 : V m c main_v4 = shapeCast S1024x2048 (extractStridedSlice S16384x128 ![0, 0] (V m c main_v1) slices_S196800x128_S16384x128_0_0) shapeCasts_S16384x128_S1024x2048 := by
  rw [V_v1]
  simp only [V, hostOps0, hostOps0_1, hostOps0_2, hostOps0_3, hostOps0_4, hostOps0_5, hostOps0_6, List.flatten_cons, List.flatten_nil, List.append_nil, List.cons_append, List.nil_append,
    TRef.binary, TRef.nullary, TRef.unary, TRef.ternary, TRef.toBuf, TRef.ofBuf, cast_eq]
  after_results_simp <;> rfl

/-- Whether a block of the group matrices is one of the first ten. -/
def narrow : S16x256x256.Idx → BitVec 1 := cmpi .slt (iotaInDim S16x256x256 32 0) (broadcastInDim S16x256x256 ![] bcast_S_S16x256x256 (constantI S_ 32 10#32))

def widths : S16x256x256.Idx → BitVec 32 := select narrow (broadcastInDim S16x256x256 ![] bcast_S_S16x256x256 (constantI S_ 32 64#32)) (broadcastInDim S16x256x256 ![] bcast_S_S16x256x256 (constantI S_ 32 128#32))

/-- The group matrices. -/
theorem V_v16 : (V m c main_v16 : S16x256x256.Idx → EReal) = select (cmpi .eq (Host.divsi (iotaInDim S16x256x256 32 1) widths) (Host.divsi (iotaInDim S16x256x256 32 2) widths))
    (select narrow (broadcastInDim S16x256x256 ![] bcast_S_S16x256x256 (constant (F := Ideal) S_ .f32 0x3C800000#32)) (broadcastInDim S16x256x256 ![] bcast_S_S16x256x256 (constant (F := Ideal) S_ .f32 0x3C000000#32)))
    (broadcastInDim S16x256x256 ![] bcast_S_S16x256x256 (constant (F := Ideal) S_ .f32 0x00000000#32)) := by
  simp only [V, hostOps0, hostOps0_1, hostOps0_2, hostOps0_3, hostOps0_4, hostOps0_5, hostOps0_6, List.flatten_cons, List.flatten_nil, List.append_nil, List.cons_append, List.nil_append,
    TRef.binary, TRef.nullary, TRef.unary, TRef.ternary, TRef.toBuf, TRef.ofBuf, cast_eq]
  after_results_simp <;> rfl

/-- A packed row's value is the weight it was laid out from. -/
theorem v1_apply (p : Fin 196800) (q : Fin 128) (k : Fin 2048) (j : Fin 12300) (h : p.val * 128 + q.val = j.val * 2048 + k.val) :
    (V m c main_v1 : S196800x128.Idx → EReal) (ix2 p q) = m ((c : Thread nD τ).loc main_arg1) (ix2 k j) := by
  rw [V_v1]
  generalize m ((c : Thread nD τ).loc main_arg1) = x
  rw [shapeCast_apply _ shapeCasts_S12300x2048_S196800x128 (ix2 p q) (ix2 j k) (by rw [Shape.rowMajor_val_two, Shape.rowMajor_val_two]; exact h.symm)]
  exact transpose_apply [1, 0] x transposes_S2048x12300_S12300x2048_1_0 (ix2 j k) (ix2 k j) (fun b => match b with
    | ⟨0, _⟩ => rfl
    | ⟨1, _⟩ => rfl)

theorem v4_apply (r : Fin 1024) (k : Fin 2048) :
    (V m c main_v4 : S1024x2048.Idx → EReal) (ix2 r k) = m ((c : Thread nD τ).loc main_arg1) (ix2 k ⟨r.val, by omega⟩) := by
  rw [V_v4, shapeCast_apply _ shapeCasts_S16384x128_S1024x2048 (ix2 r k) (ix2 ⟨r.val * 16 + k.val / 128, by omega⟩ ⟨k.val % 128, by omega⟩)
    (by rw [Shape.rowMajor_val_two, Shape.rowMajor_val_two]; show (r.val * 16 + k.val / 128) * 128 + k.val % 128 = r.val * 2048 + k.val; omega)]
  exact (congrArg (V m c main_v1) (funext fun b => Fin.ext (match b with
    | ⟨0, _⟩ => Nat.zero_add _
    | ⟨1, _⟩ => Nat.zero_add _))).trans (v1_apply m c ⟨r.val * 16 + k.val / 128, by omega⟩ ⟨k.val % 128, by omega⟩ k ⟨r.val, by omega⟩
      (by show (r.val * 16 + k.val / 128) * 128 + k.val % 128 = r.val * 2048 + k.val; omega))

theorem slt10 : ∀ h : Fin 16, IntOp.cmpi .slt (BitVec.ofNat 32 h.val) 10#32 = if h.val < 10 then 1#1 else 0#1 := by decide +kernel
theorem div64 : ∀ l : Fin 256, IntOp.divsi .host (BitVec.ofNat 32 l.val) 64#32 = BitVec.ofNat 32 (l.val / 64) := by decide +kernel
theorem div128 : ∀ l : Fin 256, IntOp.divsi .host (BitVec.ofNat 32 l.val) 128#32 = BitVec.ofNat 32 (l.val / 128) := by decide +kernel
theorem eq4 : ∀ a b : Fin 4, IntOp.cmpi .eq (BitVec.ofNat 32 a.val) (BitVec.ofNat 32 b.val) = if a.val = b.val then 1#1 else 0#1 := by decide +kernel

/-- A group matrix holds one over the head's width where both lanes are of one head, else zero. -/
theorem v16_apply (h : Fin 16) (l e : Fin 256) :
    (V m c main_v16 : S16x256x256.Idx → EReal) (ix3 h l e) = if h.val < 10 then (if l.val / 64 = e.val / 64 then Ideal.ofBits .f32 0x3C800000#32 else 0)
      else if l.val / 128 = e.val / 128 then Ideal.ofBits .f32 0x3C000000#32 else 0 := by
  rw [V_v16]
  have hz : Ideal.ofBits .f32 0x00000000#32 = 0 := Ideal.ofBits_zero_f32
  have hn : narrow (ix3 h l e) = if h.val < 10 then 1#1 else 0#1 := slt10 h
  show Scalar.select (IntOp.cmpi .eq (IntOp.divsi .host (BitVec.ofNat 32 l.val) (Scalar.select (narrow (ix3 h l e)) 64#32 128#32)) (IntOp.divsi .host (BitVec.ofNat 32 e.val) (Scalar.select (narrow (ix3 h l e)) 64#32 128#32)))
    (Scalar.select (narrow (ix3 h l e)) (Ideal.ofBits .f32 0x3C800000#32) (Ideal.ofBits .f32 0x3C000000#32)) (Ideal.ofBits .f32 0x00000000#32) = _
  rw [hn, hz]
  by_cases hh : h.val < 10
  · rw [if_pos hh, if_pos hh]
    show Scalar.select (IntOp.cmpi .eq (IntOp.divsi .host (BitVec.ofNat 32 l.val) 64#32) (IntOp.divsi .host (BitVec.ofNat 32 e.val) 64#32)) (Ideal.ofBits .f32 0x3C800000#32) 0 = _
    rw [div64, div64]
    have := eq4 ⟨l.val / 64, by omega⟩ ⟨e.val / 64, by omega⟩
    rw [this]
    show Scalar.select (if l.val / 64 = e.val / 64 then 1#1 else 0#1) _ _ = _
    split_ifs <;> rfl
  · rw [if_neg hh, if_neg hh]
    show Scalar.select (IntOp.cmpi .eq (IntOp.divsi .host (BitVec.ofNat 32 l.val) 128#32) (IntOp.divsi .host (BitVec.ofNat 32 e.val) 128#32)) (Ideal.ofBits .f32 0x3C000000#32) 0 = _
    rw [div128, div128]
    have := eq4 ⟨l.val / 128, by omega⟩ ⟨e.val / 128, by omega⟩
    rw [this]
    show Scalar.select (if l.val / 128 = e.val / 128 then 1#1 else 0#1) _ _ = _
    split_ifs <;> rfl

end Cert.InProj.ProjIdeal
end
-- ==== Proof.InProj.Group.lean ====
module

public import proofs.«01_k».proof.Proof.Math.Row
public import Idealize.ShloMosaic.Lib.Pointwise

@[expose] public section
noncomputable section
namespace Cert.InProj
open Idealize.ShloMosaic

theorem ofBits_64 : Ideal.ofBits FTy.f32 0x42800000#32 = ((64 : ℝ) : EReal) := by
  simp [Ideal.ofBits, Ideal.ieee]
  rw [← EReal.coe_mul]
  norm_num

theorem ofBits_128 : Ideal.ofBits FTy.f32 0x43000000#32 = ((128 : ℝ) : EReal) := by
  simp [Ideal.ofBits, Ideal.ieee]
  rw [← EReal.coe_mul]
  norm_num

theorem ofBits_inv64 : Ideal.ofBits FTy.f32 0x3C800000#32 = ((1 / 64 : ℝ) : EReal) := by
  simp [Ideal.ofBits, Ideal.ieee]
  rw [← EReal.coe_mul]
  norm_num

theorem ofBits_inv128 : Ideal.ofBits FTy.f32 0x3C000000#32 = ((1 / 128 : ℝ) : EReal) := by
  simp [Ideal.ofBits, Ideal.ieee]
  rw [← EReal.coe_mul]
  norm_num

/-- Weights that are one value inside one group of lanes and zero outside leave that group's lanes. -/
theorem group_sum (n q : ℕ) (hn : 0 < n) (hq : q * n + n ≤ 256) (a : ℕ → EReal) (w : EReal) :
    ∑ l : Fin 256, a l.val * a l.val * (if l.val / n = q then w else 0) = ∑ l : Fin n, a (q * n + l.val) * a (q * n + l.val) * w := by
  rw [Fin.sum_univ_eq_sum_range (fun l => a l * a l * (if l / n = q then w else 0)) 256, Fin.sum_univ_eq_sum_range (fun l => a (q * n + l) * a (q * n + l) * w) n]
  have hs : Finset.Ico (q * n) (q * n + n) ⊆ Finset.range 256 := fun x hx => by
    rw [Finset.mem_Ico] at hx
    rw [Finset.mem_range]
    omega
  rw [← Finset.sum_subset hs (fun x _ hx => by
    rw [if_neg (fun h => hx (by
      rw [Finset.mem_Ico]
      have h1 := Nat.div_add_mod x n
      have h2 := Nat.mod_lt x hn
      rw [h, Nat.mul_comm] at h1
      omega)), mul_zero])]
  rw [Finset.sum_Ico_eq_sum_range, Nat.add_sub_cancel_left]
  refine Finset.sum_congr rfl fun l hl => ?_
  rw [Finset.mem_range] at hl
  rw [if_pos]
  rw [Nat.mul_comm, Nat.mul_add_div hn, Nat.div_eq_of_lt hl, Nat.add_zero]

/-- The weighted sum over all lanes is the mean over one head. -/
theorem group_mean (n q : ℕ) (hn : 0 < n) (hq : q * n + n ≤ 256) (a : ℕ → EReal) (w d : EReal) (hw : w = ((1 / (n : ℝ) : ℝ) : EReal)) (hd : d = ((n : ℝ) : EReal)) :
    ∑ l : Fin 256, a l.val * a l.val * (if l.val / n = q then w else 0) = Ideal.div (∑ l : Fin n, a (q * n + l.val) * a (q * n + l.val)) d := by
  have hn' : (0 : ℝ) < n := by exact_mod_cast hn
  rw [group_sum n q hn hq, hw, hd, ← Row.sum_mul_real _ _ _ (by positivity), Ideal.div_coe hn'.ne', one_div]

/-- One column of a head divided by the head's root mean square and scaled. `a` gives the head's columns, `e` is the column. -/
def unitAt (n : ℕ) (d : BitVec 32) (a : ℕ → EReal) (e : ℕ) (s : EReal) : EReal :=
  a e * Ideal.rsqrt (Ideal.div (∑ l : Fin n, a (e / n * n + l.val) * a (e / n * n + l.val)) (Ideal.ofBits .f32 d) + Ideal.ofBits .f32 0x358637BD#32) * s

/-- Entry `j` of row `r` of the whole product. -/
def prod (x0 : (⟨2, ![8192, 2048]⟩ : Shape).Idx → EReal) (x1 : (⟨2, ![2048, 12300]⟩ : Shape).Idx → EReal) (r : Fin 8192) (j : ℕ) : EReal :=
  if h : j < 12300 then ∑ k : Fin 2048, x0 (ix2 r k) * x1 (ix2 k ⟨j, h⟩) else 0

def scale (x2 : (⟨2, ![1, 4096]⟩ : Shape).Idx → EReal) (j : ℕ) : EReal := if h : j < 4096 then x2 (ix2 0 ⟨j, h⟩) else 0

/-- Entry `e` of row `r` of the projection: the query and key columns normed by head, the others plain, the forget columns left out. -/
def entry (x0 : (⟨2, ![8192, 2048]⟩ : Shape).Idx → EReal) (x1 : (⟨2, ![2048, 12300]⟩ : Shape).Idx → EReal) (x2 : (⟨2, ![1, 4096]⟩ : Shape).Idx → EReal)
    (r : Fin 8192) (e : ℕ) : EReal :=
  if e < 1024 then unitAt 64 0x42800000#32 (prod x0 x1 r) e (scale x2 e)
  else if e < 2048 then prod x0 x1 r e
  else if e < 3584 then unitAt 64 0x42800000#32 (fun j => prod x0 x1 r (2048 + j)) (e - 2048) (scale x2 (e - 1024))
  else if e < 5120 then prod x0 x1 r e
  else if e < 5632 then unitAt 128 0x43000000#32 (fun j => prod x0 x1 r (5132 + j)) (e - 5120) (scale x2 (e - 2048))
  else prod x0 x1 r (e + 12)

end Cert.InProj
end
-- ==== Proof.InProj.ProjIdeal.Value.lean ====
module

public import proofs.«01_k».proof.Proof.InProj.ProjIdeal.Host
public import proofs.«01_k».proof.Proof.InProj.Group

@[expose] public section
set_option maxRecDepth 16384
noncomputable section
namespace Cert.InProj.ProjIdeal
open Idealize.ShloMosaic Idealize.ShloMosaic.TcCoe Idealize.SL.Sem Cert.ProjIdeal Cert.ProjIdeal.Gen

variable (m : (ℓ : Loc nD τ sig) → Buf (Elt Ideal) ℓ) (c : Dev nD)

/-- The slot of the scales and of the group matrices that a column tile uses. -/
def slot (j : ℕ) : ℕ := if j < 2 then 0 else if j < 3 then 1 else if j < 5 then 2 else 3

/-- The columns left out before a column tile. -/
def gap (j : ℕ) : ℕ := if j < 5 then 0 else 12

theorem slot_lt (j : ℕ) : slot j < 4 := by
  unfold slot
  split_ifs <;> omega

theorem gap_le (j : ℕ) : gap j ≤ 12 := by
  unfold gap
  split_ifs <;> omega

theorem rd0 (t : Fin cfg0.N) (r : Fin 1024) (k : Fin 2048) :
    iblk m c 0 t (ix2 r k) = m ((c : Thread nD τ).loc main_arg0) (ix2 ⟨t.val % 8 * 1024 + r.val, by omega⟩ k) := by
  rw [← V_main_arg0 m c]
  have h0 : win0_0.index t 0 = t.val % 8 := congrFun (idx t).1 0
  have h1 : win0_0.index t 1 = 0 := congrFun (idx t).1 1
  unfold iblk
  show V m c main_arg0 ((win0_0.rect t).emb (ix2 r k)) = _
  congr 1
  funext b
  apply Fin.ext
  fin_cases b
  · show win0_0.index t 0 * 1024 + 1 * r.val = t.val % 8 * 1024 + r.val
    rw [h0]
    omega
  · show win0_0.index t 1 * 2048 + 1 * k.val = k.val
    rw [h1]
    omega

theorem rd2 (t : Fin cfg0.N) (p : Fin 1024) (q : Fin 2048) : iblk m c 2 t (ix2 p q) = V m c main_v4 (ix2 p q) := by
  have h0 : win0_2.index t 0 = 0 := congrFun (idx t).2.2.1 0
  have h1 : win0_2.index t 1 = 0 := congrFun (idx t).2.2.1 1
  unfold iblk
  show V m c main_v4 ((win0_2.rect t).emb (ix2 p q)) = _
  congr 1
  funext b
  apply Fin.ext
  fin_cases b
  · show win0_2.index t 0 * 1024 + 1 * p.val = p.val
    rw [h0]
    omega
  · show win0_2.index t 1 * 2048 + 1 * q.val = q.val
    rw [h1]
    omega

theorem rd3 (t : Fin cfg0.N) (e : Fin 1024) :
    iblk m c 3 t (ix2 0 e) = scale (m ((c : Thread nD τ).loc main_arg2)) (slot (t.val / 8) * 1024 + e.val) := by
  rw [← V_main_arg2 m c]
  have hs := slot_lt (t.val / 8)
  have h0 : win0_3.index t 0 = 0 := congrFun (idx t).2.2.2.1 0
  have h1 : win0_3.index t 1 = slot (t.val / 8) := congrFun (idx t).2.2.2.1 1
  unfold scale
  rw [dif_pos (by omega)]
  unfold iblk
  show V m c main_arg2 ((win0_3.rect t).emb (ix2 0 e)) = _
  congr 1
  funext b
  apply Fin.ext
  fin_cases b
  · show win0_3.index t 0 * 1 + 1 * 0 = 0
    rw [h0]
  · show win0_3.index t 1 * 1024 + 1 * e.val = slot (t.val / 8) * 1024 + e.val
    rw [h1]
    omega

theorem rd4 (t : Fin cfg0.N) (h : Fin 4) (l e : Fin 256) :
    iblk m c 4 t (ix3 h l e) = V m c main_v16 (ix3 ⟨slot (t.val / 8) * 4 + h.val, by have := slot_lt (t.val / 8); omega⟩ l e) := by
  have h0 : win0_4.index t 0 = slot (t.val / 8) := congrFun (idx t).2.2.2.2.1 0
  have h1 : win0_4.index t 1 = 0 := congrFun (idx t).2.2.2.2.1 1
  have h2 : win0_4.index t 2 = 0 := congrFun (idx t).2.2.2.2.1 2
  unfold iblk
  show V m c main_v16 ((win0_4.rect t).emb (ix3 h l e)) = _
  congr 1
  funext b
  apply Fin.ext
  fin_cases b
  · show win0_4.index t 0 * 4 + 1 * h.val = slot (t.val / 8) * 4 + h.val
    rw [h0]
    omega
  · show win0_4.index t 1 * 256 + 1 * l.val = l.val
    rw [h1]
    omega
  · show win0_4.index t 2 * 256 + 1 * e.val = e.val
    rw [h2]
    omega

/-- A tile's entry is the weight of its column. -/
theorem tile_apply (j : ℕ) (hj : j < 12) (p : Fin 1024) (q : Fin 2048) :
    tile m c j (ix2 p q) = m ((c : Thread nD τ).loc main_arg1) (ix2 q ⟨j * 1024 + gap j + p.val, by have := gap_le j; omega⟩) := by
  cases j with
  | zero =>
    rw [tile, rd2, v4_apply]
    congr 2
    exact Fin.ext (by show p.val = 0 * 1024 + 0 + p.val; omega)
  | succ j =>
    show gath (rows m c j) p q = _
    unfold gath rows
    rw [rd1]
    refine v1_apply m c _ _ q _ ?_
    show ((min (min (8 * j) 95 / 8 + 1) 11 * 1024 + if min (8 * j) 95 / 8 < 4 then 0 else 12) * 16 + (p.val * 16 + q.val / 128)) * 128 + q.val % 128
      = ((j + 1) * 1024 + gap (j + 1) + p.val) * 2048 + q.val
    rw [show min (8 * j) 95 / 8 = j by omega, show min (j + 1) 11 = j + 1 by omega]
    unfold gap
    split_ifs <;> omega

/-- An entry of a tile's product is an entry of the whole product. -/
theorem acc_apply (t : Fin cfg0.N) (r e : Fin 1024) :
    acc (iblk m c 0 t) (tile m c (t.val / 8)) r e = prod (m ((c : Thread nD τ).loc main_arg0)) (m ((c : Thread nD τ).loc main_arg1)) ⟨t.val % 8 * 1024 + r.val, by omega⟩ (t.val / 8 * 1024 + gap (t.val / 8) + e.val) := by
  have ht := lt96 t
  have hg := gap_le (t.val / 8)
  unfold acc prod
  rw [dif_pos (by omega)]
  refine Finset.sum_congr rfl fun k _ => ?_
  rw [rd0, tile_apply m c _ (by omega)]

/-- A normed column of a tile, over the columns from the tile's first on. -/
theorem lane_unit (n : ℕ) (d : BitVec 32) (t : Fin cfg0.N) (y : S1024x1024.Idx) (w : EReal)
    (hn : n = 64 ∨ n = 128) (hw : w = ((1 / (n : ℝ) : ℝ) : EReal)) (hd : Ideal.ofBits .f32 d = ((n : ℝ) : EReal))
    (hg : ∀ l : Fin 256, iblk m c 4 t (ix3 ⟨(y 1).val / 256, by have := (y 1).isLt; change (y 1).val < 1024 at this; omega⟩ l ⟨(y 1).val % 256, by omega⟩) = if l.val / n = (y 1).val % 256 / n then w else 0) :
    lane (iblk m c 0 t) (tile m c (t.val / 8)) (iblk m c 3 t) (iblk m c 4 t) y
      = unitAt n d (fun j => prod (m ((c : Thread nD τ).loc main_arg0)) (m ((c : Thread nD τ).loc main_arg1)) ⟨t.val % 8 * 1024 + (y 0).val, by have := (y 0).isLt; change (y 0).val < 1024 at this; omega⟩ (t.val / 8 * 1024 + gap (t.val / 8) + j)) (y 1).val
          (scale (m ((c : Thread nD τ).loc main_arg2)) (slot (t.val / 8) * 1024 + (y 1).val)) := by
  have hy : (y 1).val < 1024 := (y 1).isLt
  unfold lane nrm unitAt
  simp only [hg]
  rw [acc_apply m c t (y 0) (y 1), rd3 m c t (y 1)]
  congr 3
  refine congrArg (· + _) ?_
  have hm := group_mean n ((y 1).val % 256 / n) (by omega) (by rcases hn with rfl | rfl <;> omega)
    (fun l => prod (m ((c : Thread nD τ).loc main_arg0)) (m ((c : Thread nD τ).loc main_arg1)) ⟨t.val % 8 * 1024 + (y 0).val, by have := (y 0).isLt; change (y 0).val < 1024 at this; omega⟩ (t.val / 8 * 1024 + gap (t.val / 8) + ((y 1).val / 256 * 256 + l)))
    w (Ideal.ofBits .f32 d) hw hd
  refine Eq.trans (Finset.sum_congr rfl fun l _ => ?_) (hm.trans ?_)
  · exact congrArg (fun z : EReal => z * z * _) (acc_apply m c t (y 0) ⟨(y 1).val / 256 * 256 + l.val, by omega⟩)
  · refine congrArg (Ideal.div · _) (Finset.sum_congr rfl fun l _ => ?_)
    have : (y 1).val / 256 * 256 + ((y 1).val % 256 / n * n + l.val) = (y 1).val / n * n + l.val := by rcases hn with rfl | rfl <;> omega
    rw [this]

theorem lane_64 (t : Fin cfg0.N) (y : S1024x1024.Idx) (h : slot (t.val / 8) * 4 + (y 1).val / 256 < 10) :
    lane (iblk m c 0 t) (tile m c (t.val / 8)) (iblk m c 3 t) (iblk m c 4 t) y
      = unitAt 64 0x42800000#32 (fun j => prod (m ((c : Thread nD τ).loc main_arg0)) (m ((c : Thread nD τ).loc main_arg1)) ⟨t.val % 8 * 1024 + (y 0).val, by have := (y 0).isLt; change (y 0).val < 1024 at this; omega⟩ (t.val / 8 * 1024 + gap (t.val / 8) + j)) (y 1).val
          (scale (m ((c : Thread nD τ).loc main_arg2)) (slot (t.val / 8) * 1024 + (y 1).val)) :=
  lane_unit m c 64 _ t y (Ideal.ofBits .f32 0x3C800000#32) (Or.inl rfl) (by rw [ofBits_inv64]; norm_num) (by rw [ofBits_64]; norm_num) fun l => by
    rw [rd4, v16_apply, if_pos h]

theorem lane_128 (t : Fin cfg0.N) (y : S1024x1024.Idx) (h : ¬slot (t.val / 8) * 4 + (y 1).val / 256 < 10) :
    lane (iblk m c 0 t) (tile m c (t.val / 8)) (iblk m c 3 t) (iblk m c 4 t) y
      = unitAt 128 0x43000000#32 (fun j => prod (m ((c : Thread nD τ).loc main_arg0)) (m ((c : Thread nD τ).loc main_arg1)) ⟨t.val % 8 * 1024 + (y 0).val, by have := (y 0).isLt; change (y 0).val < 1024 at this; omega⟩ (t.val / 8 * 1024 + gap (t.val / 8) + j)) (y 1).val
          (scale (m ((c : Thread nD τ).loc main_arg2)) (slot (t.val / 8) * 1024 + (y 1).val)) :=
  lane_unit m c 128 _ t y (Ideal.ofBits .f32 0x3C000000#32) (Or.inr rfl) (by rw [ofBits_inv128]; norm_num) (by rw [ofBits_128]; norm_num) fun l => by
    rw [rd4, v16_apply, if_neg h]

/-- A column's head may be counted from any column at which a head begins. -/
theorem unitAt_shift (n : ℕ) (hn : 0 < n) (d : BitVec 32) (a : ℕ → EReal) (k e : ℕ) (s : EReal) :
    unitAt n d (fun j => a (k * n + j)) e s = unitAt n d a (k * n + e) s := by
  unfold unitAt
  have h : (k * n + e) / n = k + e / n := by rw [Nat.mul_comm, Nat.mul_add_div hn]
  simp only [h, Nat.add_mul, Nat.add_assoc]

/-- What a point leaves in the output's buffer is the projection's block. -/
theorem tileOut_apply (t : Fin cfg0.N) (y : S1024x1024.Idx) :
    tileOut m c t y = entry (m ((c : Thread nD τ).loc main_arg0)) (m ((c : Thread nD τ).loc main_arg1)) (m ((c : Thread nD τ).loc main_arg2))
      ⟨t.val % 8 * 1024 + (y 0).val, by have := (y 0).isLt; change (y 0).val < 1024 at this; omega⟩ (t.val / 8 * 1024 + (y 1).val) := by
  have ht := lt96 t
  have hy : (y 1).val < 1024 := (y 1).isLt
  have pl := acc_apply m c t (y 0) (y 1)
  have l64 := lane_64 m c t y
  have l128 := lane_128 m c t y
  unfold tileOut outHalf outPlain entry
  generalize prod (m ((c : Thread nD τ).loc main_arg0)) (m ((c : Thread nD τ).loc main_arg1)) = P at *
  generalize scale (m ((c : Thread nD τ).loc main_arg2)) = S at *
  by_cases h0 : t.val / 8 = 0
  · rw [if_pos (by omega), if_pos (by omega), l64 (by rw [h0, show slot 0 = 0 from rfl]; omega), h0, show gap 0 = 0 from rfl, show slot 0 = 0 from rfl]
    simp only [Nat.zero_mul, Nat.zero_add]
  by_cases h1 : t.val / 8 = 1
  · rw [if_neg (by omega), if_neg (by omega), if_neg (by omega), if_pos (by omega)]
    refine pl.trans ?_
    rw [h1]
    rfl
  by_cases h2 : t.val / 8 = 2
  · rw [if_pos (by omega), if_neg (by omega), if_neg (by omega), if_pos (by omega), l64 (by rw [h2, show slot 2 = 1 from rfl]; omega), h2, show gap 2 = 0 from rfl, show slot 2 = 1 from rfl,
      show 2 * 1024 + (y 1).val - 2048 = (y 1).val by omega, show 2 * 1024 + (y 1).val - 1024 = 1 * 1024 + (y 1).val by omega]
  by_cases h3 : t.val / 8 = 3
  · rw [if_neg (by omega), if_pos (by omega)]
    by_cases hh : (y 1).val < 512
    · rw [if_pos hh, if_neg (by omega), if_neg (by omega), if_pos (by omega), l64 (by rw [h3, show slot 3 = 2 from rfl]; omega), h3, show gap 3 = 0 from rfl, show slot 3 = 2 from rfl,
        show 3 * 1024 + (y 1).val - 2048 = 16 * 64 + (y 1).val by omega, show 3 * 1024 + (y 1).val - 1024 = 2 * 1024 + (y 1).val by omega, ← unitAt_shift 64 (by omega)]
      congr 1
      funext j
      congr 1
      omega
    · rw [if_neg hh, if_neg (by omega), if_neg (by omega), if_neg (by omega), if_pos (by omega)]
      refine pl.trans ?_
      rw [h3]
      rfl
  by_cases h4 : t.val / 8 = 4
  · rw [if_neg (by omega), if_neg (by omega), if_neg (by omega), if_neg (by omega), if_neg (by omega), if_pos (by omega)]
    refine pl.trans ?_
    rw [h4]
    rfl
  by_cases h5 : t.val / 8 = 5
  · rw [if_neg (by omega), if_pos (by omega)]
    by_cases hh : (y 1).val < 512
    · rw [if_pos hh, if_neg (by omega), if_neg (by omega), if_neg (by omega), if_neg (by omega), if_pos (by omega), l128 (by rw [h5, show slot 5 = 3 from rfl]; omega), h5, show gap 5 = 12 from rfl, show slot 5 = 3 from rfl,
        show 5 * 1024 + (y 1).val - 5120 = (y 1).val by omega, show 5 * 1024 + (y 1).val - 2048 = 3 * 1024 + (y 1).val by omega]
    · rw [if_neg hh, if_neg (by omega), if_neg (by omega), if_neg (by omega), if_neg (by omega), if_neg (by omega)]
      refine pl.trans ?_
      rw [h5, show gap 5 = 12 from rfl, show 5 * 1024 + 12 + (y 1).val = 5 * 1024 + (y 1).val + 12 by omega]
  rw [if_neg (by omega), if_neg (by omega), if_neg (by omega), if_neg (by omega), if_neg (by omega), if_neg (by omega), if_neg (by omega)]
  refine pl.trans ?_
  rw [show gap (t.val / 8) = 12 from if_neg (by omega), show t.val / 8 * 1024 + 12 + (y 1).val = t.val / 8 * 1024 + (y 1).val + 12 by omega]

end Cert.InProj.ProjIdeal
end
-- ==== Proof.InProj.ProjIdeal.Exact.lean ====
module

public import proofs.«01_k».proof.Proof.InProj.ProjIdeal.Tiles

@[expose] public section

set_option maxRecDepth 16384

noncomputable section

namespace Cert.InProj.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal Cert.ProjIdeal.Gen Cert.InProj.ProjIdeal

local notation "𝕄" => MT nD τ sig Unit (Elt Ideal) ℕ (UR sig nD τ) ℕ

variable (m : (ℓ : Loc nD τ sig) → Buf (Elt Ideal) ℓ) (ρ : Dev nD → PrngReg)

/-- What the scratch holds after `n` points: the tile in use and the rows already filled of the tile that follows. -/
def Φs (c : Dev nD) (n : ℕ) : sProp 𝕄 :=
  iprop(iprop((∃ xA xB, iprop(⌜Filled m c n xA xB⌝ ∗ owns (c : Thread nD τ) wA fullShare xA ∗ owns (c : Thread nD τ) wB fullShare xB))
    ∗ (∃ d, owns (c : Thread nD τ) accM fullShare d)) ∗ (∃ r, prngReg c r))

/-- The proof data of the pipeline: every input's buffer keeps its block, the output's is left at its tile, and between points the scratch is as filled so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut m c t
  Φ n := Φs m c n.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileOut m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem live_5 : ∀ t : Fin cfg0.N, cfg0.idle 5 (grid0.coords t) = false := by decide +kernel
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1000000 in
/-- The body at the first point: the first tile is copied, an even tile all normed follows. -/
theorem body_First (c : Dev nD) (t : Fin cfg0.N) (h : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Φs m c t.val from rfl, show (dats m 0 c).Φ t.succ = Φs m c (t.val + 1) from rfl]
  unfold Φs
  rw [show (dats m 0 c).leavesExact 5 t = owns (c : Thread nD τ) (st5 t) fullShare ((dats m 0 c).after 5 t) from by
    unfold Dat.leavesExact; rw [live_5 t], after0_5]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, %xB, %hf, HA, HB⟩, HC⟩, Hg⟩, Ho, ⟨%d0, H0⟩, ⟨%d1, H1⟩, ⟨%d2, H2⟩, ⟨%d3, H3⟩, ⟨%d4, H4⟩, ⟨%d5, H5⟩⟩
  have c0 : start (grid0.coords t) := (start_iff t).mpr (by omega)
  have c1 : ¬evenPlain (grid0.coords t) := fun h => absurd ((evenPlain_iff t).mp h) (by omega)
  have c2 : evenFull (grid0.coords t) := (evenFull_iff t).mpr (by omega)
  have c3 : ¬oddPlain (grid0.coords t) := fun h => absurd ((oddPlain_iff t).mp h) (by omega)
  have c4 : ¬oddHalf (grid0.coords t) := fun h => absurd ((oddHalf_iff t).mp h) (by omega)
  have hn := filled_first m c t h xB
  have ho := tileOut_EvenFull m c t (by omega)
  have hc := cur_first m c t h
  iapply ((runFirst (F := Ideal) c (grid0.coords t) (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexists _; iexact HA
  isplitl [HB]; · iexact HB
  isplitl [HC]; · iexact HC
  iintro ⟨H0, H1, H2, H3, H4, ⟨%e5, H5⟩, ⟨%eA, HA⟩, HB, HC⟩
  isplitl [HA HB HC Hg]
  · isplitl [HA HB HC]
    · isplitl [HA HB]
      · iexists _, _; isplitr
        · ipureintro; exact hn
        isplitl [HA]
        · unfold owns; iexists _; isplitr; swap; · iexact HA
          ipureintro; exact copied c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB eA
        · unfold owns; iexists _; isplitr; swap; · iexact HB
          ipureintro; exact fill_First c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr; swap; · iexact H5
  ipureintro; rw [ho, ← hc]; exact out_First c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB e5

set_option maxHeartbeats 1000000 in
/-- The body at an even tile all of whose columns are normed, after the first point. -/
theorem body_EvenFull (c : Dev nD) (t : Fin cfg0.N) (hz : t.val ≠ 0) (h : t.val / 8 = 0 ∨ t.val / 8 = 2) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Φs m c t.val from rfl, show (dats m 0 c).Φ t.succ = Φs m c (t.val + 1) from rfl]
  unfold Φs
  rw [show (dats m 0 c).leavesExact 5 t = owns (c : Thread nD τ) (st5 t) fullShare ((dats m 0 c).after 5 t) from by
    unfold Dat.leavesExact; rw [live_5 t], after0_5]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, %xB, %hf, HA, HB⟩, HC⟩, Hg⟩, Ho, ⟨%d0, H0⟩, ⟨%d1, H1⟩, ⟨%d2, H2⟩, ⟨%d3, H3⟩, ⟨%d4, H4⟩, ⟨%d5, H5⟩⟩
  have c0 : ¬start (grid0.coords t) := fun h => absurd ((start_iff t).mp h) (by omega)
  have c1 : ¬evenPlain (grid0.coords t) := fun h => absurd ((evenPlain_iff t).mp h) (by omega)
  have c2 : evenFull (grid0.coords t) := (evenFull_iff t).mpr (by omega)
  have c3 : ¬oddPlain (grid0.coords t) := fun h => absurd ((oddPlain_iff t).mp h) (by omega)
  have c4 : ¬oddHalf (grid0.coords t) := fun h => absurd ((oddHalf_iff t).mp h) (by omega)
  have hn := filled_even m c t (by omega) xA xB hf
  have ho := tileOut_EvenFull m c t h
  have hc := cur_even m c t (by omega) (by omega) xA xB hf
  iapply ((runEvenFull (F := Ideal) c (grid0.coords t) (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB xA).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA HB]
      · iexists _, _; isplitr
        · ipureintro; exact hn
        isplitl [HA]
        · iexact HA
        · unfold owns; iexists _; isplitr; swap; · iexact HB
          ipureintro; exact fill_EvenFull c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB xA
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr; swap; · iexact H5
  ipureintro; rw [ho, ← hc]; exact out_EvenFull c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB xA e5

set_option maxHeartbeats 1000000 in
/-- The body at an even tile without normed columns. -/
theorem body_EvenPlain (c : Dev nD) (t : Fin cfg0.N) (h : t.val / 8 = 4 ∨ t.val / 8 = 6 ∨ t.val / 8 = 8 ∨ t.val / 8 = 10) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Φs m c t.val from rfl, show (dats m 0 c).Φ t.succ = Φs m c (t.val + 1) from rfl]
  unfold Φs
  rw [show (dats m 0 c).leavesExact 5 t = owns (c : Thread nD τ) (st5 t) fullShare ((dats m 0 c).after 5 t) from by
    unfold Dat.leavesExact; rw [live_5 t], after0_5]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, %xB, %hf, HA, HB⟩, HC⟩, Hg⟩, Ho, ⟨%d0, H0⟩, ⟨%d1, H1⟩, ⟨%d2, H2⟩, ⟨%d3, H3⟩, ⟨%d4, H4⟩, ⟨%d5, H5⟩⟩
  have c0 : ¬start (grid0.coords t) := fun h => absurd ((start_iff t).mp h) (by omega)
  have c1 : evenPlain (grid0.coords t) := (evenPlain_iff t).mpr (by omega)
  have c2 : ¬evenFull (grid0.coords t) := fun h => absurd ((evenFull_iff t).mp h) (by omega)
  have c3 : ¬oddPlain (grid0.coords t) := fun h => absurd ((oddPlain_iff t).mp h) (by omega)
  have c4 : ¬oddHalf (grid0.coords t) := fun h => absurd ((oddHalf_iff t).mp h) (by omega)
  have hn := filled_even m c t (by omega) xA xB hf
  have ho := tileOut_EvenPlain m c t h
  have hc := cur_even m c t (by omega) (by omega) xA xB hf
  iapply ((runEvenPlain (F := Ideal) c (grid0.coords t) (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB xA).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA HB]
      · iexists _, _; isplitr
        · ipureintro; exact hn
        isplitl [HA]
        · iexact HA
        · unfold owns; iexists _; isplitr; swap; · iexact HB
          ipureintro; exact fill_EvenPlain c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB xA
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr; swap; · iexact H5
  ipureintro; rw [ho, ← hc]; exact out_EvenPlain c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xB xA e5

set_option maxHeartbeats 1000000 in
/-- The body at an odd tile without normed columns. -/
theorem body_OddPlain (c : Dev nD) (t : Fin cfg0.N) (h : t.val / 8 = 1 ∨ t.val / 8 = 7 ∨ t.val / 8 = 9 ∨ t.val / 8 = 11) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Φs m c t.val from rfl, show (dats m 0 c).Φ t.succ = Φs m c (t.val + 1) from rfl]
  unfold Φs
  rw [show (dats m 0 c).leavesExact 5 t = owns (c : Thread nD τ) (st5 t) fullShare ((dats m 0 c).after 5 t) from by
    unfold Dat.leavesExact; rw [live_5 t], after0_5]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, %xB, %hf, HA, HB⟩, HC⟩, Hg⟩, Ho, ⟨%d0, H0⟩, ⟨%d1, H1⟩, ⟨%d2, H2⟩, ⟨%d3, H3⟩, ⟨%d4, H4⟩, ⟨%d5, H5⟩⟩
  have c0 : ¬start (grid0.coords t) := fun h => absurd ((start_iff t).mp h) (by omega)
  have c1 : ¬evenPlain (grid0.coords t) := fun h => absurd ((evenPlain_iff t).mp h) (by omega)
  have c2 : ¬evenFull (grid0.coords t) := fun h => absurd ((evenFull_iff t).mp h) (by omega)
  have c3 : oddPlain (grid0.coords t) := (oddPlain_iff t).mpr (by omega)
  have c4 : ¬oddHalf (grid0.coords t) := fun h => absurd ((oddHalf_iff t).mp h) (by omega)
  have hn := filled_odd m c t (by omega) xA xB hf
  have ho := tileOut_OddPlain m c t h
  have hc := cur_odd m c t (by omega) (by omega) xA xB hf
  iapply ((runOddPlain (F := Ideal) c (grid0.coords t) (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xA xB).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA HB]
      · iexists _, _; isplitr
        · ipureintro; exact hn
        isplitl [HA]
        · unfold owns; iexists _; isplitr; swap; · iexact HA
          ipureintro; exact fill_OddPlain c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xA xB
        · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr; swap; · iexact H5
  ipureintro; rw [ho, ← hc]; exact out_OddPlain c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xA xB e5

set_option maxHeartbeats 1000000 in
/-- The body at an odd tile whose first half is normed. -/
theorem body_OddHalf (c : Dev nD) (t : Fin cfg0.N) (h : t.val / 8 = 3 ∨ t.val / 8 = 5) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.castSucc = Φs m c t.val from rfl, show (dats m 0 c).Φ t.succ = Φs m c (t.val + 1) from rfl]
  unfold Φs
  rw [show (dats m 0 c).leavesExact 5 t = owns (c : Thread nD τ) (st5 t) fullShare ((dats m 0 c).after 5 t) from by
    unfold Dat.leavesExact; rw [live_5 t], after0_5]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨⟨⟨⟨%xA, %xB, %hf, HA, HB⟩, HC⟩, Hg⟩, Ho, ⟨%d0, H0⟩, ⟨%d1, H1⟩, ⟨%d2, H2⟩, ⟨%d3, H3⟩, ⟨%d4, H4⟩, ⟨%d5, H5⟩⟩
  have c0 : ¬start (grid0.coords t) := fun h => absurd ((start_iff t).mp h) (by omega)
  have c1 : ¬evenPlain (grid0.coords t) := fun h => absurd ((evenPlain_iff t).mp h) (by omega)
  have c2 : ¬evenFull (grid0.coords t) := fun h => absurd ((evenFull_iff t).mp h) (by omega)
  have c3 : ¬oddPlain (grid0.coords t) := fun h => absurd ((oddPlain_iff t).mp h) (by omega)
  have c4 : oddHalf (grid0.coords t) := (oddHalf_iff t).mpr (by omega)
  have hn := filled_odd m c t (by omega) xA xB hf
  have ho := tileOut_OddHalf m c t h
  have hc := cur_odd m c t (by omega) (by omega) xA xB hf
  iapply ((runOddHalf (F := Ideal) c (grid0.coords t) (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xA xB).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HA]; · iexact HA
  isplitl [HB]; · iexact HB
  isplitl [HC]; · iexact HC
  iintro ⟨H0, H1, H2, H3, H4, ⟨%e5, H5⟩, HA, HB, HC⟩
  isplitl [HA HB HC Hg]
  · isplitl [HA HB HC]
    · isplitl [HA HB]
      · iexists _, _; isplitr
        · ipureintro; exact hn
        isplitl [HA]
        · unfold owns; iexists _; isplitr; swap; · iexact HA
          ipureintro; exact fill_OddHalf c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xA xB
        · iexact HB
      iexact HC
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr; swap; · iexact H5
  ipureintro; rw [ho, ← hc]; exact out_OddHalf c t (st0 t) (hst0 t) (st1 t) (hst1 t) (st2 t) (hst2 t) (st3 t) (hst3 t) (st4 t) (hst4 t) (st5 t) (hst5 t) wA (Memref.isWhole_whole _) wB (Memref.isWhole_whole _) accM (Memref.isWhole_whole _) c0 c1 c2 c3 c4 (iblk m c 0 t) (iblk m c 1 t) (iblk m c 2 t) (iblk m c 3 t) (iblk m c 4 t) xA xB e5

/-- The body at any point. -/
theorem sound_body (c : Dev nD) (t : Fin cfg0.N) :
    bodyPre m c t ⊢ wp frame (wpE (defs₀ (F := Ideal)) Variants.none c none) Set.univ (bodyAt0 t) (fun _ => bodyPost m c t) := by
  have ht := lt96 t
  rcases (by omega : t.val = 0 ∨ (t.val ≠ 0 ∧ (t.val / 8 = 0 ∨ t.val / 8 = 2)) ∨ (t.val / 8 = 4 ∨ t.val / 8 = 6 ∨ t.val / 8 = 8 ∨ t.val / 8 = 10)
    ∨ (t.val / 8 = 1 ∨ t.val / 8 = 7 ∨ t.val / 8 = 9 ∨ t.val / 8 = 11) ∨ (t.val / 8 = 3 ∨ t.val / 8 = 5)) with h | h | h | h | h
  · exact body_First m c t h
  · exact body_EvenFull m c t h.1 h.2
  · exact body_EvenPlain m c t h
  · exact body_OddPlain m c t h
  · exact body_OddHalf m c t h

theorem row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, row]
  exact triple_restated (sound_body m c t) rfl .rfl fun _ => .rfl

theorem enter (c : Dev nD) : (Pipeline.ΦA spec0 c : sProp 𝕄) ⊢ Φs m c 0 := by
  rw [rest_eq]
  unfold Φs
  iintro ⟨⟨⟨%xA, HA⟩, ⟨%xB, HB⟩, HC⟩, Hg⟩
  isplitl [HA HB HC]
  · isplitl [HA HB]
    · iexists _, _; isplitr
      · ipureintro; exact filled_zero m c xA xB
      isplitl [HA]; · iexact HA
      iexact HB
    iexact HC
  iexact Hg

theorem leave (c : Dev nD) (n : ℕ) : Φs m c n ⊢ (Pipeline.ΦA spec0 c : sProp 𝕄) := by
  rw [rest_eq]
  unfold Φs
  iintro ⟨⟨⟨%xA, %xB, -, HA, HB⟩, HC⟩, Hg⟩
  isplitl [HA HB HC]
  · isplitl [HA]; · iexists _; iexact HA
    isplitl [HB]; · iexists _; iexact HB
    iexact HC
  iexact Hg

set_option backward.isDefEq.respectTransparency.types false in
/-- Every execution ends with the arrays of the inputs as they were, the output's array at the tiles left, and every semaphore counter at zero. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => enter m c) (hout := fun c => leave m c _)

end Cert.InProj.Exact

end
-- ==== Proof.InProj.RefRead.lean ====
module

public import proofs.«01_k».proof.Proof.Gen.ProjReferenceIdeal.Read
public import proofs.«01_k».proof.Proof.InProj.Group

@[expose] public section
set_option maxRecDepth 16384
noncomputable section
namespace Cert.InProj
open Idealize.ShloMosaic Idealize.SL.Sem Cert.ProjReferenceIdeal Cert.ProjReferenceIdeal.Gen Cert.ProjReferenceIdeal.Read

abbrev X0 := (⟨S8192x2048, .bf16⟩ : BufTy).Contents (Elt Ideal)
abbrev X1 := (⟨S2048x12300, .f32⟩ : BufTy).Contents (Elt Ideal)
abbrev X2 := (⟨S1x4096, .f32⟩ : BufTy).Contents (Elt Ideal)

theorem prod_read (x0 : X0) (x1 : X1) (r : Fin 8192) (j : Fin 12300) : val_main_v1 x0 x1 (ix2 r j) = prod x0 x1 r j.val := by
  unfold prod
  rw [dif_pos j.isLt]
  pointwise [val_main_v1, val_main_v0]

theorem a_col (x0 : X0) (x1 : X1) (r : Fin 8192) (h : Fin 16) (l : Fin 64) :
    val_main_v3 x0 x1 (ix3 r h l) = prod x0 x1 r (0 + (h.val * 64 + l.val)) := by
  rw [← prod_read x0 x1 r ⟨0 + (h.val * 64 + l.val), by omega⟩]
  pointwise [val_main_v3, val_main_v2]

theorem a_sum (x0 : X0) (x1 : X1) (r : Fin 8192) (h : Fin 16) :
    val_main_v5 x0 x1 (ix2 r h) = ∑ l : Fin 64, val_main_v3 x0 x1 (ix3 r h l) * val_main_v3 x0 x1 (ix3 r h l) := by
  pointwise [val_main_v5, val_main_v4, val_main_cst]

theorem a_root (x0 : X0) (x1 : X1) (r : Fin 8192) (h : Fin 16) :
    val_main_v11 x0 x1 (ix3 r h 0) = Ideal.rsqrt (Ideal.div (val_main_v5 x0 x1 (ix2 r h)) (Ideal.ofBits .f32 0x42800000#32) + Ideal.ofBits .f32 0x358637BD#32) := by
  pointwise [val_main_v11, val_main_v10, val_main_v8, val_main_v6, val_main_v7, val_main_cst_0, val_main_v9, val_main_cst_1]

theorem a_out (x0 : X0) (x1 : X1) (x2 : X2) (r : Fin 8192) (e : Fin 1024) :
    val_main_v17 x0 x1 x2 (ix2 r e) = val_main_v3 x0 x1 (ix3 r ⟨e.val / 64, by omega⟩ ⟨e.val % 64, by omega⟩) * val_main_v11 x0 x1 (ix3 r ⟨e.val / 64, by omega⟩ 0)
      * x2 (ix2 0 ⟨0 + e.val, by omega⟩) := by
  pointwise [val_main_v17, val_main_v14, val_main_v13, val_main_v12, val_main_v16, val_main_v15]

theorem a_unit (x0 : X0) (x1 : X1) (x2 : X2) (r : Fin 8192) (e : Fin 1024) :
    val_main_v17 x0 x1 x2 (ix2 r e) = unitAt 64 0x42800000#32 (fun j => prod x0 x1 r (0 + j)) e.val (scale x2 (0 + e.val)) := by
  rw [a_out, a_root, a_sum]
  simp only [a_col]
  unfold unitAt scale
  rw [dif_pos (by omega), show e.val / 64 * 64 + e.val % 64 = e.val by omega]

theorem b_col (x0 : X0) (x1 : X1) (r : Fin 8192) (h : Fin 24) (l : Fin 64) :
    val_main_v20 x0 x1 (ix3 r h l) = prod x0 x1 r (2048 + (h.val * 64 + l.val)) := by
  rw [← prod_read x0 x1 r ⟨2048 + (h.val * 64 + l.val), by omega⟩]
  pointwise [val_main_v20, val_main_v19]

theorem b_sum (x0 : X0) (x1 : X1) (r : Fin 8192) (h : Fin 24) :
    val_main_v22 x0 x1 (ix2 r h) = ∑ l : Fin 64, val_main_v20 x0 x1 (ix3 r h l) * val_main_v20 x0 x1 (ix3 r h l) := by
  pointwise [val_main_v22, val_main_v21, val_main_cst_2]

theorem b_root (x0 : X0) (x1 : X1) (r : Fin 8192) (h : Fin 24) :
    val_main_v28 x0 x1 (ix3 r h 0) = Ideal.rsqrt (Ideal.div (val_main_v22 x0 x1 (ix2 r h)) (Ideal.ofBits .f32 0x42800000#32) + Ideal.ofBits .f32 0x358637BD#32) := by
  pointwise [val_main_v28, val_main_v27, val_main_v25, val_main_v23, val_main_v24, val_main_cst_3, val_main_v26, val_main_cst_4]

theorem b_out (x0 : X0) (x1 : X1) (x2 : X2) (r : Fin 8192) (e : Fin 1536) :
    val_main_v34 x0 x1 x2 (ix2 r e) = val_main_v20 x0 x1 (ix3 r ⟨e.val / 64, by omega⟩ ⟨e.val % 64, by omega⟩) * val_main_v28 x0 x1 (ix3 r ⟨e.val / 64, by omega⟩ 0)
      * x2 (ix2 0 ⟨1024 + e.val, by omega⟩) := by
  pointwise [val_main_v34, val_main_v31, val_main_v30, val_main_v29, val_main_v33, val_main_v32]

theorem b_unit (x0 : X0) (x1 : X1) (x2 : X2) (r : Fin 8192) (e : Fin 1536) :
    val_main_v34 x0 x1 x2 (ix2 r e) = unitAt 64 0x42800000#32 (fun j => prod x0 x1 r (2048 + j)) e.val (scale x2 (1024 + e.val)) := by
  rw [b_out, b_root, b_sum]
  simp only [b_col]
  unfold unitAt scale
  rw [dif_pos (by omega), show e.val / 64 * 64 + e.val % 64 = e.val by omega]

theorem c_col (x0 : X0) (x1 : X1) (r : Fin 8192) (h : Fin 4) (l : Fin 128) :
    val_main_v37 x0 x1 (ix3 r h l) = prod x0 x1 r (5132 + (h.val * 128 + l.val)) := by
  rw [← prod_read x0 x1 r ⟨5132 + (h.val * 128 + l.val), by omega⟩]
  pointwise [val_main_v37, val_main_v36]

theorem c_sum (x0 : X0) (x1 : X1) (r : Fin 8192) (h : Fin 4) :
    val_main_v39 x0 x1 (ix2 r h) = ∑ l : Fin 128, val_main_v37 x0 x1 (ix3 r h l) * val_main_v37 x0 x1 (ix3 r h l) := by
  pointwise [val_main_v39, val_main_v38, val_main_cst_5]

theorem c_root (x0 : X0) (x1 : X1) (r : Fin 8192) (h : Fin 4) :
    val_main_v45 x0 x1 (ix3 r h 0) = Ideal.rsqrt (Ideal.div (val_main_v39 x0 x1 (ix2 r h)) (Ideal.ofBits .f32 0x43000000#32) + Ideal.ofBits .f32 0x358637BD#32) := by
  pointwise [val_main_v45, val_main_v44, val_main_v42, val_main_v40, val_main_v41, val_main_cst_6, val_main_v43, val_main_cst_7]

theorem c_out (x0 : X0) (x1 : X1) (x2 : X2) (r : Fin 8192) (e : Fin 512) :
    val_main_v51 x0 x1 x2 (ix2 r e) = val_main_v37 x0 x1 (ix3 r ⟨e.val / 128, by omega⟩ ⟨e.val % 128, by omega⟩) * val_main_v45 x0 x1 (ix3 r ⟨e.val / 128, by omega⟩ 0)
      * x2 (ix2 0 ⟨3072 + e.val, by omega⟩) := by
  pointwise [val_main_v51, val_main_v48, val_main_v47, val_main_v46, val_main_v50, val_main_v49]

theorem c_unit (x0 : X0) (x1 : X1) (x2 : X2) (r : Fin 8192) (e : Fin 512) :
    val_main_v51 x0 x1 x2 (ix2 r e) = unitAt 128 0x43000000#32 (fun j => prod x0 x1 r (5132 + j)) e.val (scale x2 (3072 + e.val)) := by
  rw [c_out, c_root, c_sum]
  simp only [c_col]
  unfold unitAt scale
  rw [dif_pos (by omega), show e.val / 128 * 128 + e.val % 128 = e.val by omega]

theorem p_plain (x0 : X0) (x1 : X1) (r : Fin 8192) (e : Fin 1024) : val_main_v18 x0 x1 (ix2 r e) = prod x0 x1 r (1024 + e.val) := by
  rw [← prod_read x0 x1 r ⟨1024 + e.val, by omega⟩]
  pointwise [val_main_v18]

theorem q_plain (x0 : X0) (x1 : X1) (r : Fin 8192) (e : Fin 1536) : val_main_v35 x0 x1 (ix2 r e) = prod x0 x1 r (3584 + e.val) := by
  rw [← prod_read x0 x1 r ⟨3584 + e.val, by omega⟩]
  pointwise [val_main_v35]

theorem s_plain (x0 : X0) (x1 : X1) (r : Fin 8192) (e : Fin 6656) : val_main_v52 x0 x1 (ix2 r e) = prod x0 x1 r (5644 + e.val) := by
  rw [← prod_read x0 x1 r ⟨5644 + e.val, by omega⟩]
  pointwise [val_main_v52]

theorem piece0 (x0 : X0) (x1 : X1) (x2 : X2) (r : Fin 8192) (e : Fin 12288) (f : Fin 1024) (h : e.val = 0 + f.val) :
    val_main_v53 x0 x1 x2 (ix2 r e) = val_main_v17 x0 x1 x2 (ix2 r f) := by
  unfold val_main_v53
  refine concatenate_apply_piece (t := S8192x12288) 1 _ _ (ix2 r e) 0 ?_ S8192x1024 (val_main_v17 x0 x1 x2) ?_ rfl 0 ?_ (ix2 r f) ?_ h.symm
  · exact (by decide : 0 < 6)
  · rfl
  · rfl
  · exact fun b hb => match b, hb with
      | ⟨0, _⟩, _ => rfl
      | ⟨1, _⟩, hb => absurd rfl hb

theorem piece1 (x0 : X0) (x1 : X1) (x2 : X2) (r : Fin 8192) (e : Fin 12288) (f : Fin 1024) (h : e.val = 1024 + f.val) :
    val_main_v53 x0 x1 x2 (ix2 r e) = val_main_v18 x0 x1 (ix2 r f) := by
  unfold val_main_v53
  refine concatenate_apply_piece (t := S8192x12288) 1 _ _ (ix2 r e) 1 ?_ S8192x1024 (val_main_v18 x0 x1) ?_ rfl 1024 ?_ (ix2 r f) ?_ h.symm
  · exact (by decide : 1 < 6)
  · rfl
  · rfl
  · exact fun b hb => match b, hb with
      | ⟨0, _⟩, _ => rfl
      | ⟨1, _⟩, hb => absurd rfl hb

theorem piece2 (x0 : X0) (x1 : X1) (x2 : X2) (r : Fin 8192) (e : Fin 12288) (f : Fin 1536) (h : e.val = 2048 + f.val) :
    val_main_v53 x0 x1 x2 (ix2 r e) = val_main_v34 x0 x1 x2 (ix2 r f) := by
  unfold val_main_v53
  refine concatenate_apply_piece (t := S8192x12288) 1 _ _ (ix2 r e) 2 ?_ S8192x1536 (val_main_v34 x0 x1 x2) ?_ rfl 2048 ?_ (ix2 r f) ?_ h.symm
  · exact (by decide : 2 < 6)
  · rfl
  · rfl
  · exact fun b hb => match b, hb with
      | ⟨0, _⟩, _ => rfl
      | ⟨1, _⟩, hb => absurd rfl hb

theorem piece3 (x0 : X0) (x1 : X1) (x2 : X2) (r : Fin 8192) (e : Fin 12288) (f : Fin 1536) (h : e.val = 3584 + f.val) :
    val_main_v53 x0 x1 x2 (ix2 r e) = val_main_v35 x0 x1 (ix2 r f) := by
  unfold val_main_v53
  refine concatenate_apply_piece (t := S8192x12288) 1 _ _ (ix2 r e) 3 ?_ S8192x1536 (val_main_v35 x0 x1) ?_ rfl 3584 ?_ (ix2 r f) ?_ h.symm
  · exact (by decide : 3 < 6)
  · rfl
  · rfl
  · exact fun b hb => match b, hb with
      | ⟨0, _⟩, _ => rfl
      | ⟨1, _⟩, hb => absurd rfl hb

theorem piece4 (x0 : X0) (x1 : X1) (x2 : X2) (r : Fin 8192) (e : Fin 12288) (f : Fin 512) (h : e.val = 5120 + f.val) :
    val_main_v53 x0 x1 x2 (ix2 r e) = val_main_v51 x0 x1 x2 (ix2 r f) := by
  unfold val_main_v53
  refine concatenate_apply_piece (t := S8192x12288) 1 _ _ (ix2 r e) 4 ?_ S8192x512 (val_main_v51 x0 x1 x2) ?_ rfl 5120 ?_ (ix2 r f) ?_ h.symm
  · exact (by decide : 4 < 6)
  · rfl
  · rfl
  · exact fun b hb => match b, hb with
      | ⟨0, _⟩, _ => rfl
      | ⟨1, _⟩, hb => absurd rfl hb

theorem piece5 (x0 : X0) (x1 : X1) (x2 : X2) (r : Fin 8192) (e : Fin 12288) (f : Fin 6656) (h : e.val = 5632 + f.val) :
    val_main_v53 x0 x1 x2 (ix2 r e) = val_main_v52 x0 x1 (ix2 r f) := by
  unfold val_main_v53
  refine concatenate_apply_piece (t := S8192x12288) 1 _ _ (ix2 r e) 5 ?_ S8192x6656 (val_main_v52 x0 x1) ?_ rfl 5632 ?_ (ix2 r f) ?_ h.symm
  · exact (by decide : 5 < 6)
  · rfl
  · rfl
  · exact fun b hb => match b, hb with
      | ⟨0, _⟩, _ => rfl
      | ⟨1, _⟩, hb => absurd rfl hb

/-- The reference's value, entry by entry. -/
theorem reference_entry (x0 : X0) (x1 : X1) (x2 : X2) (r : Fin 8192) (e : Fin 12288) :
    val_main_v54 x0 x1 x2 (ix2 r e) = entry x0 x1 x2 r e.val := by
  show val_main_v53 x0 x1 x2 (ix2 r e) = _
  unfold entry
  split_ifs with h1 h2 h3 h4 h5
  · obtain ⟨f, hf⟩ : ∃ f : Fin 1024, e.val = 0 + f.val := ⟨⟨e.val - 0, by omega⟩, by show e.val = 0 + (e.val - 0); omega⟩
    rw [piece0 _ _ _ r e f hf, a_unit, hf]
    simp only [Nat.zero_add]
  · obtain ⟨f, hf⟩ : ∃ f : Fin 1024, e.val = 1024 + f.val := ⟨⟨e.val - 1024, by omega⟩, by show e.val = 1024 + (e.val - 1024); omega⟩
    rw [piece1 _ _ _ r e f hf, p_plain, hf]
  · obtain ⟨f, hf⟩ : ∃ f : Fin 1536, e.val = 2048 + f.val := ⟨⟨e.val - 2048, by omega⟩, by show e.val = 2048 + (e.val - 2048); omega⟩
    rw [piece2 _ _ _ r e f hf, b_unit, hf]
    show _ = unitAt _ _ _ (2048 + f.val - 2048) (scale x2 (2048 + f.val - 1024))
    rw [show 2048 + f.val - 2048 = f.val by omega, show 2048 + f.val - 1024 = 1024 + f.val by omega]
  · obtain ⟨f, hf⟩ : ∃ f : Fin 1536, e.val = 3584 + f.val := ⟨⟨e.val - 3584, by omega⟩, by show e.val = 3584 + (e.val - 3584); omega⟩
    rw [piece3 _ _ _ r e f hf, q_plain, hf]
  · obtain ⟨f, hf⟩ : ∃ f : Fin 512, e.val = 5120 + f.val := ⟨⟨e.val - 5120, by omega⟩, by show e.val = 5120 + (e.val - 5120); omega⟩
    rw [piece4 _ _ _ r e f hf, c_unit, hf]
    show _ = unitAt _ _ _ (5120 + f.val - 5120) (scale x2 (5120 + f.val - 2048))
    rw [show 5120 + f.val - 5120 = f.val by omega, show 5120 + f.val - 2048 = 3072 + f.val by omega]
  · obtain ⟨f, hf⟩ : ∃ f : Fin 6656, e.val = 5632 + f.val := ⟨⟨e.val - 5632, by omega⟩, by show e.val = 5632 + (e.val - 5632); omega⟩
    rw [piece5 _ _ _ r e f hf, s_plain, hf]
    show _ = prod x0 x1 r (5632 + f.val + 12)
    rw [show 5632 + f.val + 12 = 5644 + f.val by omega]

end Cert.InProj
end
-- ==== Proof.InProj.ProjIdeal.Final.lean ====
module

public import proofs.«01_k».proof.Proof.InProj.ProjIdeal.Value
public import proofs.«01_k».proof.Proof.InProj.ProjIdeal.Exact
public import proofs.«01_k».proof.Proof.InProj.RefRead

@[expose] public section
set_option maxRecDepth 16384
noncomputable section
namespace Cert.InProj.Exact
open Idealize.ShloMosaic Idealize.ShloMosaic.TcCoe Idealize.SL.Sem Cert.ProjIdeal Cert.ProjIdeal.Gen Cert.InProj.ProjIdeal

variable (m : (ℓ : Loc nD τ sig) → Buf (Elt Ideal) ℓ) (c : Dev nD)

set_option maxHeartbeats 4000000 in
/-- The projection's result array is the reference's. -/
theorem final : (dats m 0 c).arrAt 5 cfg0.N
    = Cert.ProjReferenceIdeal.Read.val_main_v54 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp [idx t]
  rw [after0_5]
  obtain ⟨r, e, rfl⟩ : ∃ (r : Fin 1024) (e : Fin 1024), y = ix2 r e := ⟨y 0, y 1, eq_ix2 y⟩
  have ht := lt96 t
  have he : (win0_5.blk t).view.emb (ix2 r e) = ix2 (⟨t.val % 8 * 1024 + r.val, by omega⟩ : Fin 8192) (⟨t.val / 8 * 1024 + e.val, by omega⟩ : Fin 12288) := by blk_point [idx t]
  rw [he, reference_entry]
  exact tileOut_apply m c t (ix2 r e)

end Cert.InProj.Exact
end
-- ==== Proof.InProj.Claims.lean ====
module

public import proofs.«01_k».proof.Defs
public import proofs.«01_k».proof.Proof.InProj.ProjIdeal.Final
public import proofs.«01_k».proof.Proof.Gen.ProjReferenceIdeal.Run
public import Idealize.ShloMosaic.Lib.Claim
public import Idealize.ShloMosaic.Lib.Quiescent

@[expose] public section
noncomputable section
namespace Cert.InProj
open Idealize.ShloMosaic Idealize.ShloMosaic.TcCoe Idealize.SL.Sem

/-- The reference runs and leaves its arguments. -/
theorem ref_frame : Cert.quiescent_ProjReferenceIdeal := fun m ρ _ =>
  (θ_run (Cert.ProjReferenceIdeal.defs (F := Ideal)) _ _).mono (fun r h => And.intro (fun c => (h c).2) (sem_eq_zero_of_no_sems rfl r.2))
    (Cert.ProjReferenceIdeal.Value.run (F := Ideal) m ρ)

namespace Exact
open Cert.ProjIdeal Cert.ProjIdeal.Gen

/-- Every execution leaves the result's array at the tiles written back and the arguments as they were. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1 c).1 5,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 3).trans (((dats m 0 c).arrAt_in 3 rfl _).trans ((A_eq m c 3).trans (V_main_arg2 m c)))⟩) (run_main m ρ)

end Exact

/-- The projection against the plain mathematics. -/
theorem algebraic : Cert.algebraic_ProjIdeal_ProjReferenceIdeal := by
  intro m g m' g' _ hagree
  refine ⟨fun c => (Exact.dats m 0 c).arrAt 5 Cert.ProjIdeal.cfg0.N, Exact.run_blocks m g, ?_⟩
  refine (θ_run _ _ _).mono (fun r h c => ⟨(h c).1.trans ?_, (h c).2⟩) (Cert.ProjReferenceIdeal.Value.run (F := Ideal) m' g')
  refine Eq.trans ?_ (Exact.final m c).symm
  rw [Cert.ProjReferenceIdeal.Read.val_main_v54_eq]
  obtain ⟨h0, h1, h2⟩ := hagree c
  rw [h0, h1, h2]

end Cert.InProj
end
-- ==== Proof.MemKv.Mem.Frame.lean ====
module

public import proofs.«01_k».proof.Proof.MemKv.Mem.RunSecond

@[expose] public section

set_option maxRecDepth 16384

noncomputable section

namespace Cert.MemKv.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Mem Cert.Mem.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs, of whose contents the frame says nothing. -/
def forgets0 : Fin 8 → Bool := fun w => w.val == 5 || w.val == 6 || w.val == 7

/-- The proof data of the pipeline: every input's buffer keeps its block, nothing is said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is given at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare d) ∗ (∃ d, owns (c : Thread nD τ) (st6 t) fullShare d) ∗ (∃ d, owns (c : Thread nD τ) (st7 t) fullShare d))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (st5 t) fullShare d) ∗ (∃ d, owns (c : Thread nD τ) (st6 t) fullShare d) ∗ (∃ d, owns (c : Thread nD τ) (st7 t) fullShare d))

set_option maxHeartbeats 1000000 in
theorem body_First (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl, show (dats m 0 c).owesAt () t.succ = (dats m 0 c).owesAt () t.castSucc from rfl]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords t) (st0 t) (hst0 t) (st1 t) (hst1 t) (st2 t) (hst2 t) (st3 t) (hst3 t) (st4 t) (hst4 t) (st5 t) (hst5 t) (st6 t) (hst6 t) (st7 t) (hst7 t) ((start_iff t).mpr h) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _, _; isplitr; swap; · iexact H5
    ipureintro; rfl
  isplitl [H6]
  · unfold owns; iexists _, _; isplitr; swap; · iexact H6
    ipureintro; rfl
  unfold owns; iexists _, _; isplitr; swap; · iexact H7
  ipureintro; rfl

set_option maxHeartbeats 1000000 in
theorem body_Second (c : Dev nD) (t : Fin cfg0.N) (h : ¬t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl, show (dats m 0 c).owesAt () t.succ = (dats m 0 c).owesAt () t.castSucc from rfl]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runSecond c (grid0.coords t) (st0 t) (hst0 t) (st1 t) (hst1 t) (st2 t) (hst2 t) (st3 t) (hst3 t) (st4 t) (hst4 t) (st5 t) (hst5 t) (st6 t) (hst6 t) (st7 t) (hst7 t) (fun hs => h ((start_iff t).mp hs)) (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _, _; isplitr; swap; · iexact H5
    ipureintro; rfl
  isplitl [H6]
  · unfold owns; iexists _, _; isplitr; swap; · iexact H6
    ipureintro; rfl
  iexists _; iexact H7

/-- The body at either point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact body_First m c t h
  · exact body_Second m c t h

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, row]
  exact triple_restated (sound_body m c t) rfl .rfl fun _ => .rfl

set_option backward.isDefEq.respectTransparency.types false in
/-- Every execution ends with the arrays of the inputs as they were and every semaphore counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c)⟩, h.2⟩) (run_main m ρ)

end Cert.MemKv.Mem

end
-- ==== Proof.MemKv.MemIdeal.RunFirst.lean ====
module

public import proofs.«01_k».proof.Proof.Gen.MemIdeal.Skeleton
public import proofs.«01_k».proof.Proof.Gen.MemIdeal.Frame
public import Idealize.ShloMosaic.Lib.Claim

@[expose] public section

set_option maxRecDepth 16384

noncomputable section

namespace Cert.MemKv.MemIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MemIdeal Cert.MemIdeal.Gen

variable {F : FTy → Type} [FloatOps F]

local notation "𝕄" => MT nD τ sig Unit (Elt F) ℕ (UR sig nD τ) ℕ

/-- The first point of the grid, where the first tile of weights is gathered. -/
abbrev start (i : grid0.Coords) : Prop := k0_cond1 i = 1#1

theorem start_iff : ∀ t : Fin cfg0.N, start (grid0.coords t) ↔ t.val = 0 := (by decide +kernel : ∀ t : Fin grid0.N, start (grid0.coords t) ↔ t.val = 0)

theorem lt2 (t : Fin cfg0.N) : t.val < 2 := Nat.lt_of_lt_of_eq t.isLt N_0

/-- The windows' staging buffers at a point, and that each is a whole buffer. -/
abbrev st0 (t : Fin cfg0.N) : Memref sig .tc .vmem S1x256x2048 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S1x2048 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S2048x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x128 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S16384x128 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x256x512 .bf16 := win0_5.stage (cfg0.slots t 5)
abbrev hst5 (t : Fin cfg0.N) : (st5 t).IsWhole := hstage0_5 ((cfg0.slots t 5).cast nbuf0_5)
abbrev st6 (t : Fin cfg0.N) : Memref sig .tc .vmem S1x256x512 .bf16 := win0_6.stage (cfg0.slots t 6)
abbrev hst6 (t : Fin cfg0.N) : (st6 t).IsWhole := hstage0_6 ((cfg0.slots t 6).cast nbuf0_6)
abbrev st7 (t : Fin cfg0.N) : Memref sig .tc .vmem S1024x2048 .bf16 := win0_7.stage (cfg0.slots t 7)
abbrev hst7 (t : Fin cfg0.N) : (st7 t).IsWhole := hstage0_7 ((cfg0.slots t 7).cast nbuf0_7)

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl

-- the run's proof term is large: the definition's epilogue walks it past the default budget
set_option maxHeartbeats 4000000 in set_option sl_exec.squeezeSlice true in
/-- The body at the first point: the pieces its stores leave in its three outputs, with the body's triple at them. -/
noncomputable def runFirst (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : start i)
    (x0 : Vec F S1x256x2048 .f32) (x1 : Vec F S1x2048 .f32) (x2 : Vec F S2048x1024 .f32) (x3 : Vec F S1x128 .f32) (x4 : Vec F S16384x128 .f32) :
    Σ' (L6 : List (View.Piece (Elt F) S1x256x512 .bf16)), Σ' (L7 : List (View.Piece (Elt F) S1x256x512 .bf16)), { L8 : List (View.Piece (Elt F) S1024x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)) -∗ K ⟨⟩))
          ⊢ wp frame (wpE (defs₀ (F := F)) Variants.none c none) E (cc0_mem_kv i arg1 harg1 arg2 harg2 arg3 harg3 arg4 harg4 arg5 harg5 arg6 harg6 arg7 harg7 arg8 harg8) K } := by
  refine ⟨?_, ?_, ?_, fun E K => ?run⟩
  case run =>
    simp only [cc0_mem_kv_eq_skeleton]; unfold cc0_mem_kv_skel
    simp only [k0_part3_eq_skeleton, k0_part4_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact h0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.MemKv.MemIdeal

end
-- ==== Proof.MemKv.MemIdeal.RunSecond.lean ====
module

public import proofs.«01_k».proof.Proof.MemKv.MemIdeal.RunFirst

@[expose] public section

set_option maxRecDepth 16384

noncomputable section

namespace Cert.MemKv.MemIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MemIdeal Cert.MemIdeal.Gen

variable {F : FTy → Type} [FloatOps F]

local notation "𝕄" => MT nD τ sig Unit (Elt F) ℕ (UR sig nD τ) ℕ

-- the run's proof term is large: the definition's epilogue walks it past the default budget
set_option maxHeartbeats 4000000 in set_option sl_exec.squeezeSlice true in
/-- The body at the second point, which stores nothing into the third output: the pieces its stores leave in the other two, with the body's triple at them. -/
noncomputable def runSecond (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : ¬start i)
    (x0 : Vec F S1x256x2048 .f32) (x1 : Vec F S1x2048 .f32) (x2 : Vec F S2048x1024 .f32) (x3 : Vec F S1x128 .f32) (x4 : Vec F S16384x128 .f32) :
    Σ' (L6 : List (View.Piece (Elt F) S1x256x512 .bf16)), { L7 : List (View.Piece (Elt F) S1x256x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0_mem_kv i arg1 harg1 arg2 harg2 arg3 harg3 arg4 harg4 arg5 harg5 arg6 harg6 arg7 harg7 arg8 harg8) K } := by
  refine ⟨?_, ?_, fun E K => ?run⟩
  case run =>
    simp only [cc0_mem_kv_eq_skeleton]; unfold cc0_mem_kv_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact h0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

end Cert.MemKv.MemIdeal

end
-- ==== Proof.MemKv.Entries.lean ====
module

public import Idealize.ShloMosaic.Lib.Pointwise

@[expose] public section
noncomputable section
namespace Cert.MemKv
open Idealize.ShloMosaic

/-- The inverse root mean square of `n` values, `d` the bits of `n`. -/
def root (n : ℕ) (d : BitVec 32) (a : Fin n → EReal) : EReal :=
  Ideal.rsqrt (Ideal.div (∑ l, a l * a l) (Ideal.ofBits .f32 d) + Ideal.ofBits .f32 0x358637BD#32)

/-- One entry of the product of a normed row of the memory with a column of the weights. -/
def entry (x g w : Fin 2048 → EReal) : EReal := ∑ k, x k * root 2048 0x45000000#32 x * g k * w k

/-- One column of a key, divided by its head's root mean square and scaled: `p` is the key's row, `o` the head's first column. -/
def keyAt (p : ℕ → EReal) (g : Fin 128 → EReal) (o : ℕ) (c : Fin 128) : EReal := p (o + c.val) * root 128 0x43000000#32 (fun l => p (o + l.val)) * g c

end Cert.MemKv
end
-- ==== Proof.MemKv.MemIdeal.Pay.lean ====
module

public import proofs.«01_k».proof.Proof.MemKv.MemIdeal.RunSecond
public import proofs.«01_k».proof.Proof.MemKv.Entries
public import Idealize.ShloMosaic.Lib.Pointwise
public import Idealize.ShloMosaic.Lib.Pipeline.ValueKit

@[expose] public section
set_option maxRecDepth 16384
noncomputable section
namespace Cert.MemKv.MemIdeal
open Idealize.ShloMosaic Idealize.ShloMosaic.TcCoe Idealize.SL.Sem Cert.MemIdeal Cert.MemIdeal.Gen Cert.MemKv

abbrev X0 := Vec Ideal S1x256x2048 .f32
abbrev X1 := Vec Ideal S1x2048 .f32
abbrev X2 := Vec Ideal S2048x1024 .f32
abbrev X3 := Vec Ideal S1x128 .f32
abbrev X4 := Vec Ideal S16384x128 .f32

/-- A row of the product, over all column numbers. -/
def rowOf (v : Vec Ideal S256x1024 .f32) (r : Fin 256) (j : ℕ) : EReal := if h : j < 1024 then v (ix2 r ⟨j, h⟩) else 0

theorem rowOf_lt (v : Vec Ideal S256x1024 .f32) (r : Fin 256) (j : ℕ) (h : j < 1024) : rowOf v r j = v (ix2 r ⟨j, h⟩) := dif_pos h

theorem p19 (x0 : X0) (x1 : X1) (x2 : X2) (r : Fin 256) (j : Fin 1024) :
    k0_pay19 (F := Ideal) x0 x1 x2 (ix2 r j) = entry (fun k => x0 (ix3 0 r k)) (fun k => x1 (ix2 0 k)) (fun k => x2 (ix2 k j)) := by
  unfold entry root
  pointwise [k0_pay19]

theorem key_of (v : Vec Ideal S256x1024 .f32) (x3 : X3) (o : ℕ) (ho : o + 128 ≤ 1024) (r : Fin 256) (c : Fin 128) :
    keyAt (rowOf v r) (fun c => x3 (ix2 0 c)) o c = v (ix2 r ⟨o + c.val, by omega⟩)
      * Ideal.rsqrt (Ideal.div (∑ l : Fin 128, v (ix2 r ⟨o + l.val, by omega⟩) * v (ix2 r ⟨o + l.val, by omega⟩)) (Ideal.ofBits .f32 0x43000000#32) + Ideal.ofBits .f32 0x358637BD#32) * x3 (ix2 0 c) := by
  unfold keyAt root
  have e : ∀ l : Fin 128, rowOf v r (o + l.val) = v (ix2 r ⟨o + l.val, by omega⟩) := fun l => rowOf_lt v r _ (by omega)
  simp only [e]

theorem k0 (x0 : X0) (x1 : X1) (x2 : X2) (x3 : X3) (r : Fin 256) (c : Fin 128) :
    k0_pay21 (k0_pay20 (F := Ideal) x0 x1 x2 x3) (ix3 0 r c) = keyAt (rowOf (k0_pay19 (F := Ideal) x0 x1 x2) r) (fun c => x3 (ix2 0 c)) 0 c := by
  rw [key_of _ _ _ (by omega)]
  unfold k0_pay21 k0_pay20
  generalize k0_pay19 (F := Ideal) x0 x1 x2 = v
  pointwise []

theorem k1 (v : Vec Ideal S256x1024 .f32) (x3 : X3) (r : Fin 256) (c : Fin 128) :
    k0_pay22 v x3 (ix3 0 r c) = keyAt (rowOf v r) (fun c => x3 (ix2 0 c)) 128 c := by
  rw [key_of _ _ _ (by omega)]
  pointwise [k0_pay22]

theorem k2 (v : Vec Ideal S256x1024 .f32) (x3 : X3) (r : Fin 256) (c : Fin 128) :
    k0_pay23 v x3 (ix3 0 r c) = keyAt (rowOf v r) (fun c => x3 (ix2 0 c)) 256 c := by
  rw [key_of _ _ _ (by omega)]
  pointwise [k0_pay23]

theorem k3 (v : Vec Ideal S256x1024 .f32) (x3 : X3) (r : Fin 256) (c : Fin 128) :
    k0_pay1 (k0_pay24 v) x3 (ix3 0 r c) = keyAt (rowOf v r) (fun c => x3 (ix2 0 c)) 384 c := by
  rw [key_of _ _ _ (by omega)]
  pointwise [k0_pay1, k0_pay24]

theorem vals (v : Vec Ideal S256x1024 .f32) (r : Fin 256) (c : Fin 512) : k0_pay2 (F := Ideal) v (ix3 0 r c) = (v : S256x1024.Idx → EReal) (ix2 r ⟨512 + c.val, by omega⟩) := by
  pointwise [k0_pay2]

theorem q3 (v : Vec Ideal S1024x128 .f32) : k0_pay3 (F := Ideal) v = v := by
  unfold k0_pay3; simp only [shapeCast_id]; rfl
theorem q4 (v : Vec Ideal S1024x128 .f32) : k0_pay4 (F := Ideal) v = v := by
  unfold k0_pay4; simp only [shapeCast_id]; rfl
theorem q5 (v : Vec Ideal S1024x128 .f32) : k0_pay5 (F := Ideal) v = v := by
  unfold k0_pay5; simp only [shapeCast_id]; rfl
theorem q6 (v : Vec Ideal S1024x128 .f32) : k0_pay6 (F := Ideal) v = v := by
  unfold k0_pay6; simp only [shapeCast_id]; rfl
theorem q7 (v : Vec Ideal S1024x128 .f32) : k0_pay7 (F := Ideal) v = v := by
  unfold k0_pay7; simp only [shapeCast_id]; rfl
theorem q8 (v : Vec Ideal S1024x128 .f32) : k0_pay8 (F := Ideal) v = v := by
  unfold k0_pay8; simp only [shapeCast_id]; rfl
theorem q9 (v : Vec Ideal S1024x128 .f32) : k0_pay9 (F := Ideal) v = v := by
  unfold k0_pay9; simp only [shapeCast_id]; rfl
theorem q10 (v : Vec Ideal S1024x128 .f32) : k0_pay10 (F := Ideal) v = v := by
  unfold k0_pay10; simp only [shapeCast_id]; rfl
theorem q11 (v : Vec Ideal S1024x128 .f32) : k0_pay11 (F := Ideal) v = v := by
  unfold k0_pay11; simp only [shapeCast_id]; rfl
theorem q12 (v : Vec Ideal S1024x128 .f32) : k0_pay12 (F := Ideal) v = v := by
  unfold k0_pay12; simp only [shapeCast_id]; rfl
theorem q13 (v : Vec Ideal S1024x128 .f32) : k0_pay13 (F := Ideal) v = v := by
  unfold k0_pay13; simp only [shapeCast_id]; rfl
theorem q14 (v : Vec Ideal S1024x128 .f32) : k0_pay14 (F := Ideal) v = v := by
  unfold k0_pay14; simp only [shapeCast_id]; rfl
theorem q15 (v : Vec Ideal S1024x128 .f32) : k0_pay15 (F := Ideal) v = v := by
  unfold k0_pay15; simp only [shapeCast_id]; rfl
theorem q16 (v : Vec Ideal S1024x128 .f32) : k0_pay16 (F := Ideal) v = v := by
  unfold k0_pay16; simp only [shapeCast_id]; rfl
theorem q17 (v : Vec Ideal S1024x128 .f32) : k0_pay17 (F := Ideal) v = v := by
  unfold k0_pay17; simp only [shapeCast_id]; rfl
theorem q18 (v : Vec Ideal S1024x128 .f32) : k0_pay18 (F := Ideal) v = v := by
  unfold k0_pay18; simp only [shapeCast_id]; rfl

end Cert.MemKv.MemIdeal
end
-- ==== Proof.MemKv.MemIdeal.Pieces.lean ====
module

public import proofs.«01_k».proof.Proof.MemKv.MemIdeal.Pay

@[expose] public section
set_option maxRecDepth 16384
noncomputable section
namespace Cert.MemKv.MemIdeal
open Idealize.ShloMosaic Idealize.ShloMosaic.TcCoe Idealize.SL.Sem Cert.MemIdeal Cert.MemIdeal.Gen Cert.MemKv

/-- The weight tile a block of packed rows holds: sixteen packed rows make one row of the tile. -/
def tileVal (x4 : X4) : S1024x2048.Idx → EReal := fun y =>
  x4 (ix2 ⟨(y 0).val * 16 + (y 1).val / 128, by have h0 := (y 0).isLt; have h1 := (y 1).isLt; change (y 0).val < 1024 at h0; change (y 1).val < 2048 at h1; omega⟩ ⟨(y 1).val % 128, by omega⟩)

/-- The keys of a batch: its product's first 512 columns, each head of 128 normed and scaled. -/
def keyVal (x0 : X0) (x1 : X1) (x2 : X2) (x3 : X3) : S1x256x512.Idx → EReal := fun y =>
  keyAt (rowOf (k0_pay19 (F := Ideal) x0 x1 x2) (y 1)) (fun c => x3 (ix2 0 c)) ((y 2).val / 128 * 128) ⟨(y 2).val % 128, by omega⟩

/-- The values of a batch: its product's last 512 columns. -/
def valVal (x0 : X0) (x1 : X1) (x2 : X2) : S1x256x512.Idx → EReal := fun y =>
  k0_pay19 (F := Ideal) x0 x1 x2 (ix2 (y 1) ⟨512 + (y 2).val, by have h := (y 2).isLt; change (y 2).val < 512 at h; omega⟩)

theorem whole2 {a b : ℕ} {e : EltTy} {arg : Memref sig .tc .vmem ⟨2, ![a, b]⟩ e} (h : arg.IsWhole) (x : Vec Ideal ⟨2, ![a, b]⟩ e)
    (inb : ∀ i, (![0, 0] : Fin 2 → ℕ) i + (![a, b] : Fin 2 → ℕ) i ≤ (![a, b] : Fin 2 → ℕ) i) :
    arg.view.readAt (Elt Ideal) (Rect.unit (s := ⟨2, ![a, b]⟩) ![0, 0] ![a, b] inb).toLoadRect (h.unread x) = x := by
  funext y
  rw [View.readAt_apply, h.read_unread]
  congr 1
  funext i
  apply Fin.ext
  fin_cases i
  · show 0 + 1 * (y 0).val = (y 0).val
    omega
  · show 0 + 1 * (y 1).val = (y 1).val
    omega

theorem whole3 {arg : Memref sig .tc .vmem S1x256x2048 .f32} (h : arg.IsWhole) (x : X0)
    (inb : ∀ i, (![0, 0, 0] : Fin 3 → ℕ) i + S1x256x2048.size i ≤ S1x256x2048.size i) :
    arg.view.readAt (Elt Ideal) (Rect.unit (s := S1x256x2048) ![0, 0, 0] S1x256x2048.size inb).toLoadRect (h.unread x) = x := by
  funext y
  rw [View.readAt_apply, h.read_unread]
  congr 1
  funext i
  apply Fin.ext
  fin_cases i
  · show 0 + 1 * (y 0).val = (y 0).val
    omega
  · show 0 + 1 * (y 1).val = (y 1).val
    omega
  · show 0 + 1 * (y 2).val = (y 2).val
    omega

/-- A stored head of the keys. -/
theorem key_piece (x0 : X0) (x1 : X1) (x2 : X2) (x3 : X3) (a0 : X0) (a1 : X1) (a2 : X2) (a3 : X3) (k o : ℕ) (ho : o = 128 * k)
    (h0 : a0 = x0) (h1 : a1 = x1) (h2 : a2 = x2) (h3 : a3 = x3) (pay : S1x256x128.Idx → EReal)
    (hp : ∀ (r : Fin 256) (c : Fin 128), pay (ix3 0 r c) = keyAt (rowOf (k0_pay19 (F := Ideal) a0 a1 a2) r) (fun c => a3 (ix2 0 c)) o c)
    (inb : ∀ b, (![0, 0, o] : Fin 3 → ℕ) b + S1x256x128.size b ≤ S1x256x512.size b) (x : (Rect.unit (s := S1x256x512) ![0, 0, o] S1x256x128.size inb).shape.Idx) :
    pay x = keyVal x0 x1 x2 x3 ((Rect.unit (s := S1x256x512) ![0, 0, o] S1x256x128.size inb).emb x) := by
  subst h0 h1 h2 h3
  have l0 : (x 0).val < 1 := (x 0).isLt
  obtain ⟨r, c, rfl⟩ : ∃ (r : Fin 256) (c : Fin 128), x = ix3 0 r c := ⟨x 1, x 2, by
    funext b
    fin_cases b
    · exact Fin.ext (by show (x 0).val = 0; omega)
    · rfl
    · rfl⟩
  have hc := c.isLt
  obtain ⟨y, hy⟩ : ∃ y : S1x256x512.Idx, y = (Rect.unit (s := S1x256x512) ![0, 0, o] S1x256x128.size inb).emb (ix3 0 r c) := ⟨_, rfl⟩
  have y1 : y 1 = r := by rw [hy]; apply Fin.ext; show 0 + 1 * r.val = r.val; omega
  have y2 : (y 2).val = o + c.val := by rw [hy]; show o + 1 * c.val = o + c.val; omega
  rw [← hy]
  refine (hp r c).trans ?_
  unfold keyVal
  rw [y1]
  congr 1
  · rw [y2]
    omega
  · apply Fin.ext
    show c.val = (y 2).val % 128
    rw [y2]
    omega

theorem mem_head (k o : ℕ) (ho : o = 128 * k) (inb : ∀ b, (![0, 0, o] : Fin 3 → ℕ) b + S1x256x128.size b ≤ S1x256x512.size b) (y : S1x256x512.Idx) (h : (y 2).val / 128 = k) :
    y ∈ (Rect.unit (s := S1x256x512) ![0, 0, o] S1x256x128.size inb).set := by
  rw [Rect.mem_set_unit]
  intro b
  fin_cases b
  · exact ⟨Nat.zero_le _, by have := (y 0).isLt; change (y 0).val < 1 at this; show (y 0).val < 0 + 1; omega⟩
  · exact ⟨Nat.zero_le _, by have := (y 1).isLt; change (y 1).val < 256 at this; show (y 1).val < 0 + 256; omega⟩
  · show o ≤ (y 2).val ∧ (y 2).val < o + 128
    omega

/-- The stored values. -/
theorem val_piece (x0 : X0) (x1 : X1) (x2 : X2) (a0 : X0) (a1 : X1) (a2 : X2) (h0 : a0 = x0) (h1 : a1 = x1) (h2 : a2 = x2)
    (inb : ∀ b, (![0, 0, 0] : Fin 3 → ℕ) b + S1x256x512.size b ≤ S1x256x512.size b) (x : (Rect.unit (s := S1x256x512) ![0, 0, 0] S1x256x512.size inb).shape.Idx) :
    k0_pay2 (F := Ideal) (k0_pay19 (F := Ideal) a0 a1 a2) x = valVal x0 x1 x2 ((Rect.unit (s := S1x256x512) ![0, 0, 0] S1x256x512.size inb).emb x) := by
  subst h0 h1 h2
  have l0 : (x 0).val < 1 := (x 0).isLt
  obtain ⟨r, c, rfl⟩ : ∃ (r : Fin 256) (c : Fin 512), x = ix3 0 r c := ⟨x 1, x 2, by
    funext b
    fin_cases b
    · exact Fin.ext (by show (x 0).val = 0; omega)
    · rfl
    · rfl⟩
  refine (vals _ r c).trans ?_
  unfold valVal
  refine congrArg _ (congrArg₂ ix2 (Fin.ext ?_) (Fin.ext ?_))
  · show r.val = 0 + 1 * r.val
    omega
  · show 512 + c.val = 512 + (0 + 1 * c.val)
    omega

theorem mem_all (inb : ∀ b, (![0, 0, 0] : Fin 3 → ℕ) b + S1x256x512.size b ≤ S1x256x512.size b) (y : S1x256x512.Idx) :
    y ∈ (Rect.unit (s := S1x256x512) ![0, 0, 0] S1x256x512.size inb).set := by
  rw [Rect.mem_set_unit]
  intro b
  fin_cases b
  · exact ⟨Nat.zero_le _, by have := (y 0).isLt; change (y 0).val < 1 at this; show (y 0).val < 0 + 1; omega⟩
  · exact ⟨Nat.zero_le _, by have := (y 1).isLt; change (y 1).val < 256 at this; show (y 1).val < 0 + 256; omega⟩
  · exact ⟨Nat.zero_le _, by have := (y 2).isLt; change (y 2).val < 512 at this; show (y 2).val < 0 + 512; omega⟩

/-- A stored box of 128 columns of the tile. -/
theorem tile_piece {arg5 : Memref sig .tc .vmem S16384x128 .f32} (harg5 : arg5.IsWhole) (x4 : X4) (k o : ℕ) (ho : o = 128 * k) (hk : k < 16)
    (inbL : ∀ b, S1024x128.size b = 0 ∨ (![k, 0] : Fin 2 → ℕ) b + (![16, 1] : Fin 2 → ℕ) b * (S1024x128.size b - 1) < S16384x128.size b)
    (inb : ∀ b, (![0, o] : Fin 2 → ℕ) b + S1024x128.size b ≤ S1024x2048.size b) (pay : S1024x128.Idx → EReal)
    (hp : pay = arg5.view.readAt (Elt Ideal) (⟨![k, 0], S1024x128.size, ![16, 1], inbL⟩ : LoadRect S16384x128) (harg5.unread x4))
    (x : (Rect.unit (s := S1024x2048) ![0, o] S1024x128.size inb).shape.Idx) :
    pay x = tileVal x4 ((Rect.unit (s := S1024x2048) ![0, o] S1024x128.size inb).emb x) := by
  subst ho hp
  rw [View.readAt_apply, harg5.read_unread]
  have h0 : (x 0).val < 1024 := (x 0).isLt
  have h1 : (x 1).val < 128 := (x 1).isLt
  unfold tileVal
  congr 1
  funext b
  fin_cases b
  · apply Fin.ext
    show k + 16 * (x 0).val = (0 + 1 * (x 0).val) * 16 + (128 * k + 1 * (x 1).val) / 128
    omega
  · apply Fin.ext
    show 0 + 1 * (x 1).val = (128 * k + 1 * (x 1).val) % 128
    omega

theorem mem_cols (k o : ℕ) (ho : o = 128 * k) (inb : ∀ b, (![0, o] : Fin 2 → ℕ) b + S1024x128.size b ≤ S1024x2048.size b) (y : S1024x2048.Idx) (h : (y 1).val / 128 = k) :
    y ∈ (Rect.unit (s := S1024x2048) ![0, o] S1024x128.size inb).set := by
  rw [Rect.mem_set_unit]
  intro b
  fin_cases b
  · exact ⟨Nat.zero_le _, by have := (y 0).isLt; change (y 0).val < 1024 at this; show (y 0).val < 0 + 1024; omega⟩
  · show o ≤ (y 1).val ∧ (y 1).val < o + 128
    omega

set_option maxHeartbeats 4000000 in
theorem keys_First (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : start i)
    (x0 : X0) (x1 : X1) (x2 : X2) (x3 : X3) (x4 : X4) (f) :
    arg6.view.read (Elt Ideal) (arg6.view.writes (Elt Ideal) f (runFirst (F := Ideal) c i arg1 harg1 arg2 harg2 arg3 harg3 arg4 harg4 arg5 harg5 arg6 harg6 arg7 harg7 arg8 harg8 h0 x0 x1 x2 x3 x4).1) = keyVal x0 x1 x2 x3 := by
  funext y
  refine View.read_writes_apply_of_pieces arg6.view f (keyVal x0 x1 x2 x3) (runFirst (F := Ideal) c i arg1 harg1 arg2 harg2 arg3 harg3 arg4 harg4 arg5 harg5 arg6 harg6 arg7 harg7 arg8 harg8 h0 x0 x1 x2 x3 x4).1 ?_ y ?_
  · refine List.forall_mem_cons.mpr ⟨fun x => key_piece x0 x1 x2 x3 _ _ _ _ 3 384 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k3 (k0_pay19 (F := Ideal) _ _ _) _ r c) inb_S1x256x512_S1x256x128_0_0_384 x, ?_⟩
    refine List.forall_mem_cons.mpr ⟨fun x => key_piece x0 x1 x2 x3 _ _ _ _ 2 256 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k2 (k0_pay19 (F := Ideal) _ _ _) _ r c) inb_S1x256x512_S1x256x128_0_0_256 x, ?_⟩
    refine List.forall_mem_cons.mpr ⟨fun x => key_piece x0 x1 x2 x3 _ _ _ _ 1 128 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k1 (k0_pay19 (F := Ideal) _ _ _) _ r c) inb_S1x256x512_S1x256x128_0_0_128 x, ?_⟩
    refine List.forall_mem_cons.mpr ⟨fun x => key_piece x0 x1 x2 x3 _ _ _ _ 0 0 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k0 _ _ _ _ r c) inb_S1x256x512_S1x256x128_0_0_0 x, ?_⟩
    exact fun p hp => absurd hp List.not_mem_nil
  · have hk : (y 2).val / 128 < 4 := by have := (y 2).isLt; change (y 2).val < 512 at this; omega
    obtain ⟨k, hk'⟩ : ∃ k, k = (y 2).val / 128 := ⟨_, rfl⟩
    rw [← hk'] at hk
    interval_cases k
    · exact ⟨_, List.mem_cons_of_mem _ (List.mem_cons_of_mem _ (List.mem_cons_of_mem _ List.mem_cons_self)), mem_head 0 0 rfl inb_S1x256x512_S1x256x128_0_0_0 y hk'.symm⟩
    · exact ⟨_, List.mem_cons_of_mem _ (List.mem_cons_of_mem _ List.mem_cons_self), mem_head 1 128 rfl inb_S1x256x512_S1x256x128_0_0_128 y hk'.symm⟩
    · exact ⟨_, List.mem_cons_of_mem _ List.mem_cons_self, mem_head 2 256 rfl inb_S1x256x512_S1x256x128_0_0_256 y hk'.symm⟩
    · exact ⟨_, List.mem_cons_self, mem_head 3 384 rfl inb_S1x256x512_S1x256x128_0_0_384 y hk'.symm⟩

set_option maxHeartbeats 4000000 in
theorem values_First (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : start i)
    (x0 : X0) (x1 : X1) (x2 : X2) (x3 : X3) (x4 : X4) (f) :
    arg7.view.read (Elt Ideal) (arg7.view.writes (Elt Ideal) f (runFirst (F := Ideal) c i arg1 harg1 arg2 harg2 arg3 harg3 arg4 harg4 arg5 harg5 arg6 harg6 arg7 harg7 arg8 harg8 h0 x0 x1 x2 x3 x4).2.1) = valVal x0 x1 x2 := by
  funext y
  refine View.read_writes_apply_of_pieces arg7.view f (valVal x0 x1 x2) (runFirst (F := Ideal) c i arg1 harg1 arg2 harg2 arg3 harg3 arg4 harg4 arg5 harg5 arg6 harg6 arg7 harg7 arg8 harg8 h0 x0 x1 x2 x3 x4).2.1 ?_ y ?_
  · refine List.forall_mem_cons.mpr ⟨fun x => val_piece x0 x1 x2 _ _ _ (whole3 harg1 x0 inb_S1x256x2048_S1x256x2048_0_0_0) (whole2 harg2 x1 inb_S1x2048_S1x2048_0_0) (whole2 harg3 x2 inb_S2048x1024_S2048x1024_0_0) inb_S1x256x512_S1x256x512_0_0_0 x, ?_⟩
    exact fun p hp => absurd hp List.not_mem_nil
  · exact ⟨_, List.mem_cons_self, mem_all inb_S1x256x512_S1x256x512_0_0_0 y⟩

set_option maxHeartbeats 4000000 in
theorem tile_First (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : start i)
    (x0 : X0) (x1 : X1) (x2 : X2) (x3 : X3) (x4 : X4) (f) :
    arg8.view.read (Elt Ideal) (arg8.view.writes (Elt Ideal) f (runFirst (F := Ideal) c i arg1 harg1 arg2 harg2 arg3 harg3 arg4 harg4 arg5 harg5 arg6 harg6 arg7 harg7 arg8 harg8 h0 x0 x1 x2 x3 x4).2.2.1) = tileVal x4 := by
  funext y
  refine View.read_writes_apply_of_pieces arg8.view f (tileVal x4) (runFirst (F := Ideal) c i arg1 harg1 arg2 harg2 arg3 harg3 arg4 harg4 arg5 harg5 arg6 harg6 arg7 harg7 arg8 harg8 h0 x0 x1 x2 x3 x4).2.2.1 ?_ y ?_
  · refine List.forall_mem_cons.mpr ⟨fun x => tile_piece harg5 x4 15 1920 rfl (by omega) inb_S16384x128_S1024x128_15_0_s_16_1 inb_S1024x2048_S1024x128_0_1920 _ (q18 _) x, ?_⟩
    refine List.forall_mem_cons.mpr ⟨fun x => tile_piece harg5 x4 14 1792 rfl (by omega) inb_S16384x128_S1024x128_14_0_s_16_1 inb_S1024x2048_S1024x128_0_1792 _ (q17 _) x, ?_⟩
    refine List.forall_mem_cons.mpr ⟨fun x => tile_piece harg5 x4 13 1664 rfl (by omega) inb_S16384x128_S1024x128_13_0_s_16_1 inb_S1024x2048_S1024x128_0_1664 _ (q16 _) x, ?_⟩
    refine List.forall_mem_cons.mpr ⟨fun x => tile_piece harg5 x4 12 1536 rfl (by omega) inb_S16384x128_S1024x128_12_0_s_16_1 inb_S1024x2048_S1024x128_0_1536 _ (q15 _) x, ?_⟩
    refine List.forall_mem_cons.mpr ⟨fun x => tile_piece harg5 x4 11 1408 rfl (by omega) inb_S16384x128_S1024x128_11_0_s_16_1 inb_S1024x2048_S1024x128_0_1408 _ (q14 _) x, ?_⟩
    refine List.forall_mem_cons.mpr ⟨fun x => tile_piece harg5 x4 10 1280 rfl (by omega) inb_S16384x128_S1024x128_10_0_s_16_1 inb_S1024x2048_S1024x128_0_1280 _ (q13 _) x, ?_⟩
    refine List.forall_mem_cons.mpr ⟨fun x => tile_piece harg5 x4 9 1152 rfl (by omega) inb_S16384x128_S1024x128_9_0_s_16_1 inb_S1024x2048_S1024x128_0_1152 _ (q12 _) x, ?_⟩
    refine List.forall_mem_cons.mpr ⟨fun x => tile_piece harg5 x4 8 1024 rfl (by omega) inb_S16384x128_S1024x128_8_0_s_16_1 inb_S1024x2048_S1024x128_0_1024 _ (q11 _) x, ?_⟩
    refine List.forall_mem_cons.mpr ⟨fun x => tile_piece harg5 x4 7 896 rfl (by omega) inb_S16384x128_S1024x128_7_0_s_16_1 inb_S1024x2048_S1024x128_0_896 _ (q10 _) x, ?_⟩
    refine List.forall_mem_cons.mpr ⟨fun x => tile_piece harg5 x4 6 768 rfl (by omega) inb_S16384x128_S1024x128_6_0_s_16_1 inb_S1024x2048_S1024x128_0_768 _ (q9 _) x, ?_⟩
    refine List.forall_mem_cons.mpr ⟨fun x => tile_piece harg5 x4 5 640 rfl (by omega) inb_S16384x128_S1024x128_5_0_s_16_1 inb_S1024x2048_S1024x128_0_640 _ (q8 _) x, ?_⟩
    refine List.forall_mem_cons.mpr ⟨fun x => tile_piece harg5 x4 4 512 rfl (by omega) inb_S16384x128_S1024x128_4_0_s_16_1 inb_S1024x2048_S1024x128_0_512 _ (q7 _) x, ?_⟩
    refine List.forall_mem_cons.mpr ⟨fun x => tile_piece harg5 x4 3 384 rfl (by omega) inb_S16384x128_S1024x128_3_0_s_16_1 inb_S1024x2048_S1024x128_0_384 _ (q6 _) x, ?_⟩
    refine List.forall_mem_cons.mpr ⟨fun x => tile_piece harg5 x4 2 256 rfl (by omega) inb_S16384x128_S1024x128_2_0_s_16_1 inb_S1024x2048_S1024x128_0_256 _ (q5 _) x, ?_⟩
    refine List.forall_mem_cons.mpr ⟨fun x => tile_piece harg5 x4 1 128 rfl (by omega) inb_S16384x128_S1024x128_1_0_s_16_1 inb_S1024x2048_S1024x128_0_128 _ (q4 _) x, ?_⟩
    refine List.forall_mem_cons.mpr ⟨fun x => tile_piece harg5 x4 0 0 rfl (by omega) inb_S16384x128_S1024x128_0_0_s_16_1 inb_S1024x2048_S1024x128_0_0 _ (q3 _) x, ?_⟩
    exact fun p hp => absurd hp List.not_mem_nil
  · have hk : (y 1).val / 128 < 16 := by have := (y 1).isLt; change (y 1).val < 2048 at this; omega
    obtain ⟨k, hk'⟩ : ∃ k, k = (y 1).val / 128 := ⟨_, rfl⟩
    rw [← hk'] at hk
    interval_cases k
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_cols 0 0 rfl inb_S1024x2048_S1024x128_0_0 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_cols 1 128 rfl inb_S1024x2048_S1024x128_0_128 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_cols 2 256 rfl inb_S1024x2048_S1024x128_0_256 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_cols 3 384 rfl inb_S1024x2048_S1024x128_0_384 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_cols 4 512 rfl inb_S1024x2048_S1024x128_0_512 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_cols 5 640 rfl inb_S1024x2048_S1024x128_0_640 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_cols 6 768 rfl inb_S1024x2048_S1024x128_0_768 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_cols 7 896 rfl inb_S1024x2048_S1024x128_0_896 y hk'.symm⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_cols 8 1024 rfl inb_S1024x2048_S1024x128_0_1024 y hk'.symm⟩
    · exact ⟨_, List.mem_cons_of_mem _ (List.mem_cons_of_mem _ (List.mem_cons_of_mem _ (List.mem_cons_of_mem _ (List.mem_cons_of_mem _ (List.mem_cons_of_mem _ List.mem_cons_self))))), mem_cols 9 1152 rfl inb_S1024x2048_S1024x128_0_1152 y hk'.symm⟩
    · exact ⟨_, List.mem_cons_of_mem _ (List.mem_cons_of_mem _ (List.mem_cons_of_mem _ (List.mem_cons_of_mem _ (List.mem_cons_of_mem _ List.mem_cons_self)))), mem_cols 10 1280 rfl inb_S1024x2048_S1024x128_0_1280 y hk'.symm⟩
    · exact ⟨_, List.mem_cons_of_mem _ (List.mem_cons_of_mem _ (List.mem_cons_of_mem _ (List.mem_cons_of_mem _ List.mem_cons_self))), mem_cols 11 1408 rfl inb_S1024x2048_S1024x128_0_1408 y hk'.symm⟩
    · exact ⟨_, List.mem_cons_of_mem _ (List.mem_cons_of_mem _ (List.mem_cons_of_mem _ List.mem_cons_self)), mem_cols 12 1536 rfl inb_S1024x2048_S1024x128_0_1536 y hk'.symm⟩
    · exact ⟨_, List.mem_cons_of_mem _ (List.mem_cons_of_mem _ List.mem_cons_self), mem_cols 13 1664 rfl inb_S1024x2048_S1024x128_0_1664 y hk'.symm⟩
    · exact ⟨_, List.mem_cons_of_mem _ List.mem_cons_self, mem_cols 14 1792 rfl inb_S1024x2048_S1024x128_0_1792 y hk'.symm⟩
    · exact ⟨_, List.mem_cons_self, mem_cols 15 1920 rfl inb_S1024x2048_S1024x128_0_1920 y hk'.symm⟩

set_option maxHeartbeats 4000000 in
theorem keys_Second (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : ¬start i)
    (x0 : X0) (x1 : X1) (x2 : X2) (x3 : X3) (x4 : X4) (f) :
    arg6.view.read (Elt Ideal) (arg6.view.writes (Elt Ideal) f (runSecond (F := Ideal) c i arg1 harg1 arg2 harg2 arg3 harg3 arg4 harg4 arg5 harg5 arg6 harg6 arg7 harg7 arg8 harg8 h0 x0 x1 x2 x3 x4).1) = keyVal x0 x1 x2 x3 := by
  funext y
  refine View.read_writes_apply_of_pieces arg6.view f (keyVal x0 x1 x2 x3) (runSecond (F := Ideal) c i arg1 harg1 arg2 harg2 arg3 harg3 arg4 harg4 arg5 harg5 arg6 harg6 arg7 harg7 arg8 harg8 h0 x0 x1 x2 x3 x4).1 ?_ y ?_
  · refine List.forall_mem_cons.mpr ⟨fun x => key_piece x0 x1 x2 x3 _ _ _ _ 3 384 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k3 (k0_pay19 (F := Ideal) _ _ _) _ r c) inb_S1x256x512_S1x256x128_0_0_384 x, ?_⟩
    refine List.forall_mem_cons.mpr ⟨fun x => key_piece x0 x1 x2 x3 _ _ _ _ 2 256 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k2 (k0_pay19 (F := Ideal) _ _ _) _ r c) inb_S1x256x512_S1x256x128_0_0_256 x, ?_⟩
    refine List.forall_mem_cons.mpr ⟨fun x => key_piece x0 x1 x2 x3 _ _ _ _ 1 128 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k1 (k0_pay19 (F := Ideal) _ _ _) _ r c) inb_S1x256x512_S1x256x128_0_0_128 x, ?_⟩
    refine List.forall_mem_cons.mpr ⟨fun x => key_piece x0 x1 x2 x3 _ _ _ _ 0 0 rfl (whole3 harg1 x0 inb_S1x256x2048_S1x256x2048_0_0_0) (whole2 harg2 x1 inb_S1x2048_S1x2048_0_0) (whole2 harg3 x2 inb_S2048x1024_S2048x1024_0_0) (whole2 harg4 x3 inb_S1x128_S1x128_0_0) _ (fun r c => k0 _ _ _ _ r c) inb_S1x256x512_S1x256x128_0_0_0 x, ?_⟩
    exact fun p hp => absurd hp List.not_mem_nil
  · have hk : (y 2).val / 128 < 4 := by have := (y 2).isLt; change (y 2).val < 512 at this; omega
    obtain ⟨k, hk'⟩ : ∃ k, k = (y 2).val / 128 := ⟨_, rfl⟩
    rw [← hk'] at hk
    interval_cases k
    · exact ⟨_, List.mem_cons_of_mem _ (List.mem_cons_of_mem _ (List.mem_cons_of_mem _ List.mem_cons_self)), mem_head 0 0 rfl inb_S1x256x512_S1x256x128_0_0_0 y hk'.symm⟩
    · exact ⟨_, List.mem_cons_of_mem _ (List.mem_cons_of_mem _ List.mem_cons_self), mem_head 1 128 rfl inb_S1x256x512_S1x256x128_0_0_128 y hk'.symm⟩
    · exact ⟨_, List.mem_cons_of_mem _ List.mem_cons_self, mem_head 2 256 rfl inb_S1x256x512_S1x256x128_0_0_256 y hk'.symm⟩
    · exact ⟨_, List.mem_cons_self, mem_head 3 384 rfl inb_S1x256x512_S1x256x128_0_0_384 y hk'.symm⟩

set_option maxHeartbeats 4000000 in
theorem values_Second (c : Dev nD) (i : grid0.Coords) (arg1 : Memref sig .tc .vmem S1x256x2048 .f32) (harg1 : arg1.IsWhole) (arg2 : Memref sig .tc .vmem S1x2048 .f32) (harg2 : arg2.IsWhole) (arg3 : Memref sig .tc .vmem S2048x1024 .f32) (harg3 : arg3.IsWhole) (arg4 : Memref sig .tc .vmem S1x128 .f32) (harg4 : arg4.IsWhole) (arg5 : Memref sig .tc .vmem S16384x128 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1024x2048 .bf16) (harg8 : arg8.IsWhole) (h0 : ¬start i)
    (x0 : X0) (x1 : X1) (x2 : X2) (x3 : X3) (x4 : X4) (f) :
    arg7.view.read (Elt Ideal) (arg7.view.writes (Elt Ideal) f (runSecond (F := Ideal) c i arg1 harg1 arg2 harg2 arg3 harg3 arg4 harg4 arg5 harg5 arg6 harg6 arg7 harg7 arg8 harg8 h0 x0 x1 x2 x3 x4).2.1) = valVal x0 x1 x2 := by
  funext y
  refine View.read_writes_apply_of_pieces arg7.view f (valVal x0 x1 x2) (runSecond (F := Ideal) c i arg1 harg1 arg2 harg2 arg3 harg3 arg4 harg4 arg5 harg5 arg6 harg6 arg7 harg7 arg8 harg8 h0 x0 x1 x2 x3 x4).2.1 ?_ y ?_
  · refine List.forall_mem_cons.mpr ⟨fun x => val_piece x0 x1 x2 _ _ _ (whole3 harg1 x0 inb_S1x256x2048_S1x256x2048_0_0_0) (whole2 harg2 x1 inb_S1x2048_S1x2048_0_0) (whole2 harg3 x2 inb_S2048x1024_S2048x1024_0_0) inb_S1x256x512_S1x256x512_0_0_0 x, ?_⟩
    exact fun p hp => absurd hp List.not_mem_nil
  · exact ⟨_, List.mem_cons_self, mem_all inb_S1x256x512_S1x256x512_0_0_0 y⟩

end Cert.MemKv.MemIdeal
end
-- ==== Proof.MemKv.MemIdeal.Exact.lean ====
module

public import proofs.«01_k».proof.Proof.MemKv.MemIdeal.Pieces

@[expose] public section

set_option maxRecDepth 16384

noncomputable section

namespace Cert.MemKv.MemIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MemIdeal Cert.MemIdeal.Gen

local notation "𝕄" => MT nD τ sig Unit (Elt Ideal) ℕ (UR sig nD τ) ℕ

variable (m : (ℓ : Loc nD τ sig) → Buf (Elt Ideal) ℓ) (ρ : Dev nD → PrngReg)

/-- The first tile of weights, gathered at the first point. -/
def firstTile (c : Dev nD) : S1024x2048.Idx → EReal := tileVal (iblk m c 4 t0_0)

theorem rows_first (c : Dev nD) (t : Fin cfg0.N) : tileVal (iblk m c 4 t) = firstTile m c := by
  unfold firstTile
  rcases fin_N0 t with h | h
  · rw [h]
  · rw [h]; rfl

/-- The proof data of the pipeline: every input's buffer keeps its block, the outputs' are left at the point's keys and values and at the first tile. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => keyVal (iblk m c 0 t) (iblk m c 1 t) (iblk m c 2 t) (iblk m c 3 t)
    | ⟨6, _⟩ => valVal (iblk m c 0 t) (iblk m c 1 t) (iblk m c 2 t)
    | ⟨7, _⟩ => firstTile m c
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem after0_5 (c : Dev nD) (t : Fin cfg0.N) : (dats m 0 c).after 5 t = keyVal (iblk m c 0 t) (iblk m c 1 t) (iblk m c 2 t) (iblk m c 3 t) := by dsimp only [dats]
theorem after0_6 (c : Dev nD) (t : Fin cfg0.N) : (dats m 0 c).after 6 t = valVal (iblk m c 0 t) (iblk m c 1 t) (iblk m c 2 t) := by dsimp only [dats]
theorem after0_7 (c : Dev nD) (t : Fin cfg0.N) : (dats m 0 c).after 7 t = firstTile m c := by dsimp only [dats]

/-- At the second point the third output's buffer holds the first tile, left there by the first point. -/
theorem before0_7 (c : Dev nD) (t : Fin cfg0.N) (h : ¬t.val = 0) (d) : (dats m 0 c).before 7 t d = firstTile m c := by
  obtain rfl : t = t0_1 := by
    rcases fin_N0 t with h' | h'
    · exact absurd (by rw [h']; rfl) h
    · exact h'
  refine ((dats m 0 c).before_of_pos 7 t0_1 (by decide) (by decide +kernel) d).trans ?_
  rw [if_neg (by decide +kernel)]
  unfold Dat.left
  rw [show cfg0.idle 7 (grid0.coords ⟨t0_1.val - 1, Nat.lt_of_le_of_lt (Nat.sub_le _ _) t0_1.isLt⟩) = false from by decide +kernel]
  show (dats m 0 c).kept 7 _ d = _
  unfold Dat.kept
  rw [after0_7]
  rfl

/-- At either point the third output's buffer is left at the first tile. -/
theorem leaves7 (c : Dev nD) (t : Fin cfg0.N) : (dats m 0 c).leavesExact 7 t = owns (c : Thread nD τ) (st7 t) fullShare (firstTile m c) := by
  unfold Dat.leavesExact
  rcases fin_N0 t with rfl | rfl
  · rw [show cfg0.idle 7 (grid0.coords t0_0) = false from by decide +kernel]
    rfl
  · rw [show cfg0.idle 7 (grid0.coords t0_1) = true from by decide +kernel, show (cfg0.win 7).flush t0_1 = true from by decide +kernel]
    rfl

/-- What the body is given at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t ∗ (dats m 0 c).leavesExact 6 t ∗ (dats m 0 c).leavesExact 7 t)

set_option maxHeartbeats 1000000 in
theorem body_First (c : Dev nD) (t : Fin cfg0.N) (h : t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl, show (dats m 0 c).owesAt () t.succ = (dats m 0 c).owesAt () t.castSucc from rfl]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  rw [show (dats m 0 c).leavesExact 5 t = owns (c : Thread nD τ) (st5 t) fullShare ((dats m 0 c).after 5 t) from by
    unfold Dat.leavesExact; rw [live_5 t], after0_5]
  rw [show (dats m 0 c).leavesExact 6 t = owns (c : Thread nD τ) (st6 t) fullShare ((dats m 0 c).after 6 t) from by
    unfold Dat.leavesExact; rw [live_6 t], after0_6]
  rw [leaves7 m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst (F := Ideal) c (grid0.coords t) (st0 t) (hst0 t) (st1 t) (hst1 t) (st2 t) (hst2 t) (st3 t) (hst3 t) (st4 t) (hst4 t) (st5 t) (hst5 t) (st6 t) (hst6 t) (st7 t) (hst7 t) ((start_iff t).mpr h) (iblk m c 0 t) (iblk m c 1 t) (iblk m c 2 t) (iblk m c 3 t) (iblk m c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact keys_First c (grid0.coords t) (st0 t) (hst0 t) (st1 t) (hst1 t) (st2 t) (hst2 t) (st3 t) (hst3 t) (st4 t) (hst4 t) (st5 t) (hst5 t) (st6 t) (hst6 t) (st7 t) (hst7 t) ((start_iff t).mpr h) (iblk m c 0 t) (iblk m c 1 t) (iblk m c 2 t) (iblk m c 3 t) (iblk m c 4 t) e5
  isplitl [H6]
  · unfold owns; iexists _; isplitr; swap; · iexact H6
    ipureintro; exact values_First c (grid0.coords t) (st0 t) (hst0 t) (st1 t) (hst1 t) (st2 t) (hst2 t) (st3 t) (hst3 t) (st4 t) (hst4 t) (st5 t) (hst5 t) (st6 t) (hst6 t) (st7 t) (hst7 t) ((start_iff t).mpr h) (iblk m c 0 t) (iblk m c 1 t) (iblk m c 2 t) (iblk m c 3 t) (iblk m c 4 t) e6
  unfold owns; iexists _; isplitr; swap; · iexact H7
  ipureintro; exact (tile_First c (grid0.coords t) (st0 t) (hst0 t) (st1 t) (hst1 t) (st2 t) (hst2 t) (st3 t) (hst3 t) (st4 t) (hst4 t) (st5 t) (hst5 t) (st6 t) (hst6 t) (st7 t) (hst7 t) ((start_iff t).mpr h) (iblk m c 0 t) (iblk m c 1 t) (iblk m c 2 t) (iblk m c 3 t) (iblk m c 4 t) e7).trans (rows_first m c t)

set_option maxHeartbeats 1000000 in
theorem body_Second (c : Dev nD) (t : Fin cfg0.N) (h : ¬t.val = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_7 m c t h]
  rw [show (dats m 0 c).Φ t.succ = (dats m 0 c).Φ t.castSucc from rfl, show (dats m 0 c).owesAt () t.succ = (dats m 0 c).owesAt () t.castSucc from rfl]
  rw [show (dats m 0 c).leavesExact 0 t = owns (c : Thread nD τ) (st0 t) fullShare ((dats m 0 c).after 0 t) from by
    unfold Dat.leavesExact; rw [live_0 t], after0_0]
  rw [show (dats m 0 c).leavesExact 1 t = owns (c : Thread nD τ) (st1 t) fullShare ((dats m 0 c).after 1 t) from by
    unfold Dat.leavesExact; rw [live_1 t], after0_1]
  rw [show (dats m 0 c).leavesExact 2 t = owns (c : Thread nD τ) (st2 t) fullShare ((dats m 0 c).after 2 t) from by
    unfold Dat.leavesExact; rw [live_2 t], after0_2]
  rw [show (dats m 0 c).leavesExact 3 t = owns (c : Thread nD τ) (st3 t) fullShare ((dats m 0 c).after 3 t) from by
    unfold Dat.leavesExact; rw [live_3 t], after0_3]
  rw [show (dats m 0 c).leavesExact 4 t = owns (c : Thread nD τ) (st4 t) fullShare ((dats m 0 c).after 4 t) from by
    unfold Dat.leavesExact; rw [live_4 t], after0_4]
  rw [show (dats m 0 c).leavesExact 5 t = owns (c : Thread nD τ) (st5 t) fullShare ((dats m 0 c).after 5 t) from by
    unfold Dat.leavesExact; rw [live_5 t], after0_5]
  rw [show (dats m 0 c).leavesExact 6 t = owns (c : Thread nD τ) (st6 t) fullShare ((dats m 0 c).after 6 t) from by
    unfold Dat.leavesExact; rw [live_6 t], after0_6]
  rw [leaves7 m c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runSecond (F := Ideal) c (grid0.coords t) (st0 t) (hst0 t) (st1 t) (hst1 t) (st2 t) (hst2 t) (st3 t) (hst3 t) (st4 t) (hst4 t) (st5 t) (hst5 t) (st6 t) (hst6 t) (st7 t) (hst7 t) (fun hs => h ((start_iff t).mp hs)) (iblk m c 0 t) (iblk m c 1 t) (iblk m c 2 t) (iblk m c 3 t) (iblk m c 4 t)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact keys_Second c (grid0.coords t) (st0 t) (hst0 t) (st1 t) (hst1 t) (st2 t) (hst2 t) (st3 t) (hst3 t) (st4 t) (hst4 t) (st5 t) (hst5 t) (st6 t) (hst6 t) (st7 t) (hst7 t) (fun hs => h ((start_iff t).mp hs)) (iblk m c 0 t) (iblk m c 1 t) (iblk m c 2 t) (iblk m c 3 t) (iblk m c 4 t) e5
  isplitl [H6]
  · unfold owns; iexists _; isplitr; swap; · iexact H6
    ipureintro; exact values_Second c (grid0.coords t) (st0 t) (hst0 t) (st1 t) (hst1 t) (st2 t) (hst2 t) (st3 t) (hst3 t) (st4 t) (hst4 t) (st5 t) (hst5 t) (st6 t) (hst6 t) (st7 t) (hst7 t) (fun hs => h ((start_iff t).mp hs)) (iblk m c 0 t) (iblk m c 1 t) (iblk m c 2 t) (iblk m c 3 t) (iblk m c 4 t) e6
  iexact H7

/-- The body at either point. -/
theorem sound_body (c : Dev nD) (t : Fin cfg0.N) :
    bodyPre m c t ⊢ wp frame (wpE (defs₀ (F := Ideal)) Variants.none c none) Set.univ (bodyAt0 t) (fun _ => bodyPost m c t) := by
  by_cases h : t.val = 0
  · exact body_First m c t h
  · exact body_Second m c t h

theorem row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, row]
  exact triple_restated (sound_body m c t) rfl .rfl fun _ => .rfl

set_option backward.isDefEq.respectTransparency.types false in
/-- Every execution ends with the arrays of the inputs as they were, the outputs' arrays at the blocks left, and every semaphore counter at zero. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.MemKv.MemIdeal

end
-- ==== Proof.MemKv.MemIdeal.Host.lean ====
module

public import proofs.«01_k».proof.Proof.MemKv.MemIdeal.Exact
public import Idealize.ShloMosaic.Lib.StableHlo.Run

@[expose] public section
set_option maxRecDepth 16384
noncomputable section
namespace Cert.MemKv.MemIdeal
open Idealize.ShloMosaic Idealize.ShloMosaic.TcCoe Idealize.SL.Sem Idealize.ShloMosaic.StableHlo Cert.MemIdeal Cert.MemIdeal.Gen

variable (m : (ℓ : Loc nD τ sig) → Buf (Elt Ideal) ℓ) (c : Dev nD)

/-- The packed rows: the transposed weights, 128 values to a row. -/
theorem V_v1 : V m c main_v1 = shapeCast S196800x128 (transpose S12300x2048 [1, 0] (m ((c : Thread nD τ).loc main_arg4)) transposes_S2048x12300_S12300x2048_1_0) shapeCasts_S12300x2048_S196800x128 := by
  simp only [V, hostOps0, List.flatten_cons, List.flatten_nil, List.append_nil, List.cons_append, List.nil_append,
    TRef.binary, TRef.nullary, TRef.unary, TRef.ternary, TRef.toBuf, TRef.ofBuf, cast_eq]
  after_results_simp <;> rfl

/-- A packed row's value is the weight it was laid out from. -/
theorem v1_apply (p : Fin 196800) (q : Fin 128) (k : Fin 2048) (j : Fin 12300) (h : p.val * 128 + q.val = j.val * 2048 + k.val) :
    (V m c main_v1 : S196800x128.Idx → EReal) (ix2 p q) = m ((c : Thread nD τ).loc main_arg4) (ix2 k j) := by
  rw [V_v1]
  generalize m ((c : Thread nD τ).loc main_arg4) = x
  rw [shapeCast_apply _ shapeCasts_S12300x2048_S196800x128 (ix2 p q) (ix2 j k) (by rw [Shape.rowMajor_val_two, Shape.rowMajor_val_two]; exact h.symm)]
  exact transpose_apply [1, 0] x transposes_S2048x12300_S12300x2048_1_0 (ix2 j k) (ix2 k j) (fun b => match b with
    | ⟨0, _⟩ => rfl
    | ⟨1, _⟩ => rfl)

/-- Every window's block index at point `t`. -/
theorem idx : ∀ t : Fin cfg0.N, win0_0.index t = ![t.val, 0, 0] ∧ win0_1.index t = ![0, 0] ∧ win0_2.index t = ![0, 0] ∧ win0_3.index t = ![0, 0] ∧ win0_4.index t = ![0, 0]
    ∧ win0_5.index t = ![t.val, 0, 0] ∧ win0_6.index t = ![t.val, 0, 0] ∧ win0_7.index t = ![0, 0] :=
  (by decide +kernel : ∀ t : Fin grid0.N, _)

theorem rd0 (t : Fin cfg0.N) (r : Fin 256) (k : Fin 2048) :
    iblk m c 0 t (ix3 0 r k) = m ((c : Thread nD τ).loc main_arg0) (ix3 ⟨t.val, lt2 t⟩ r k) := by
  rw [← V_main_arg0 m c]
  have h0 : win0_0.index t 0 = t.val := congrFun (idx t).1 0
  have h1 : win0_0.index t 1 = 0 := congrFun (idx t).1 1
  have h2 : win0_0.index t 2 = 0 := congrFun (idx t).1 2
  unfold iblk
  show V m c main_arg0 ((win0_0.rect t).emb (ix3 0 r k)) = _
  congr 1
  funext b
  apply Fin.ext
  fin_cases b
  · show win0_0.index t 0 * 1 + 1 * 0 = t.val
    rw [h0]
    omega
  · show win0_0.index t 1 * 256 + 1 * r.val = r.val
    rw [h1]
    omega
  · show win0_0.index t 2 * 2048 + 1 * k.val = k.val
    rw [h2]
    omega

theorem rd1 (t : Fin cfg0.N) (k : Fin 2048) : iblk m c 1 t (ix2 0 k) = m ((c : Thread nD τ).loc main_arg1) (ix2 0 k) := by
  rw [← V_main_arg1 m c]
  have h0 : win0_1.index t 0 = 0 := congrFun (idx t).2.1 0
  have h1 : win0_1.index t 1 = 0 := congrFun (idx t).2.1 1
  unfold iblk
  show V m c main_arg1 ((win0_1.rect t).emb (ix2 0 k)) = _
  congr 1
  funext b
  apply Fin.ext
  fin_cases b
  · show win0_1.index t 0 * 1 + 1 * 0 = 0
    rw [h0]
  · show win0_1.index t 1 * 2048 + 1 * k.val = k.val
    rw [h1]
    omega

theorem rd2 (t : Fin cfg0.N) (k : Fin 2048) (j : Fin 1024) : iblk m c 2 t (ix2 k j) = m ((c : Thread nD τ).loc main_arg2) (ix2 k j) := by
  rw [← V_main_arg2 m c]
  have h0 : win0_2.index t 0 = 0 := congrFun (idx t).2.2.1 0
  have h1 : win0_2.index t 1 = 0 := congrFun (idx t).2.2.1 1
  unfold iblk
  show V m c main_arg2 ((win0_2.rect t).emb (ix2 k j)) = _
  congr 1
  funext b
  apply Fin.ext
  fin_cases b
  · show win0_2.index t 0 * 2048 + 1 * k.val = k.val
    rw [h0]
    omega
  · show win0_2.index t 1 * 1024 + 1 * j.val = j.val
    rw [h1]
    omega

theorem rd3 (t : Fin cfg0.N) (k : Fin 128) : iblk m c 3 t (ix2 0 k) = m ((c : Thread nD τ).loc main_arg3) (ix2 0 k) := by
  rw [← V_main_arg3 m c]
  have h0 : win0_3.index t 0 = 0 := congrFun (idx t).2.2.2.1 0
  have h1 : win0_3.index t 1 = 0 := congrFun (idx t).2.2.2.1 1
  unfold iblk
  show V m c main_arg3 ((win0_3.rect t).emb (ix2 0 k)) = _
  congr 1
  funext b
  apply Fin.ext
  fin_cases b
  · show win0_3.index t 0 * 1 + 1 * 0 = 0
    rw [h0]
  · show win0_3.index t 1 * 128 + 1 * k.val = k.val
    rw [h1]
    omega

theorem rd4 (t : Fin cfg0.N) (p : Fin 16384) (q : Fin 128) : iblk m c 4 t (ix2 p q) = V m c main_v1 (ix2 ⟨p.val, by omega⟩ q) := by
  have h0 : win0_4.index t 0 = 0 := congrFun (idx t).2.2.2.2.1 0
  have h1 : win0_4.index t 1 = 0 := congrFun (idx t).2.2.2.2.1 1
  unfold iblk
  show V m c main_v1 ((win0_4.rect t).emb (ix2 p q)) = _
  congr 1
  funext b
  apply Fin.ext
  fin_cases b
  · show win0_4.index t 0 + 1 * p.val = p.val
    rw [h0]
    omega
  · show win0_4.index t 1 + 1 * q.val = q.val
    rw [h1]
    omega

/-- The first tile, read from the packed rows, holds the first columns of the weights as its rows. -/
theorem firstTile_apply (r : Fin 1024) (k : Fin 2048) :
    firstTile m c (ix2 r k) = m ((c : Thread nD τ).loc main_arg4) (ix2 k ⟨r.val, by omega⟩) := by
  unfold firstTile tileVal
  exact (rd4 m c t0_0 ⟨r.val * 16 + k.val / 128, by omega⟩ ⟨k.val % 128, by omega⟩).trans
    (v1_apply m c ⟨r.val * 16 + k.val / 128, by omega⟩ ⟨k.val % 128, by omega⟩ k ⟨r.val, by omega⟩
      (by show (r.val * 16 + k.val / 128) * 128 + k.val % 128 = r.val * 2048 + k.val; omega))

/-- The product of a batch, read through the block, is that of the batch's rows of the argument. -/
theorem prod_block (t : Fin cfg0.N) (r : Fin 256) (j : Fin 1024) :
    k0_pay19 (F := Ideal) (iblk m c 0 t) (iblk m c 1 t) (iblk m c 2 t) (ix2 r j)
      = entry (fun k => m ((c : Thread nD τ).loc main_arg0) (ix3 ⟨t.val, lt2 t⟩ r k)) (fun k => m ((c : Thread nD τ).loc main_arg1) (ix2 0 k)) (fun k => m ((c : Thread nD τ).loc main_arg2) (ix2 k j)) := by
  rw [p19]
  simp only [rd0, rd1, rd2]

end Cert.MemKv.MemIdeal
end
-- ==== Proof.MemKv.RefRead.lean ====
module

public import proofs.«01_k».proof.Proof.Gen.MemReferenceIdeal.Read
public import proofs.«01_k».proof.Proof.MemKv.Entries
public import Idealize.ShloMosaic.Lib.Pipeline.ValueKit

@[expose] public section
set_option maxRecDepth 16384
noncomputable section
namespace Cert.MemKv.Ref
open Idealize.ShloMosaic Idealize.SL.Sem Cert.MemReferenceIdeal Cert.MemReferenceIdeal.Gen Cert.MemReferenceIdeal.Read Cert.MemKv

abbrev X0 := (⟨S2x256x2048, .f32⟩ : BufTy).Contents (Elt Ideal)
abbrev X1 := (⟨S1x2048, .f32⟩ : BufTy).Contents (Elt Ideal)
abbrev X2 := (⟨S2048x1024, .f32⟩ : BufTy).Contents (Elt Ideal)
abbrev X3 := (⟨S1x128, .f32⟩ : BufTy).Contents (Elt Ideal)
abbrev X4 := (⟨S2048x12300, .f32⟩ : BufTy).Contents (Elt Ideal)

theorem row_sum (x0 : X0) (b : Fin 2) (r : Fin 256) : val_main_v1 x0 (ix2 b r) = ∑ l : Fin 2048, x0 (ix3 b r l) * x0 (ix3 b r l) := by
  pointwise [val_main_v1, val_main_v0, val_main_cst]

theorem row_root (x0 : X0) (b : Fin 2) (r : Fin 256) : val_main_v7 x0 (ix3 b r 0) = root 2048 0x45000000#32 (fun l => x0 (ix3 b r l)) := by
  unfold root
  rw [← row_sum x0 b r]
  pointwise [val_main_v7, val_main_v6, val_main_v4, val_main_v2, val_main_v3, val_main_cst_0, val_main_v5, val_main_cst_1]

theorem row_out (x0 : X0) (x1 : X1) (b : Fin 2) (r : Fin 256) (k : Fin 2048) :
    val_main_v12 x0 x1 (ix3 b r k) = x0 (ix3 b r k) * val_main_v7 x0 (ix3 b r 0) * x1 (ix2 0 k) := by
  pointwise [val_main_v12, val_main_v9, val_main_v8, val_main_v11, val_main_v10]

theorem prod (x0 : X0) (x1 : X1) (x2 : X2) (b : Fin 2) (r : Fin 256) (j : Fin 1024) :
    val_main_v13 x0 x1 x2 (ix3 b r j) = entry (fun k => x0 (ix3 b r k)) (fun k => x1 (ix2 0 k)) (fun k => x2 (ix2 k j)) := by
  have e : val_main_v13 x0 x1 x2 (ix3 b r j) = ∑ k : Fin 2048, val_main_v12 x0 x1 (ix3 b r k) * x2 (ix2 k j) := by
    pointwise [val_main_v13]
  rw [e]
  unfold entry
  simp only [row_out, row_root]

theorem head (x0 : X0) (x1 : X1) (x2 : X2) (b : Fin 2) (r : Fin 256) (h : Fin 4) (l : Fin 128) :
    val_main_v15 x0 x1 x2 (ix4 b r h l) = val_main_v13 x0 x1 x2 (ix3 b r ⟨h.val * 128 + l.val, by omega⟩) := by
  pointwise [val_main_v15, val_main_v14]

theorem head_sum (x0 : X0) (x1 : X1) (x2 : X2) (b : Fin 2) (r : Fin 256) (h : Fin 4) :
    val_main_v17 x0 x1 x2 (ix3 b r h) = ∑ l : Fin 128, val_main_v15 x0 x1 x2 (ix4 b r h l) * val_main_v15 x0 x1 x2 (ix4 b r h l) := by
  pointwise [val_main_v17, val_main_v16, val_main_cst_2]

theorem head_root (x0 : X0) (x1 : X1) (x2 : X2) (b : Fin 2) (r : Fin 256) (h : Fin 4) :
    val_main_v23 x0 x1 x2 (ix4 b r h 0) = root 128 0x43000000#32 (fun l => val_main_v15 x0 x1 x2 (ix4 b r h l)) := by
  unfold root
  rw [← head_sum x0 x1 x2 b r h]
  pointwise [val_main_v23, val_main_v22, val_main_v20, val_main_v18, val_main_v19, val_main_cst_3, val_main_v21, val_main_cst_4]

theorem key_out (x0 : X0) (x1 : X1) (x2 : X2) (x3 : X3) (b : Fin 2) (r : Fin 256) (e : Fin 512) :
    val_main_v30 x0 x1 x2 x3 (ix3 b r e) = val_main_v15 x0 x1 x2 (ix4 b r ⟨e.val / 128, by omega⟩ ⟨e.val % 128, by omega⟩) * val_main_v23 x0 x1 x2 (ix4 b r ⟨e.val / 128, by omega⟩ 0)
      * x3 (ix2 0 ⟨e.val % 128, by omega⟩) := by
  pointwise [val_main_v30, val_main_v29, val_main_v28, val_main_v25, val_main_v24, val_main_v27, val_main_v26]

theorem val_out (x0 : X0) (x1 : X1) (x2 : X2) (b : Fin 2) (r : Fin 256) (e : Fin 512) :
    val_main_v32 x0 x1 x2 (ix3 b r e) = val_main_v13 x0 x1 x2 (ix3 b r ⟨512 + e.val, by omega⟩) := by
  pointwise [val_main_v32, val_main_v31]

theorem tile_out (x4 : X4) (r : Fin 1024) (k : Fin 2048) : val_main_v35 x4 (ix2 r k) = x4 (ix2 k ⟨r.val, by omega⟩) := by
  pointwise [val_main_v35, val_main_v34, val_main_v33]

/-- A key of the reference, given its row of the product over all column numbers. -/
theorem key_of (x0 : X0) (x1 : X1) (x2 : X2) (x3 : X3) (b : Fin 2) (r : Fin 256) (e : Fin 512) (p : ℕ → EReal)
    (hp : ∀ j : Fin 1024, p j.val = val_main_v13 x0 x1 x2 (ix3 b r j)) :
    val_main_v30 x0 x1 x2 x3 (ix3 b r e) = keyAt p (fun c => x3 (ix2 0 c)) (e.val / 128 * 128) ⟨e.val % 128, by omega⟩ := by
  rw [key_out, head_root]
  simp only [head, ← hp]
  rfl

end Cert.MemKv.Ref
end
-- ==== Proof.MemKv.MemIdeal.Final.lean ====
module

public import proofs.«01_k».proof.Proof.MemKv.MemIdeal.Host
public import proofs.«01_k».proof.Proof.MemKv.RefRead

@[expose] public section
set_option maxRecDepth 16384
noncomputable section
namespace Cert.MemKv.MemIdeal
open Idealize.ShloMosaic Idealize.ShloMosaic.TcCoe Idealize.SL.Sem Cert.MemIdeal Cert.MemIdeal.Gen

variable (m : (ℓ : Loc nD τ sig) → Buf (Elt Ideal) ℓ) (c : Dev nD)

/-- A batch's product through its block is the reference's. -/
theorem prod_ref (t : Fin cfg0.N) (r : Fin 256) (j : Fin 1024) :
    k0_pay19 (F := Ideal) (iblk m c 0 t) (iblk m c 1 t) (iblk m c 2 t) (ix2 r j)
      = Cert.MemReferenceIdeal.Read.val_main_v13 (m ((c : Thread nD τ).loc main_arg0)) (m ((c : Thread nD τ).loc main_arg1)) (m ((c : Thread nD τ).loc main_arg2)) (ix3 ⟨t.val, lt2 t⟩ r j) :=
  (prod_block m c t r j).trans (Ref.prod _ _ _ _ _ _).symm

set_option maxHeartbeats 4000000 in
/-- The array of keys is the reference's. -/
theorem final5 : (dats m 0 c).arrAt 5 cfg0.N
    = Cert.MemReferenceIdeal.Read.val_main_v30 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5]
  obtain ⟨r, e, rfl⟩ : ∃ (r : Fin 256) (e : Fin 512), y = ix3 0 r e := ⟨y 1, y 2, by rw [eq_ix3 y]; congr 1; exact Subsingleton.elim (α := Fin 1) _ _⟩
  have ht := lt2 t
  have he : (win0_5.blk t).view.emb (ix3 0 r e) = ix3 (⟨t.val, ht⟩ : Fin 2) r e := by blk_point [idx t]
  rw [he, Ref.key_of _ _ _ _ ⟨t.val, ht⟩ r e (rowOf (k0_pay19 (F := Ideal) (iblk m c 0 t) (iblk m c 1 t) (iblk m c 2 t)) r)
    (fun j => (rowOf_lt _ r j.val j.isLt).trans (prod_ref m c t r j))]
  rw [← show (fun l => iblk m c 3 t (ix2 0 l)) = (fun l => m ((c : Thread nD τ).loc main_arg3) (ix2 0 l)) from funext (rd3 m c t)]
  rfl

set_option maxHeartbeats 4000000 in
/-- The array of values is the reference's. -/
theorem final6 : (dats m 0 c).arrAt 6 cfg0.N
    = Cert.MemReferenceIdeal.Read.val_main_v32 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp [idx t]
  rw [after0_6]
  obtain ⟨r, e, rfl⟩ : ∃ (r : Fin 256) (e : Fin 512), y = ix3 0 r e := ⟨y 1, y 2, by rw [eq_ix3 y]; congr 1; exact Subsingleton.elim (α := Fin 1) _ _⟩
  have ht := lt2 t
  have he : (win0_6.blk t).view.emb (ix3 0 r e) = ix3 (⟨t.val, ht⟩ : Fin 2) r e := by blk_point [idx t]
  rw [he, Ref.val_out]
  exact prod_ref m c t r ⟨512 + e.val, by omega⟩

set_option maxHeartbeats 4000000 in
/-- The first tile's array is the reference's. -/
theorem final7 : (dats m 0 c).arrAt 7 cfg0.N
    = Cert.MemReferenceIdeal.Read.val_main_v35 (m ((c : Thread nD τ).loc main_arg4)) := by
  refine (dats m 0 c).arrAt_eq_of_covers 7 _ (by decide +kernel) fun t hf y => ?_
  blk_simp [idx t]
  rw [after0_7]
  obtain ⟨r, k, rfl⟩ : ∃ (r : Fin 1024) (k : Fin 2048), y = ix2 r k := ⟨y 0, y 1, eq_ix2 y⟩
  have he : (win0_7.blk t).view.emb (ix2 r k) = ix2 r k := by blk_point [idx t]
  rw [he, Ref.tile_out]
  exact firstTile_apply m c r k

end Cert.MemKv.MemIdeal
end
-- ==== Proof.MemKv.Claims.lean ====
module

public import proofs.«01_k».proof.Defs
public import proofs.«01_k».proof.Proof.MemKv.MemIdeal.Final
public import proofs.«01_k».proof.Proof.Gen.MemReferenceIdeal.Run
public import Idealize.ShloMosaic.Lib.Claim
public import Idealize.ShloMosaic.Lib.Quiescent

@[expose] public section
noncomputable section
namespace Cert.MemKv
open Idealize.ShloMosaic Idealize.ShloMosaic.TcCoe Idealize.SL.Sem

/-- The reference runs and leaves its arguments. -/
theorem ref_frame : Cert.quiescent_MemReferenceIdeal := fun m ρ _ =>
  (θ_run (Cert.MemReferenceIdeal.defs (F := Ideal)) _ _).mono (fun r h => And.intro (fun c => (h c).2.2.2) (sem_eq_zero_of_no_sems rfl r.2))
    (Cert.MemReferenceIdeal.Value.run (F := Ideal) m ρ)

namespace MemIdeal
open Cert.MemIdeal Cert.MemIdeal.Gen

/-- Every execution leaves the results' arrays at the blocks written back and the arguments as they were. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_v2_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 5, (h.1 c).1 6, (h.1 c).1 7,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c)⟩) (run_main m ρ)

end MemIdeal

/-- The memory's keys and values and the first tile of weights against the plain mathematics. -/
theorem algebraic : Cert.algebraic_MemIdeal_MemReferenceIdeal := by
  intro m g m' g' _ hagree
  refine ⟨fun c => (MemIdeal.dats m 0 c).arrAt 5 Cert.MemIdeal.cfg0.N, fun c => (MemIdeal.dats m 0 c).arrAt 6 Cert.MemIdeal.cfg0.N, fun c => (MemIdeal.dats m 0 c).arrAt 7 Cert.MemIdeal.cfg0.N,
    MemIdeal.run_blocks m g, ?_⟩
  refine (θ_run _ _ _).mono (fun r h c => ⟨(h c).1.trans ?_, (h c).2.1.trans ?_, (h c).2.2.1.trans ?_, (h c).2.2.2⟩) (Cert.MemReferenceIdeal.Value.run (F := Ideal) m' g')
  · refine Eq.trans ?_ (MemIdeal.final5 m c).symm
    rw [Cert.MemReferenceIdeal.Read.val_main_v30_eq]
    obtain ⟨h0, h1, h2, h3, h4⟩ := hagree c
    rw [h0, h1, h2, h3]
  · refine Eq.trans ?_ (MemIdeal.final6 m c).symm
    rw [Cert.MemReferenceIdeal.Read.val_main_v32_eq]
    obtain ⟨h0, h1, h2, h3, h4⟩ := hagree c
    rw [h0, h1, h2]
  · refine Eq.trans ?_ (MemIdeal.final7 m c).symm
    rw [Cert.MemReferenceIdeal.Read.val_main_v35_eq]
    obtain ⟨h0, h1, h2, h3, h4⟩ := hagree c
    rw [h4]

end Cert.MemKv
end
-- ==== Proof.NormX.Pieces.lean ====
module

public import proofs.«01_k».proof.Proof.Gen.NormIdeal.Frame
public import Idealize.ShloMosaic.Lib.Pipeline.ValueKit
public import Idealize.ShloMosaic.Lib.VecWindow

@[expose] public section
set_option maxRecDepth 16384
noncomputable section
namespace Cert.NormX
open Idealize.ShloMosaic Idealize.ShloMosaic.TcCoe Idealize.SL.Sem Cert.NormIdeal Cert.NormIdeal.Gen

abbrev X0 := Vec Ideal S1024x2048 .f32
abbrev X1 := Vec Ideal S1x2048 .f32
abbrev X2 := Vec Ideal S128x2048 .bf16
abbrev X3 := Vec Ideal S1x128 .f32
abbrev X4 := Vec Ideal S384x768 .bf16

theorem whole2 {a b : ℕ} {e : EltTy} {arg : Memref sig .tc .vmem ⟨2, ![a, b]⟩ e} (h : arg.IsWhole) (x : Vec Ideal ⟨2, ![a, b]⟩ e)
    (inb : ∀ i, (![0, 0] : Fin 2 → ℕ) i + (![a, b] : Fin 2 → ℕ) i ≤ (![a, b] : Fin 2 → ℕ) i) :
    arg.view.readAt (Elt Ideal) (Rect.unit (s := ⟨2, ![a, b]⟩) ![0, 0] ![a, b] inb).toLoadRect (h.unread x) = x := by
  funext y
  rw [View.readAt_apply, h.read_unread]
  congr 1
  funext i
  apply Fin.ext
  fin_cases i
  · show 0 + 1 * (y 0).val = (y 0).val
    omega
  · show 0 + 1 * (y 1).val = (y 1).val
    omega

/-- The row numbers of a block. -/
abbrev rows : IVec S1024x128 32 := iota .tc S1024x128 32 [0] iota_S1024x128_d0_w32

/-- The zero the log-sigmoid is bounded by. -/
abbrev zero32 : Ideal .f32 := Scalar.ofBits .f32 0x00000000#32

/-- The logits of a block. -/
abbrev logits (x0 : X0) (x1 : X1) (x2 : X2) (x3 : X3) : FVec Ideal S1024x128 .f32 := k0_pay4 (F := Ideal) x0 x1 x2 x3

/-- The running sums of a block over the carried sum `s`. -/
def sums (x0 : X0) (x1 : X1) (x2 : X2) (x3 : X3) (s : X3) : FVec Ideal S1024x128 .f32 :=
  k0_pay8 (F := Ideal) rows (k0_pay5 (logits x0 x1 x2 x3) zero32) k0_pay6 (k0_pay7 (logits x0 x1 x2 x3) zero32) s

/-- What a block carries on: the last row of its running sums. -/
def carry (x0 : X0) (x1 : X1) (x2 : X2) (x3 : X3) (s : X3) : X3 :=
  k0_pay9 (F := Ideal) rows (k0_pay5 (logits x0 x1 x2 x3) zero32) k0_pay6 (k0_pay7 (logits x0 x1 x2 x3) zero32) s

/-- The placed columns of a block. -/
def placed (x0 : X0) (x1 : X1) (x2 : X2) (x3 : X3) (x4 : X4) (s : X3) : FVec Ideal S1024x768 .bf16 :=
  k0_pay1 (F := Ideal) (k0_pay11 rows (k0_pay5 (logits x0 x1 x2 x3) zero32) k0_pay6 (k0_pay7 (logits x0 x1 x2 x3) zero32) s)
    (k0_pay12 rows (k0_pay5 (logits x0 x1 x2 x3) zero32) k0_pay6 (k0_pay7 (logits x0 x1 x2 x3) zero32) s)
    (k0_pay13 rows (k0_pay5 (logits x0 x1 x2 x3) zero32) k0_pay6 (k0_pay7 (logits x0 x1 x2 x3) zero32) s)
    (k0_pay14 rows (k0_pay5 (logits x0 x1 x2 x3) zero32) k0_pay6 (k0_pay7 (logits x0 x1 x2 x3) zero32) s) x4

theorem out0_A_5_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S1x128 .f32) (harg4 : arg4.IsWhole) (arg5 : Memref sig .tc .vmem S384x768 .bf16) (harg5 : arg5.IsWhole) (arg6 : Memref sig .tc .vmem S1024x2048 .bf16) (harg6 : arg6.IsWhole) (arg7 : Memref sig .tc .vmem S1024x768 .bf16) (harg7 : arg7.IsWhole) (arg8 : Memref sig .tc .vmem S1x128 .f32) (harg8 : arg8.IsWhole) (hc0 : cond0_0 i)
    (x0 : X0) (x1 : X1) (x2 : X2) (x3 : X3) (x4 : X4) :
    out0_A_5 (F := Ideal) c i arg1 harg1 arg2 harg2 arg3 harg3 arg4 harg4 arg5 harg5 arg6 harg6 arg7 harg7 arg8 harg8 hc0 x0 x1 x2 x3 x4 = k0_pay3 (F := Ideal) x0 x1 := by
  have e0 := (whole2 harg1 x0 inb_S1024x2048_S1024x2048_0_0)
  have e1 := (whole2 harg2 x1 inb_S1x2048_S1x2048_0_0)
  have e2 := (whole2 harg3 x2 inb_S128x2048_S128x2048_0_0)
  have e3 := (whole2 harg4 x3 inb_S1x128_S1x128_0_0)
  have e4 := (whole2 harg5 x4 inb_S384x768_S384x768_0_0)
  have es : kernelRun0_A.sl.v103 (F := Ideal) c arg8 = k0_pay2 (F := Ideal) := View.readCov_full _ inb_S1x128_S1x128_0_0 inb_S1x128_S1x128_0_0 _ _
  unfold out0_A_5 kernelRun0_A
  dsimp only
  refine (View.read_writes_full _ _ _ _ _).trans ?_
  exact congrArg₂ (k0_pay3 (F := Ideal)) e0 e1

theorem out0_A_6_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S1x128 .f32) (harg4 : arg4.IsWhole) (arg5 : Memref sig .tc .vmem S384x768 .bf16) (harg5 : arg5.IsWhole) (arg6 : Memref sig .tc .vmem S1024x2048 .bf16) (harg6 : arg6.IsWhole) (arg7 : Memref sig .tc .vmem S1024x768 .bf16) (harg7 : arg7.IsWhole) (arg8 : Memref sig .tc .vmem S1x128 .f32) (harg8 : arg8.IsWhole) (hc0 : cond0_0 i)
    (x0 : X0) (x1 : X1) (x2 : X2) (x3 : X3) (x4 : X4) :
    out0_A_6 (F := Ideal) c i arg1 harg1 arg2 harg2 arg3 harg3 arg4 harg4 arg5 harg5 arg6 harg6 arg7 harg7 arg8 harg8 hc0 x0 x1 x2 x3 x4 = placed x0 x1 x2 x3 x4 (k0_pay2 (F := Ideal)) := by
  have e0 := (whole2 harg1 x0 inb_S1024x2048_S1024x2048_0_0)
  have e1 := (whole2 harg2 x1 inb_S1x2048_S1x2048_0_0)
  have e2 := (whole2 harg3 x2 inb_S128x2048_S128x2048_0_0)
  have e3 := (whole2 harg4 x3 inb_S1x128_S1x128_0_0)
  have e4 := (whole2 harg5 x4 inb_S384x768_S384x768_0_0)
  have es : kernelRun0_A.sl.v103 (F := Ideal) c arg8 = k0_pay2 (F := Ideal) := View.readCov_full _ inb_S1x128_S1x128_0_0 inb_S1x128_S1x128_0_0 _ _
  unfold out0_A_6 kernelRun0_A
  dsimp only
  refine (View.read_writes_full _ _ _ _ _).trans ?_
  unfold placed logits rows zero32
  unfold kernelRun0_A.sl.r_6 kernelRun0_A.sl.r_5 kernelRun0_A.sl.r_4 kernelRun0_A.sl.r_3 kernelRun0_A.sl.r_2 kernelRun0_A.sl.r_1 kernelRun0_A.sl.r kernelRun0_A.sl.v42 kernelRun0_A.sl.cst_17
  rw [e0, e1, e2, e3, e4, es]

theorem sout0_A_0_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S1x128 .f32) (harg4 : arg4.IsWhole) (arg5 : Memref sig .tc .vmem S384x768 .bf16) (harg5 : arg5.IsWhole) (arg6 : Memref sig .tc .vmem S1024x2048 .bf16) (harg6 : arg6.IsWhole) (arg7 : Memref sig .tc .vmem S1024x768 .bf16) (harg7 : arg7.IsWhole) (arg8 : Memref sig .tc .vmem S1x128 .f32) (harg8 : arg8.IsWhole) (hc0 : cond0_0 i)
    (x0 : X0) (x1 : X1) (x2 : X2) (x3 : X3) (x4 : X4) :
    sout0_A_0 (F := Ideal) c i arg1 harg1 arg2 harg2 arg3 harg3 arg4 harg4 arg5 harg5 arg6 harg6 arg7 harg7 arg8 harg8 hc0 x0 x1 x2 x3 x4 = carry x0 x1 x2 x3 (k0_pay2 (F := Ideal)) := by
  have e0 := (whole2 harg1 x0 inb_S1024x2048_S1024x2048_0_0)
  have e1 := (whole2 harg2 x1 inb_S1x2048_S1x2048_0_0)
  have e2 := (whole2 harg3 x2 inb_S128x2048_S128x2048_0_0)
  have e3 := (whole2 harg4 x3 inb_S1x128_S1x128_0_0)
  have e4 := (whole2 harg5 x4 inb_S384x768_S384x768_0_0)
  have es : kernelRun0_A.sl.v103 (F := Ideal) c arg8 = k0_pay2 (F := Ideal) := View.readCov_full _ inb_S1x128_S1x128_0_0 inb_S1x128_S1x128_0_0 _ _
  unfold sout0_A_0 kernelRun0_A
  dsimp only
  refine (View.read_writes_full _ _ _ _ _).trans ?_
  unfold carry logits rows zero32
  unfold kernelRun0_A.sl.r_2 kernelRun0_A.sl.r_1 kernelRun0_A.sl.r kernelRun0_A.sl.v42 kernelRun0_A.sl.cst_17
  rw [e0, e1, e2, e3, es]

theorem out0_B_5_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S1x128 .f32) (harg4 : arg4.IsWhole) (arg5 : Memref sig .tc .vmem S384x768 .bf16) (harg5 : arg5.IsWhole) (arg6 : Memref sig .tc .vmem S1024x2048 .bf16) (harg6 : arg6.IsWhole) (arg7 : Memref sig .tc .vmem S1024x768 .bf16) (harg7 : arg7.IsWhole) (arg8 : Memref sig .tc .vmem S1x128 .f32) (harg8 : arg8.IsWhole) (hc0 : ¬cond0_0 i)
    (x0 : X0) (x1 : X1) (x2 : X2) (x3 : X3) (x4 : X4) (xs0 : X3) :
    out0_B_5 (F := Ideal) c i arg1 harg1 arg2 harg2 arg3 harg3 arg4 harg4 arg5 harg5 arg6 harg6 arg7 harg7 arg8 harg8 hc0 x0 x1 x2 x3 x4 xs0 = k0_pay3 (F := Ideal) x0 x1 := by
  have e0 := (whole2 harg1 x0 inb_S1024x2048_S1024x2048_0_0)
  have e1 := (whole2 harg2 x1 inb_S1x2048_S1x2048_0_0)
  have e2 := (whole2 harg3 x2 inb_S128x2048_S128x2048_0_0)
  have e3 := (whole2 harg4 x3 inb_S1x128_S1x128_0_0)
  have e4 := (whole2 harg5 x4 inb_S384x768_S384x768_0_0)
  have es := whole2 harg8 xs0 inb_S1x128_S1x128_0_0
  unfold out0_B_5 kernelRun0_B
  dsimp only
  refine (View.read_writes_full _ _ _ _ _).trans ?_
  exact congrArg₂ (k0_pay3 (F := Ideal)) e0 e1

theorem out0_B_6_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S1x128 .f32) (harg4 : arg4.IsWhole) (arg5 : Memref sig .tc .vmem S384x768 .bf16) (harg5 : arg5.IsWhole) (arg6 : Memref sig .tc .vmem S1024x2048 .bf16) (harg6 : arg6.IsWhole) (arg7 : Memref sig .tc .vmem S1024x768 .bf16) (harg7 : arg7.IsWhole) (arg8 : Memref sig .tc .vmem S1x128 .f32) (harg8 : arg8.IsWhole) (hc0 : ¬cond0_0 i)
    (x0 : X0) (x1 : X1) (x2 : X2) (x3 : X3) (x4 : X4) (xs0 : X3) :
    out0_B_6 (F := Ideal) c i arg1 harg1 arg2 harg2 arg3 harg3 arg4 harg4 arg5 harg5 arg6 harg6 arg7 harg7 arg8 harg8 hc0 x0 x1 x2 x3 x4 xs0 = placed x0 x1 x2 x3 x4 xs0 := by
  have e0 := (whole2 harg1 x0 inb_S1024x2048_S1024x2048_0_0)
  have e1 := (whole2 harg2 x1 inb_S1x2048_S1x2048_0_0)
  have e2 := (whole2 harg3 x2 inb_S128x2048_S128x2048_0_0)
  have e3 := (whole2 harg4 x3 inb_S1x128_S1x128_0_0)
  have e4 := (whole2 harg5 x4 inb_S384x768_S384x768_0_0)
  have es := whole2 harg8 xs0 inb_S1x128_S1x128_0_0
  unfold out0_B_6 kernelRun0_B
  dsimp only
  refine (View.read_writes_full _ _ _ _ _).trans ?_
  unfold placed logits rows zero32
  unfold kernelRun0_B.sl.r_6 kernelRun0_B.sl.r_5 kernelRun0_B.sl.r_4 kernelRun0_B.sl.r_3 kernelRun0_B.sl.r_2 kernelRun0_B.sl.r_1 kernelRun0_B.sl.r kernelRun0_B.sl.v42 kernelRun0_B.sl.cst_17
  rw [e0, e1, e2, e3, e4, es]

theorem sout0_B_0_eq (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S128x2048 .bf16) (harg3 : arg3.IsWhole) (arg4 : Memref sig .tc .vmem S1x128 .f32) (harg4 : arg4.IsWhole) (arg5 : Memref sig .tc .vmem S384x768 .bf16) (harg5 : arg5.IsWhole) (arg6 : Memref sig .tc .vmem S1024x2048 .bf16) (harg6 : arg6.IsWhole) (arg7 : Memref sig .tc .vmem S1024x768 .bf16) (harg7 : arg7.IsWhole) (arg8 : Memref sig .tc .vmem S1x128 .f32) (harg8 : arg8.IsWhole) (hc0 : ¬cond0_0 i)
    (x0 : X0) (x1 : X1) (x2 : X2) (x3 : X3) (x4 : X4) (xs0 : X3) :
    sout0_B_0 (F := Ideal) c i arg1 harg1 arg2 harg2 arg3 harg3 arg4 harg4 arg5 harg5 arg6 harg6 arg7 harg7 arg8 harg8 hc0 x0 x1 x2 x3 x4 xs0 = carry x0 x1 x2 x3 xs0 := by
  have e0 := (whole2 harg1 x0 inb_S1024x2048_S1024x2048_0_0)
  have e1 := (whole2 harg2 x1 inb_S1x2048_S1x2048_0_0)
  have e2 := (whole2 harg3 x2 inb_S128x2048_S128x2048_0_0)
  have e3 := (whole2 harg4 x3 inb_S1x128_S1x128_0_0)
  have e4 := (whole2 harg5 x4 inb_S384x768_S384x768_0_0)
  have es := whole2 harg8 xs0 inb_S1x128_S1x128_0_0
  unfold sout0_B_0 kernelRun0_B
  dsimp only
  refine (View.read_writes_full _ _ _ _ _).trans ?_
  unfold carry logits rows zero32
  unfold kernelRun0_B.sl.r_2 kernelRun0_B.sl.r_1 kernelRun0_B.sl.r kernelRun0_B.sl.v42 kernelRun0_B.sl.cst_17
  rw [e0, e1, e2, e3, es]

end Cert.NormX
end
-- ==== Proof.NormX.Sums.lean ====
module

public import Idealize.ShloMosaic.Lib.Pointwise

@[expose] public section
noncomputable section
namespace Cert.NormX
open Idealize.ShloMosaic

/-- The sum of the last `n` values up to place `r`. -/
def win (n : ℕ) (x : ℕ → EReal) (r : ℕ) : EReal := ∑ j ∈ Finset.range n, if j ≤ r then x (r - j) else 0

theorem win_one (x : ℕ → EReal) (r : ℕ) : win 1 x r = x r := by
  simp [win]

/-- Adding the sum `n` places back doubles the length of the sum. -/
theorem win_double (n : ℕ) (x : ℕ → EReal) (r : ℕ) :
    win n x r + (if n ≤ r then win n x (r - n) else 0) = win (n + n) x r := by
  unfold win
  rw [Finset.sum_range_add]
  congr 1
  by_cases h : n ≤ r
  · rw [if_pos h]
    refine Finset.sum_congr rfl fun j _ => ?_
    by_cases hj : n + j ≤ r
    · rw [if_pos (by omega), if_pos hj, Nat.sub_sub]
    · rw [if_neg (by omega), if_neg hj]
  · rw [if_neg h]
    refine (Finset.sum_eq_zero fun j _ => ?_).symm
    rw [if_neg (by omega)]

/-- A sum at least as long as its place is the sum of all values up to it. -/
theorem win_all (n : ℕ) (x : ℕ → EReal) (r : ℕ) (h : r < n) : win n x r = ∑ i ∈ Finset.range (r + 1), x i := by
  unfold win
  obtain ⟨k, rfl⟩ : ∃ k, n = (r + 1) + k := ⟨n - (r + 1), by omega⟩
  rw [Finset.sum_range_add]
  rw [show (∑ j ∈ Finset.range k, if r + 1 + j ≤ r then x (r - (r + 1 + j)) else 0) = 0 from
    Finset.sum_eq_zero fun j _ => if_neg (by omega), add_zero]
  rw [← Finset.sum_range_reflect]
  refine Finset.sum_congr rfl fun j hj => ?_
  have := Finset.mem_range.mp hj
  rw [if_pos (by omega)]
  congr 1
  omega

/-- Log-sigmoid. -/
def lsig (f : EReal) : EReal := min f 0 - Ideal.log1p (Ideal.exp (-(max f (-f))))

end Cert.NormX
end
-- ==== Proof.NormX.Pay.lean ====
module

public import proofs.«01_k».proof.Proof.NormX.Pieces
public import proofs.«01_k».proof.Proof.NormX.Sums

@[expose] public section
set_option maxRecDepth 16384
noncomputable section
namespace Cert.NormX
open Idealize.ShloMosaic Idealize.ShloMosaic.TcCoe Idealize.SL.Sem Cert.NormIdeal Cert.NormIdeal.Gen

/-- A block plus itself moved `s` rows down, zeros moved in. -/
abbrev shifted (s : ℕ) (y : FVec Ideal S1024x128 .f32) : FVec Ideal S1024x128 .f32 :=
  addf y (select (cmpi .sge rows (broadcast S1024x128 (BitVec.ofNat 32 s))) (dynamicRotate 0 (BitVec.ofNat 32 s) none y rotates_S1024x128_d0) (broadcast S1024x128 (Scalar.ofBits .f32 0x00000000#32)))

/-- The log-sigmoid of a block. -/
abbrev logsig (f : FVec Ideal S1024x128 .f32) : FVec Ideal S1024x128 .f32 :=
  subf (minimumf f (broadcast S1024x128 zero32)) (log1p (exp (subf (broadcast S1024x128 (Scalar.ofBits .f32 0x00000000#32)) (absf f))))

theorem logsig_apply (f : FVec Ideal S1024x128 .f32) (r : Fin 1024) (h : Fin 128) : logsig f (ix2 r h) = lsig (f (ix2 r h)) := by
  unfold lsig
  rw [← zero_sub]
  pointwise []
  rfl

theorem shifted_apply (s : ℕ) (hs : s < 1024) (y : FVec Ideal S1024x128 .f32) (r : Fin 1024) (h : Fin 128) :
    shifted s y (ix2 r h) = y (ix2 r h) + (if s ≤ r.val then y (ix2 ⟨r.val - s, by omega⟩ h) else 0) := by
  have e : shifted s y (ix2 r h) = y (ix2 r h) + Scalar.select (IntOp.cmpi CmpIPredicate.sge (BitVec.ofNat 32 r.val) (BitVec.ofNat 32 s))
        (y (ix2 ⟨(r.val + 1024 - (BitVec.ofNat 32 s).toNat % 1024) % 1024, Nat.mod_lt _ (by omega)⟩ h)) 0 := by
    pointwise []
  rw [e, WordCmp.cmpi_sge_ofNat (by omega) (by omega)]
  congr 1
  by_cases hr : s ≤ r.val
  · rw [if_pos hr]
    have hk : (r.val + 1024 - (BitVec.ofNat 32 s).toNat % 1024) % 1024 = r.val - s := by
      rw [BitVec.toNat_ofNat]; omega
    simp only [hk]
    simp [Scalar.select, hr]
  · rw [if_neg hr]
    simp [Scalar.select, hr]

theorem shifted_win (s : ℕ) (hs : s < 1024) (x : ℕ → EReal) (h : Fin 128) (y : FVec Ideal S1024x128 .f32) (hy : ∀ r : Fin 1024, y (ix2 r h) = win s x r.val)
    (r : Fin 1024) : shifted s y (ix2 r h) = win (s + s) x r.val := by
  rw [shifted_apply s hs, ← win_double, hy r]
  congr 1
  split
  · exact hy _
  · rfl

/-- A block's running sums: the carried sum plus the log-sigmoids of all its rows so far. -/
theorem sums_apply (x0 : X0) (x1 : X1) (x2 : X2) (x3 : X3) (s : X3) (x : ℕ → EReal) (h : Fin 128)
    (hx : ∀ r : Fin 1024, x r.val = lsig (logits x0 x1 x2 x3 (ix2 r h))) (r : Fin 1024) :
    sums x0 x1 x2 x3 s (ix2 r h) = (∑ i ∈ Finset.range (r.val + 1), x i) + s (ix2 0 h) := by
  have e : sums x0 x1 x2 x3 s = addf (shifted 512 (shifted 256 (shifted 128 (shifted 64 (shifted 32 (shifted 16 (shifted 8 (shifted 4 (shifted 2 (shifted 1 (logsig (logits x0 x1 x2 x3))))))))))))
      (broadcastTo S1024x128 s broadcasts_S1x128_S1024x128) := rfl
  rw [e]
  have a (y : FVec Ideal S1024x128 .f32) : addf y (broadcastTo S1024x128 s broadcasts_S1x128_S1024x128) (ix2 r h) = y (ix2 r h) + s (ix2 0 h) := by
    pointwise []
  rw [a, ← win_all 1024 x r.val r.isLt]
  congr 1
  refine shifted_win 512 (by omega) x h _ (fun r => ?_) r
  refine shifted_win 256 (by omega) x h _ (fun r => ?_) r
  refine shifted_win 128 (by omega) x h _ (fun r => ?_) r
  refine shifted_win 64 (by omega) x h _ (fun r => ?_) r
  refine shifted_win 32 (by omega) x h _ (fun r => ?_) r
  refine shifted_win 16 (by omega) x h _ (fun r => ?_) r
  refine shifted_win 8 (by omega) x h _ (fun r => ?_) r
  refine shifted_win 4 (by omega) x h _ (fun r => ?_) r
  refine shifted_win 2 (by omega) x h _ (fun r => ?_) r
  refine shifted_win 1 (by omega) x h _ (fun r => ?_) r
  rw [win_one, hx, logsig_apply]

theorem carry_apply (x0 : X0) (x1 : X1) (x2 : X2) (x3 : X3) (s : X3) (h : Fin 128) :
    carry x0 x1 x2 x3 s (ix2 0 h) = sums x0 x1 x2 x3 s (ix2 ⟨1023, by omega⟩ h) := by
  have a (y : FVec Ideal S1024x128 .f32) : shapeCast S1x128 (extractStridedSlice S1x128 ![1023, 0] y slices_S1024x128_o1023_0_S1x128) shapeCasts_S1x128_S1x128 (ix2 0 h) = y (ix2 ⟨1023, by omega⟩ h) := by
    pointwise []
  exact a (sums x0 x1 x2 x3 s)

theorem start_apply (h : Fin 128) : k0_pay2 (F := Ideal) (ix2 0 h) = 0 := by
  pointwise [k0_pay2]

/-- The inverse root mean square of a row. -/
def root (a : Fin 2048 → EReal) : EReal :=
  Ideal.rsqrt (Ideal.div (∑ l, a l * a l) (Ideal.ofBits .f32 0x45000000#32) + Ideal.ofBits .f32 0x358637BD#32)

theorem norm_apply (x0 : X0) (x1 : X1) (r : Fin 1024) (k : Fin 2048) :
    k0_pay3 (F := Ideal) x0 x1 (ix2 r k) = x0 (ix2 r k) * root (fun l => x0 (ix2 r l)) * x1 (ix2 0 k) := by
  unfold root
  pointwise [k0_pay3]

theorem logits_apply (x0 : X0) (x1 : X1) (x2 : X2) (x3 : X3) (r : Fin 1024) (h : Fin 128) :
    logits x0 x1 x2 x3 (ix2 r h) = (∑ k : Fin 2048, k0_pay3 (F := Ideal) x0 x1 (ix2 r k) * x2 (ix2 h k)) + x3 (ix2 0 h) := by
  unfold logits
  pointwise [k0_pay4]

/-- The three pieces of a value side by side, as a function of the column. -/
def pieces (c : Fin 128 → EReal) (k : Fin 384) : EReal :=
  if h : k.val < 128 then c ⟨k.val, h⟩
  else if h : k.val < 256 then c ⟨k.val - 128, by omega⟩ - c ⟨k.val - 128, by omega⟩
  else (c ⟨k.val - 256, by omega⟩ - c ⟨k.val - 256, by omega⟩) - (c ⟨k.val - 256, by omega⟩ - c ⟨k.val - 256, by omega⟩)

/-- The factor from natural to binary logarithms, negated. -/
def scale : EReal := Ideal.ofBits .f32 0xBFB8AA3B#32

/-- Three blocks side by side. -/
abbrev beside (a b d : FVec Ideal S1024x128 .bf16) : FVec Ideal S1024x384 .bf16 :=
  concatenate S1024x384 1 [⟨S1024x128, a⟩, ⟨S1024x128, b⟩, ⟨S1024x128, d⟩] concatenates_S1024x128_S1024x128_S1024x128_S1024x384_d1

theorem pay1_apply (a : FVec Ideal S1024x128 .bf16) (b : FVec Ideal S1024x128 .f32) (d : FVec Ideal S1024x128 .bf16) (e : FVec Ideal S1024x128 .f32) (x4 : X4) (r : Fin 1024) (j : Fin 768) :
    k0_pay1 (F := Ideal) a b d e x4 (ix2 r j) = ∑ k : Fin 384, beside a d (truncf .bf16 (subf b e) bitsLt_bf16_f32) (ix2 r k) * x4 (ix2 k j) := by
  have q (y : FVec Ideal S1024x384 .bf16) (x4 : FVec Ideal S384x768 .bf16) : (truncf .bf16 (matmul dot_S1024x384_S384x768_S1024x768_1_0_0_1_n_n none y x4 (constant S1024x768 .f32 0x00000000#32)) bitsLt_bf16_f32 : FVec Ideal S1024x768 .bf16) (ix2 r j)
      = ∑ k : Fin 384, y (ix2 r k) * x4 (ix2 k j) := by
    pointwise []
  exact q _ x4

theorem beside_apply (a b d : FVec Ideal S1024x128 .bf16) (r : Fin 1024) (c : Fin 128 → EReal) (ha : ∀ h, a (ix2 r h) = c h) (hb : ∀ h, b (ix2 r h) = c h - c h) (hd : ∀ h, d (ix2 r h) = (c h - c h) - (c h - c h)) (k : Fin 384) :
    beside a b d (ix2 r k) = pieces c k := by
  unfold pieces
  by_cases h1 : k.val < 128
  · rw [dif_pos h1, ← ha]
    refine concatenate_apply_piece (t := S1024x384) 1 _ _ (ix2 r k) 0 ?_ S1024x128 a ?_ rfl 0 ?_ (ix2 r ⟨k.val, h1⟩) ?_ (show 0 + k.val = k.val from Nat.zero_add _)
    · exact (by decide : 0 < 3)
    · rfl
    · rfl
    · exact fun b hb => match b, hb with
          | ⟨0, _⟩, _ => rfl
          | ⟨1, _⟩, hb => absurd rfl hb
  · rw [dif_neg h1]
    by_cases h2 : k.val < 256
    · rw [dif_pos h2, ← hb]
      refine concatenate_apply_piece (t := S1024x384) 1 _ _ (ix2 r k) 1 ?_ S1024x128 b ?_ rfl 128 ?_ (ix2 r ⟨k.val - 128, by omega⟩) ?_ (show 128 + (k.val - 128) = k.val by omega)
      · exact (by decide : 1 < 3)
      · rfl
      · rfl
      · exact fun b hb => match b, hb with
            | ⟨0, _⟩, _ => rfl
            | ⟨1, _⟩, hb => absurd rfl hb
    · rw [dif_neg h2, ← hd]
      refine concatenate_apply_piece (t := S1024x384) 1 _ _ (ix2 r k) 2 ?_ S1024x128 d ?_ rfl 256 ?_ (ix2 r ⟨k.val - 256, by omega⟩) ?_ (show 256 + (k.val - 256) = k.val by omega)
      · exact (by decide : 2 < 3)
      · rfl
      · rfl
      · exact fun b hb => match b, hb with
            | ⟨0, _⟩, _ => rfl
            | ⟨1, _⟩, hb => absurd rfl hb

theorem placed_apply (x0 : X0) (x1 : X1) (x2 : X2) (x3 : X3) (x4 : X4) (s : X3) (r : Fin 1024) (j : Fin 768) :
    placed x0 x1 x2 x3 x4 s (ix2 r j) = ∑ k : Fin 384, pieces (fun h => sums x0 x1 x2 x3 s (ix2 r h) * scale) k * x4 (ix2 k j) := by
  unfold placed
  rw [pay1_apply]
  refine Finset.sum_congr rfl fun k _ => ?_
  rw [beside_apply _ _ _ r (fun h => sums x0 x1 x2 x3 s (ix2 r h) * scale) (fun h => rfl) (fun h => rfl) (fun h => rfl) k]

end Cert.NormX
end
-- ==== Proof.NormX.RefRead.lean ====
module

public import proofs.«01_k».proof.Proof.Gen.NormReferenceIdeal.Read
public import proofs.«01_k».proof.Proof.NormX.Pay

@[expose] public section
set_option maxRecDepth 16384
noncomputable section
namespace Cert.NormX.Ref
open Idealize.ShloMosaic Idealize.SL.Sem Cert.NormReferenceIdeal Cert.NormReferenceIdeal.Gen Cert.NormReferenceIdeal.Read Cert.NormX

abbrev X0 := (⟨S8192x2048, .f32⟩ : BufTy).Contents (Elt Ideal)
abbrev X1 := (⟨S1x2048, .f32⟩ : BufTy).Contents (Elt Ideal)
abbrev X2 := (⟨S128x2048, .bf16⟩ : BufTy).Contents (Elt Ideal)
abbrev X3 := (⟨S1x128, .f32⟩ : BufTy).Contents (Elt Ideal)
abbrev X4 := (⟨S384x768, .bf16⟩ : BufTy).Contents (Elt Ideal)

theorem row_sum (x0 : X0) (r : Fin 8192) : val_main_v1 x0 (ix1 r) = ∑ l : Fin 2048, x0 (ix2 r l) * x0 (ix2 r l) := by
  pointwise [val_main_v1, val_main_v0, val_main_cst]

theorem row_root (x0 : X0) (r : Fin 8192) : val_main_v7 x0 (ix2 r 0) = root (fun l => x0 (ix2 r l)) := by
  unfold root
  rw [← row_sum x0 r]
  pointwise [val_main_v7, val_main_v6, val_main_v4, val_main_v2, val_main_v3, val_main_cst_0, val_main_v5, val_main_cst_1]

theorem row_out (x0 : X0) (x1 : X1) (r : Fin 8192) (k : Fin 2048) :
    val_main_v11 x0 x1 (ix2 r k) = x0 (ix2 r k) * root (fun l => x0 (ix2 r l)) * x1 (ix2 0 k) := by
  rw [← row_root]
  pointwise [val_main_v11, val_main_v9, val_main_v8, val_main_v10]

theorem out0 (x0 : X0) (x1 : X1) (r : Fin 8192) (k : Fin 2048) : val_main_v32 x0 x1 (ix2 r k) = x0 (ix2 r k) * root (fun l => x0 (ix2 r l)) * x1 (ix2 0 k) := by
  rw [← row_out]
  pointwise [val_main_v32]

theorem logit (x0 : X0) (x1 : X1) (x2 : X2) (x3 : X3) (r : Fin 8192) (h : Fin 128) :
    val_main_v16 x0 x1 x2 x3 (ix2 r h) = (∑ k : Fin 2048, val_main_v11 x0 x1 (ix2 r k) * x2 (ix2 h k)) + x3 (ix2 0 h) := by
  pointwise [val_main_v16, val_main_v15, val_main_v14, val_main_v13, val_main_v12]

/-- The logarithm's part of a log-sigmoid is finite. -/
theorem tail_finite (r : ℝ) (hr : 0 ≤ r) : Ideal.log1p (r : EReal) ≠ ⊥ ∧ Ideal.log1p (r : EReal) ≠ ⊤ := by
  have h : Ideal.log1p (r : EReal) = ((Real.log (1 + r) : ℝ) : EReal) := by
    unfold Ideal.log1p
    rw [show (1 : EReal) + (r : EReal) = ((1 + r : ℝ) : EReal) from rfl]
    exact if_neg (by linarith)
  rw [h]
  exact ⟨EReal.coe_ne_bot _, EReal.coe_ne_top _⟩

/-- The two ways of writing a log-sigmoid agree on all extended reals. -/
theorem lsig_eq (f : EReal) : -(max (-f) 0 + Ideal.log1p (Ideal.exp (-(max (-f) (-(-f)))))) = lsig f := by
  unfold lsig
  rw [neg_neg, max_comm (-f) f]
  have hl : Ideal.log1p (Ideal.exp (-(max f (-f)))) ≠ ⊥ ∧ Ideal.log1p (Ideal.exp (-(max f (-f)))) ≠ ⊤ := by
    induction f using EReal.rec with
    | bot => exact tail_finite 0 le_rfl
    | top => exact tail_finite 0 le_rfl
    | coe x =>
      have e : Ideal.exp (-(max (x : EReal) (-(x : EReal)))) = ((Real.exp (-(max x (-x))) : ℝ) : EReal) := by
        rw [show max (x : EReal) (-(x : EReal)) = ((max x (-x) : ℝ) : EReal) from (EReal.coe_strictMono.monotone.map_max).symm]
        rfl
      rw [e]
      exact tail_finite _ (Real.exp_pos _).le
  have hm : -(max (-f) 0) = min f 0 := by
    rcases le_total f 0 with hf | hf
    · rw [min_eq_left hf, max_eq_left (by have := EReal.neg_le_neg_iff.mpr hf; rwa [neg_zero] at this), neg_neg]
    · rw [min_eq_right hf, max_eq_right (by have := EReal.neg_le_neg_iff.mpr hf; rwa [neg_zero] at this), neg_zero]
  rw [EReal.neg_add (Or.inr hl.2) (Or.inr hl.1), hm]

theorem logsig (x0 : X0) (x1 : X1) (x2 : X2) (x3 : X3) (r : Fin 8192) (h : Fin 128) :
    val_main_v17 x0 x1 x2 x3 (ix2 r h) = lsig (val_main_v16 x0 x1 x2 x3 (ix2 r h)) := by
  rw [← lsig_eq]
  pointwise [val_main_v17, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [if_neg (fun h => h rfl)]
  rfl

/-- Position `n` of a window of one by 4096 by one. -/
theorem window_at (n : Fin (⟨3, ![1, 4096, 1]⟩ : Shape).numel) (hn : n.val < 4096) :
    (⟨3, ![1, 4096, 1]⟩ : Shape).rowMajor.symm n = ix3 (0 : Fin 1) (⟨n.val, hn⟩ : Fin 4096) (0 : Fin 1) :=
  ((⟨3, ![1, 4096, 1]⟩ : Shape).rowMajor.symm_apply_eq).2 (Fin.ext (by
    rw [Shape.rowMajor_val_three]
    show n.val = (0 * 4096 + n.val) * 1 + 0
    omega))

theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A window of `N + 1` that ends at row `t` holds the rows up to `t`, the rest of it nothing. -/
theorem sum_cut (N t : ℕ) (ht : t ≤ N) (x : ℕ → EReal) : (∑ w ∈ Finset.range (N + 1), if N ≤ t + w then x (t + w - N) else 0) = ∑ i ∈ Finset.range (t + 1), x i := by
  obtain ⟨d, rfl⟩ : ∃ d, N = d + t := ⟨N - t, by omega⟩
  rw [show d + t + 1 = d + (t + 1) by omega, Finset.sum_range_add,
    show (∑ w ∈ Finset.range d, if d + t ≤ t + w then x (t + w - (d + t)) else 0) = 0 from
      Finset.sum_eq_zero fun w hw => if_neg (by have := Finset.mem_range.mp hw; omega), zero_add]
  refine Finset.sum_congr rfl fun j _ => ?_
  rw [if_pos (by omega), show t + (d + j) - (d + t) = j by omega]

/-- A running sum along the second axis, entry by entry. -/
theorem running (y : S2x4096x128.Idx → EReal) (h : S2x4096x128.ReduceWindows (![1, 4096, 1] : Fin 3 → Nat) ![1, 1, 1] ![0, 4095, 0] ![0, 0, 0] S2x4096x128)
    (b : Fin 2) (t : Fin 4096) (c : Fin 128) (x : ℕ → EReal) (hx : ∀ s : Fin 4096, x s.val = y (ix3 b s c)) :
    Ideal.hostReduceWindowAdd ![1, 4096, 1] ![1, 1, 1] ![0, 4095, 0] ![0, 0, 0] h y 0 (ix3 b t c) = ∑ i ∈ Finset.range (t.val + 1), x i := by
  have hb := b.isLt
  have ht := t.isLt
  have hc := c.isLt
  have hN : (⟨3, ![1, 4096, 1]⟩ : Shape).numel = 4096 := Fin.prod_univ_three _
  unfold Ideal.hostReduceWindowAdd Host.reduceWindow
  refine (foldl_sum _ _ _).trans ?_
  rw [zero_add]
  refine Eq.trans (congrArg List.sum (List.map_congr_left (g := fun n => (fun w : ℕ => if 4095 ≤ t.val + w then x (t.val + w - 4095) else 0) n.val) fun n _ => ?_)) ?_
  · have hn : n.val < 4096 := lt_of_lt_of_eq n.isLt hN
    have hw0 : ((⟨3, ![1, 4096, 1]⟩ : Shape).rowMajor.symm n 0).val = 0 := by rw [window_at n hn]; rfl
    have hw1 : ((⟨3, ![1, 4096, 1]⟩ : Shape).rowMajor.symm n 1).val = n.val := by rw [window_at n hn]; rfl
    have hw2 : ((⟨3, ![1, 4096, 1]⟩ : Shape).rowMajor.symm n 2).val = 0 := by rw [window_at n hn]; rfl
    dsimp only
    split
    · next hin =>
      have h1 := hin 1
      change 4095 ≤ t.val * 1 + ((⟨3, ![1, 4096, 1]⟩ : Shape).rowMajor.symm n 1).val
        ∧ t.val * 1 + ((⟨3, ![1, 4096, 1]⟩ : Shape).rowMajor.symm n 1).val - 4095 < 4096 at h1
      rw [hw1] at h1
      rw [if_pos (by omega)]
      refine Eq.trans (congrArg y (funext fun a => Fin.ext ?_)) (hx ⟨t.val + n.val - 4095, by omega⟩).symm
      match a with
      | ⟨0, _⟩ =>
        show b.val * 1 + ((⟨3, ![1, 4096, 1]⟩ : Shape).rowMajor.symm n 0).val - 0 = b.val
        rw [hw0]
        omega
      | ⟨1, _⟩ =>
        show t.val * 1 + ((⟨3, ![1, 4096, 1]⟩ : Shape).rowMajor.symm n 1).val - 4095 = t.val + n.val - 4095
        rw [hw1]
        omega
      | ⟨2, _⟩ =>
        show c.val * 1 + ((⟨3, ![1, 4096, 1]⟩ : Shape).rowMajor.symm n 2).val - 0 = c.val
        rw [hw2]
        omega
    · next hin =>
      rw [if_neg fun hle => hin fun a => by
        match a with
        | ⟨0, _⟩ =>
          show 0 ≤ b.val * 1 + ((⟨3, ![1, 4096, 1]⟩ : Shape).rowMajor.symm n 0).val ∧ b.val * 1 + ((⟨3, ![1, 4096, 1]⟩ : Shape).rowMajor.symm n 0).val - 0 < 2
          rw [hw0]
          omega
        | ⟨1, _⟩ =>
          show 4095 ≤ t.val * 1 + ((⟨3, ![1, 4096, 1]⟩ : Shape).rowMajor.symm n 1).val ∧ t.val * 1 + ((⟨3, ![1, 4096, 1]⟩ : Shape).rowMajor.symm n 1).val - 4095 < 4096
          rw [hw1]
          omega
        | ⟨2, _⟩ =>
          show 0 ≤ c.val * 1 + ((⟨3, ![1, 4096, 1]⟩ : Shape).rowMajor.symm n 2).val ∧ c.val * 1 + ((⟨3, ![1, 4096, 1]⟩ : Shape).rowMajor.symm n 2).val - 0 < 128
          rw [hw2]
          omega]
  · have e : ∀ M : ℕ, M = 4096 → ((List.finRange M).map fun n => (fun w : ℕ => if 4095 ≤ t.val + w then x (t.val + w - 4095) else 0) n.val).sum = ∑ i ∈ Finset.range (t.val + 1), x i := by
      rintro M rfl
      rw [← Fin.sum_univ_def, Fin.sum_univ_eq_sum_range (fun w : ℕ => if 4095 ≤ t.val + w then x (t.val + w - 4095) else 0) 4096]
      exact sum_cut 4095 t.val (by omega) x
    exact e _ hN

/-- The reference's running sums. -/
theorem sums (x0 : X0) (x1 : X1) (x2 : X2) (x3 : X3) (b : Fin 2) (t : Fin 4096) (h : Fin 128) (x : ℕ → EReal)
    (hx : ∀ s : Fin 4096, x s.val = val_main_v17 x0 x1 x2 x3 (ix2 ⟨b.val * 4096 + s.val, by omega⟩ h)) :
    val_main_v19 x0 x1 x2 x3 (ix3 b t h) = ∑ i ∈ Finset.range (t.val + 1), x i := by
  have hz : val_main_call1_call0_v0 (F := Ideal) (Shape.Idx.first h_S_) = 0 := by
    pointwise [val_main_call1_call0_v0, val_main_call1_call0_cst]
  unfold val_main_v19 Host.reduceWindowAdd
  rw [hz]
  refine running (val_main_v18 x0 x1 x2 x3) _ b t h x fun s => (hx s).trans ?_
  pointwise [val_main_v18]

theorem scaled (x0 : X0) (x1 : X1) (x2 : X2) (x3 : X3) (b : Fin 2) (t : Fin 4096) (h : Fin 128) :
    val_main_v22 x0 x1 x2 x3 (ix2 ⟨b.val * 4096 + t.val, by omega⟩ h) = val_main_v19 x0 x1 x2 x3 (ix3 b t h) * scale := by
  have e (r : Fin 8192) : val_main_v22 x0 x1 x2 x3 (ix2 r h) = val_main_v19 x0 x1 x2 x3 (ix3 ⟨r.val / 4096, by omega⟩ ⟨r.val % 4096, by omega⟩ h) * scale := by
    unfold scale
    pointwise [val_main_v22, val_main_v21, val_main_v20, val_main_cst_2]
  have e1 : (b.val * 4096 + t.val) / 4096 = b.val := by omega
  have e2 : (b.val * 4096 + t.val) % 4096 = t.val := by omega
  rw [e]
  simp only [e1, e2]

theorem piece1 (x0 : X0) (x1 : X1) (x2 : X2) (x3 : X3) (r : Fin 8192) (h : Fin 128) :
    val_main_v27 x0 x1 x2 x3 (ix2 r h) = val_main_v22 x0 x1 x2 x3 (ix2 r h) - val_main_v22 x0 x1 x2 x3 (ix2 r h) := by
  pointwise [val_main_v27, val_main_v26, val_main_v25, val_main_v24, val_main_v23]

theorem piece2 (x0 : X0) (x1 : X1) (x2 : X2) (x3 : X3) (r : Fin 8192) (h : Fin 128) :
    val_main_v31 x0 x1 x2 x3 (ix2 r h) = val_main_v22 x0 x1 x2 x3 (ix2 r h) - val_main_v22 x0 x1 x2 x3 (ix2 r h) - (val_main_v22 x0 x1 x2 x3 (ix2 r h) - val_main_v22 x0 x1 x2 x3 (ix2 r h)) := by
  pointwise [val_main_v31, val_main_v30, val_main_v29, val_main_v28, val_main_v27, val_main_v26, val_main_v25, val_main_v24, val_main_v23]

theorem beside (x0 : X0) (x1 : X1) (x2 : X2) (x3 : X3) (r : Fin 8192) (k : Fin 384) :
    val_main_v33 x0 x1 x2 x3 (ix2 r k) = pieces (fun h => val_main_v22 x0 x1 x2 x3 (ix2 r h)) k := by
  unfold pieces val_main_v33
  by_cases h1 : k.val < 128
  · rw [dif_pos h1]
    refine (concatenate_apply_piece (t := S8192x384) 1 _ _ (ix2 r k) 0 ?_ S8192x128 (val_main_v24 x0 x1 x2 x3) ?_ rfl 0 ?_ (ix2 r ⟨k.val, h1⟩) ?_ (show 0 + k.val = k.val from Nat.zero_add _)).trans rfl
    · exact (by decide : 0 < 3)
    · rfl
    · rfl
    · exact fun b hb => match b, hb with
        | ⟨0, _⟩, _ => rfl
        | ⟨1, _⟩, hb => absurd rfl hb
  · rw [dif_neg h1]
    by_cases h2 : k.val < 256
    · rw [dif_pos h2]
      refine (concatenate_apply_piece (t := S8192x384) 1 _ _ (ix2 r k) 1 ?_ S8192x128 (val_main_v27 x0 x1 x2 x3) ?_ rfl 128 ?_ (ix2 r ⟨k.val - 128, by omega⟩) ?_ (show 128 + (k.val - 128) = k.val by omega)).trans (piece1 x0 x1 x2 x3 r _)
      · exact (by decide : 1 < 3)
      · rfl
      · rfl
      · exact fun b hb => match b, hb with
          | ⟨0, _⟩, _ => rfl
          | ⟨1, _⟩, hb => absurd rfl hb
    · rw [dif_neg h2]
      refine (concatenate_apply_piece (t := S8192x384) 1 _ _ (ix2 r k) 2 ?_ S8192x128 (val_main_v31 x0 x1 x2 x3) ?_ rfl 256 ?_ (ix2 r ⟨k.val - 256, by omega⟩) ?_ (show 256 + (k.val - 256) = k.val by omega)).trans (piece2 x0 x1 x2 x3 r _)
      · exact (by decide : 2 < 3)
      · rfl
      · rfl
      · exact fun b hb => match b, hb with
          | ⟨0, _⟩, _ => rfl
          | ⟨1, _⟩, hb => absurd rfl hb

theorem out1 (x0 : X0) (x1 : X1) (x2 : X2) (x3 : X3) (x4 : X4) (r : Fin 8192) (j : Fin 768) :
    val_main_v36 x0 x1 x2 x3 x4 (ix2 r j) = ∑ k : Fin 384, pieces (fun h => val_main_v22 x0 x1 x2 x3 (ix2 r h)) k * x4 (ix2 k j) := by
  have e : val_main_v36 x0 x1 x2 x3 x4 (ix2 r j) = ∑ k : Fin 384, val_main_v33 x0 x1 x2 x3 (ix2 r k) * x4 (ix2 k j) := by
    pointwise [val_main_v36, val_main_v35, val_main_v34]
  rw [e]
  refine Finset.sum_congr rfl fun k _ => ?_
  rw [beside]

end Cert.NormX.Ref
end
-- ==== Proof.NormX.Final.lean ====
module

public import proofs.«01_k».proof.Proof.NormX.RefRead

@[expose] public section
set_option maxRecDepth 16384
noncomputable section
namespace Cert.NormX
open Idealize.ShloMosaic Idealize.ShloMosaic.TcCoe Idealize.SL.Sem Cert.NormIdeal Cert.NormIdeal.Gen
open Cert.NormReferenceIdeal.Read (val_main_v11 val_main_v16 val_main_v17 val_main_v19 val_main_v22 val_main_v32 val_main_v36)

variable (m : (ℓ : Loc nD τ sig) → Buf (Elt Ideal) ℓ) (c : Dev nD)

/-- Every window's block index at point `t`. -/
theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] :=
  (by decide +kernel : ∀ t : Fin grid0.N, _)

theorem lt8 (t : Fin cfg0.N) : t.val < 8 := t.isLt

abbrev a0 : Ref.X0 := m ((c : Thread nD τ).loc main_arg0)
abbrev a1 : Ref.X1 := m ((c : Thread nD τ).loc main_arg1)
abbrev a2 : Ref.X2 := m ((c : Thread nD τ).loc main_arg2)
abbrev a3 : Ref.X3 := m ((c : Thread nD τ).loc main_arg3)
abbrev a4 : Ref.X4 := m ((c : Thread nD τ).loc main_arg4)

/-- The row of the whole array that row `r` of block `t` is. -/
abbrev rowAt (t : Fin cfg0.N) (r : Fin 1024) : Fin 8192 := ⟨t.val * 1024 + r.val, by have := lt8 t; omega⟩

theorem rd0 (t : Fin cfg0.N) (r : Fin 1024) (k : Fin 2048) : iblk m c 0 t (ix2 r k) = a0 m c (ix2 (rowAt t r) k) := by
  have h0 : win0_0.index t 0 = t.val := congrFun (idx t).1 0
  have h1 : win0_0.index t 1 = 0 := congrFun (idx t).1 1
  unfold iblk
  show V m c main_arg0 ((win0_0.rect t).emb (ix2 r k)) = V m c main_arg0 (ix2 (rowAt t r) k)
  congr 1
  funext b
  apply Fin.ext
  fin_cases b
  · show win0_0.index t 0 * 1024 + 1 * r.val = t.val * 1024 + r.val
    rw [h0]
    omega
  · show win0_0.index t 1 * 2048 + 1 * k.val = k.val
    rw [h1]
    omega

theorem rd1 (t : Fin cfg0.N) (k : Fin 2048) : iblk m c 1 t (ix2 0 k) = a1 m c (ix2 0 k) := by
  have h0 : win0_1.index t 0 = 0 := congrFun (idx t).2.1 0
  have h1 : win0_1.index t 1 = 0 := congrFun (idx t).2.1 1
  unfold iblk
  show V m c main_arg1 ((win0_1.rect t).emb (ix2 0 k)) = V m c main_arg1 (ix2 0 k)
  congr 1
  funext b
  apply Fin.ext
  fin_cases b
  · show win0_1.index t 0 * 1 + 1 * 0 = 0
    rw [h0]
  · show win0_1.index t 1 * 2048 + 1 * k.val = k.val
    rw [h1]
    omega

theorem rd2 (t : Fin cfg0.N) (h : Fin 128) (k : Fin 2048) : iblk m c 2 t (ix2 h k) = a2 m c (ix2 h k) := by
  have h0 : win0_2.index t 0 = 0 := congrFun (idx t).2.2.1 0
  have h1 : win0_2.index t 1 = 0 := congrFun (idx t).2.2.1 1
  unfold iblk
  show V m c main_arg2 ((win0_2.rect t).emb (ix2 h k)) = V m c main_arg2 (ix2 h k)
  congr 1
  funext b
  apply Fin.ext
  fin_cases b
  · show win0_2.index t 0 * 128 + 1 * h.val = h.val
    rw [h0]
    omega
  · show win0_2.index t 1 * 2048 + 1 * k.val = k.val
    rw [h1]
    omega

theorem rd3 (t : Fin cfg0.N) (h : Fin 128) : iblk m c 3 t (ix2 0 h) = a3 m c (ix2 0 h) := by
  have h0 : win0_3.index t 0 = 0 := congrFun (idx t).2.2.2.1 0
  have h1 : win0_3.index t 1 = 0 := congrFun (idx t).2.2.2.1 1
  unfold iblk
  show V m c main_arg3 ((win0_3.rect t).emb (ix2 0 h)) = V m c main_arg3 (ix2 0 h)
  congr 1
  funext b
  apply Fin.ext
  fin_cases b
  · show win0_3.index t 0 * 1 + 1 * 0 = 0
    rw [h0]
  · show win0_3.index t 1 * 128 + 1 * h.val = h.val
    rw [h1]
    omega

theorem rd4 (t : Fin cfg0.N) (k : Fin 384) (j : Fin 768) : iblk m c 4 t (ix2 k j) = a4 m c (ix2 k j) := by
  have h0 : win0_4.index t 0 = 0 := congrFun (idx t).2.2.2.2.1 0
  have h1 : win0_4.index t 1 = 0 := congrFun (idx t).2.2.2.2.1 1
  unfold iblk
  show V m c main_arg4 ((win0_4.rect t).emb (ix2 k j)) = V m c main_arg4 (ix2 k j)
  congr 1
  funext b
  apply Fin.ext
  fin_cases b
  · show win0_4.index t 0 * 384 + 1 * k.val = k.val
    rw [h0]
    omega
  · show win0_4.index t 1 * 768 + 1 * j.val = j.val
    rw [h1]
    omega

/-- A block's normed rows are the reference's. -/
theorem norm_block (t : Fin cfg0.N) (r : Fin 1024) (k : Fin 2048) :
    k0_pay3 (F := Ideal) (iblk m c 0 t) (iblk m c 1 t) (ix2 r k) = val_main_v11 (a0 m c) (a1 m c) (ix2 (rowAt t r) k) := by
  refine (norm_apply (iblk m c 0 t) (iblk m c 1 t) r k).trans ((Ref.row_out _ _ _ _).trans ?_).symm
  rw [rd1 m c t k, rd0 m c t r k, show (fun l => iblk m c 0 t (ix2 r l)) = (fun l => a0 m c (ix2 (rowAt t r) l)) from funext (rd0 m c t r)]

/-- A block's logits are the reference's. -/
theorem logits_block (t : Fin cfg0.N) (r : Fin 1024) (h : Fin 128) :
    logits (iblk m c 0 t) (iblk m c 1 t) (iblk m c 2 t) (iblk m c 3 t) (ix2 r h) = val_main_v16 (a0 m c) (a1 m c) (a2 m c) (a3 m c) (ix2 (rowAt t r) h) := by
  refine (logits_apply (iblk m c 0 t) (iblk m c 1 t) (iblk m c 2 t) (iblk m c 3 t) r h).trans ((Ref.logit _ _ _ _ _ _).trans ?_).symm
  rw [rd3 m c t h]
  congr 1
  refine Finset.sum_congr rfl fun k _ => ?_
  rw [norm_block m c t r k, rd2 m c t h k]

/-- The log-sigmoids of a sequence, by place. -/
def ls (b : Fin 2) (h : Fin 128) (i : ℕ) : EReal :=
  if hi : i < 4096 then val_main_v17 (a0 m c) (a1 m c) (a2 m c) (a3 m c) (ix2 ⟨b.val * 4096 + i, by omega⟩ h) else 0

/-- The sequence block `t` belongs to. -/
abbrev seqOf (t : Fin cfg0.N) : Fin 2 := ⟨t.val / 4, by have := lt8 t; omega⟩

theorem ls_block (t : Fin cfg0.N) (r : Fin 1024) (h : Fin 128) :
    ls m c (seqOf t) h (1024 * (t.val % 4) + r.val) = lsig (logits (iblk m c 0 t) (iblk m c 1 t) (iblk m c 2 t) (iblk m c 3 t) (ix2 r h)) := by
  unfold ls
  rw [dif_pos (by omega), logits_block, ← Ref.logsig]
  have e : t.val / 4 * 4096 + (1024 * (t.val % 4) + r.val) = t.val * 1024 + r.val := by omega
  simp only [e]

/-- A block's running sums, given what it was handed. -/
theorem sums_block (t : Fin cfg0.N) (s : X3) (h : Fin 128) (hs : s (ix2 0 h) = ∑ i ∈ Finset.range (1024 * (t.val % 4)), ls m c (seqOf t) h i) (r : Fin 1024) :
    sums (iblk m c 0 t) (iblk m c 1 t) (iblk m c 2 t) (iblk m c 3 t) s (ix2 r h) = ∑ i ∈ Finset.range (1024 * (t.val % 4) + (r.val + 1)), ls m c (seqOf t) h i := by
  refine (sums_apply (iblk m c 0 t) (iblk m c 1 t) (iblk m c 2 t) (iblk m c 3 t) s (fun i => ls m c (seqOf t) h (1024 * (t.val % 4) + i)) h (fun r => ls_block m c t r h) r).trans ?_
  rw [hs, add_comm]
  exact (Finset.sum_range_add _ _ _).symm

theorem carry_block (t : Fin cfg0.N) (s : X3) (h : Fin 128) (hs : s (ix2 0 h) = ∑ i ∈ Finset.range (1024 * (t.val % 4)), ls m c (seqOf t) h i) :
    carry (iblk m c 0 t) (iblk m c 1 t) (iblk m c 2 t) (iblk m c 3 t) s (ix2 0 h) = ∑ i ∈ Finset.range (1024 * (t.val % 4 + 1)), ls m c (seqOf t) h i := by
  rw [carry_apply, sums_block m c t s h hs]
  rfl

/-- The running sums of the reference at a block's row. -/
theorem ref_block (t : Fin cfg0.N) (r : Fin 1024) (h : Fin 128) :
    val_main_v22 (a0 m c) (a1 m c) (a2 m c) (a3 m c) (ix2 (rowAt t r) h) = (∑ i ∈ Finset.range (1024 * (t.val % 4) + (r.val + 1)), ls m c (seqOf t) h i) * scale := by
  have e : rowAt t r = ⟨(seqOf t).val * 4096 + (⟨1024 * (t.val % 4) + r.val, by omega⟩ : Fin 4096).val, by have := lt8 t; omega⟩ := by
    apply Fin.ext
    show t.val * 1024 + r.val = t.val / 4 * 4096 + (1024 * (t.val % 4) + r.val)
    omega
  rw [e, Ref.scaled, Ref.sums _ _ _ _ (seqOf t) _ h (ls m c (seqOf t) h) (fun s => by unfold ls; exact dif_pos s.isLt)]
  rfl

set_option maxHeartbeats 4000000 in
/-- What a point leaves in its first result. -/
theorem first_left (t : Fin cfg0.N) : (outsAt0 m c t.val t.isLt).1 = k0_pay3 (F := Ideal) (iblk m c 0 t) (iblk m c 1 t) := by
  by_cases h0 : t.val % 4 = 0
  · rw [outsAt0_A m c t h0]
    dsimp only
    exact out0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)
  · rw [outsAt0_B m c t h0]
    dsimp only
    exact out0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (by have := t.isLt; omega)).2.2

set_option maxHeartbeats 4000000 in
/-- What a point leaves in its second result and hands on, over some sum handed to it. -/
theorem second_left (t : Fin cfg0.N) (hp : ∀ n (hn : n + 1 = t.val) (hm : ¬ t.val % 4 = 0) (h : Fin 128),
      (outsAt0 m c n (by have := t.isLt; omega)).2.2 (ix2 0 h) = ∑ i ∈ Finset.range (1024 * (t.val % 4)), ls m c (seqOf t) h i) :
    ∃ s : X3, (∀ h : Fin 128, s (ix2 0 h) = ∑ i ∈ Finset.range (1024 * (t.val % 4)), ls m c (seqOf t) h i)
      ∧ (outsAt0 m c t.val t.isLt).2.1 = placed (iblk m c 0 t) (iblk m c 1 t) (iblk m c 2 t) (iblk m c 3 t) (iblk m c 4 t) s
      ∧ (outsAt0 m c t.val t.isLt).2.2 = carry (iblk m c 0 t) (iblk m c 1 t) (iblk m c 2 t) (iblk m c 3 t) s := by
  by_cases h0 : t.val % 4 = 0
  · refine ⟨k0_pay2 (F := Ideal), fun h => ?_, ?_, ?_⟩
    · rw [start_apply, h0]
      rfl
    · rw [outsAt0_A m c t h0]
      dsimp only
      exact out0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)
    · rw [outsAt0_A m c t h0]
      dsimp only
      exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)
  · have hq : t.val - 1 + 1 = t.val := by omega
    refine ⟨(outsAt0 m c (t.val - 1) (by have := t.isLt; omega)).2.2, fun h => hp (t.val - 1) hq h0 h, ?_, ?_⟩
    · rw [outsAt0_B m c t h0]
      dsimp only
      exact out0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (by have := t.isLt; omega)).2.2
    · rw [outsAt0_B m c t h0]
      dsimp only
      exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (outsAt0 m c (t.val - 1) (by have := t.isLt; omega)).2.2

/-- What a point hands on: the sum over its sequence up to the block's end. -/
theorem handed (n : ℕ) : ∀ (hn : n < cfg0.N) (h : Fin 128),
    (outsAt0 m c n hn).2.2 (ix2 0 h) = ∑ i ∈ Finset.range (1024 * (n % 4 + 1)), ls m c (seqOf ⟨n, hn⟩) h i := by
  induction n with
  | zero =>
    intro hn h
    obtain ⟨s, hs, -, hc⟩ := second_left m c ⟨0, hn⟩ (fun n hn => absurd hn (Nat.succ_ne_zero n))
    rw [show (outsAt0 m c 0 hn).2.2 = _ from hc]
    exact carry_block m c ⟨0, hn⟩ s h (hs h)
  | succ n ih =>
    intro hn h
    obtain ⟨s, hs, -, hc⟩ := second_left m c ⟨n + 1, hn⟩ (fun k hk hm h => by
      obtain rfl : k = n := Nat.succ.inj hk
      have e1 : k % 4 + 1 = (k + 1) % 4 := by
        have : ¬ (k + 1) % 4 = 0 := hm
        omega
      have e2 : k / 4 = (k + 1) / 4 := by
        have : ¬ (k + 1) % 4 = 0 := hm
        omega
      rw [ih (by omega) h, e1]
      simp only [seqOf, e2])
    rw [show (outsAt0 m c (n + 1) hn).2.2 = _ from hc]
    exact carry_block m c ⟨n + 1, hn⟩ s h (hs h)

/-- The second result's block of a point is the reference's. -/
theorem second_block (t : Fin cfg0.N) (r : Fin 1024) (j : Fin 768) :
    (outsAt0 m c t.val t.isLt).2.1 (ix2 r j) = val_main_v36 (a0 m c) (a1 m c) (a2 m c) (a3 m c) (a4 m c) (ix2 (rowAt t r) j) := by
  obtain ⟨s, hs, h1, -⟩ := second_left m c t (fun k hk hm h => by
    have e1 : k % 4 + 1 = t.val % 4 := by omega
    have e2 : k / 4 = t.val / 4 := by omega
    rw [handed m c k _ h, e1]
    simp only [seqOf, e2])
  rw [h1, Ref.out1]
  refine (placed_apply (iblk m c 0 t) (iblk m c 1 t) (iblk m c 2 t) (iblk m c 3 t) (iblk m c 4 t) s r j).trans ?_
  rw [show (fun h => sums (iblk m c 0 t) (iblk m c 1 t) (iblk m c 2 t) (iblk m c 3 t) s (ix2 r h) * scale) = (fun h => val_main_v22 (a0 m c) (a1 m c) (a2 m c) (a3 m c) (ix2 (rowAt t r) h)) from
    funext fun h => by rw [sums_block m c t s h (hs h), ref_block]]
  refine Finset.sum_congr rfl fun k _ => ?_
  rw [rd4 m c t k j]

set_option maxHeartbeats 4000000 in
/-- The array of normed rows is the reference's. -/
theorem final5 : (dats m 0 c).arrAt 5 cfg0.N = val_main_v32 (a0 m c) (a1 m c) := by
  refine (dats m 0 c).arrAt_eq_of_covers 5 _ (by decide +kernel) fun t hf y => ?_
  blk_simp [idx t]
  rw [after0_5, first_left]
  obtain ⟨r, k, rfl⟩ : ∃ (r : Fin 1024) (k : Fin 2048), y = ix2 r k := ⟨y 0, y 1, eq_ix2 y⟩
  have he : (win0_5.blk t).view.emb (ix2 r k) = ix2 (rowAt t r) k := by blk_point [idx t]
  rw [he, Ref.out0, ← Ref.row_out]
  exact norm_block m c t r k

set_option maxHeartbeats 4000000 in
/-- The array of placed columns is the reference's. -/
theorem final6 : (dats m 0 c).arrAt 6 cfg0.N = val_main_v36 (a0 m c) (a1 m c) (a2 m c) (a3 m c) (a4 m c) := by
  refine (dats m 0 c).arrAt_eq_of_covers 6 _ (by decide +kernel) fun t hf y => ?_
  blk_simp [idx t]
  rw [after0_6]
  obtain ⟨r, j, rfl⟩ : ∃ (r : Fin 1024) (j : Fin 768), y = ix2 r j := ⟨y 0, y 1, eq_ix2 y⟩
  have he : (win0_6.blk t).view.emb (ix2 r j) = ix2 (rowAt t r) j := by blk_point [idx t]
  rw [he]
  exact second_block m c t r j

end Cert.NormX
end
-- ==== Proof.NormX.Claims.lean ====
module

public import proofs.«01_k».proof.Defs
public import proofs.«01_k».proof.Proof.NormX.Final
public import proofs.«01_k».proof.Proof.Gen.NormReferenceIdeal.Run
public import Idealize.ShloMosaic.Lib.Claim
public import Idealize.ShloMosaic.Lib.Quiescent

@[expose] public section
noncomputable section
namespace Cert.NormX
open Idealize.ShloMosaic Idealize.ShloMosaic.TcCoe Idealize.SL.Sem

/-- The reference runs and leaves its arguments. -/
theorem ref_frame : Cert.quiescent_NormReferenceIdeal := fun m ρ _ =>
  (θ_run (Cert.NormReferenceIdeal.defs (F := Ideal)) _ _).mono (fun r h => And.intro (fun c => (h c).2.2) (sem_eq_zero_of_no_sems rfl r.2))
    (Cert.NormReferenceIdeal.Value.run (F := Ideal) m ρ)

section
open Cert.NormIdeal Cert.NormIdeal.Gen

/-- Every execution leaves the results' arrays at the blocks written back and the arguments as they were. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end

/-- The normed rows and the placed running sums of the forget gates against the plain mathematics. -/
theorem algebraic : Cert.algebraic_NormIdeal_NormReferenceIdeal := by
  intro m g m' g' _ hagree
  refine ⟨fun c => (Cert.NormIdeal.Gen.dats m 0 c).arrAt 5 Cert.NormIdeal.cfg0.N, fun c => (Cert.NormIdeal.Gen.dats m 0 c).arrAt 6 Cert.NormIdeal.cfg0.N,
    run_blocks m g, ?_⟩
  refine (θ_run _ _ _).mono (fun r h c => ⟨(h c).1.trans ?_, (h c).2.1.trans ?_, (h c).2.2⟩) (Cert.NormReferenceIdeal.Value.run (F := Ideal) m' g')
  · refine Eq.trans ?_ (final5 m c).symm
    rw [Cert.NormReferenceIdeal.Read.val_main_v32_eq]
    obtain ⟨h0, h1, h2, h3, h4⟩ := hagree c
    rw [h0, h1]
  · refine Eq.trans ?_ (final6 m c).symm
    rw [Cert.NormReferenceIdeal.Read.val_main_v36_eq]
    obtain ⟨h0, h1, h2, h3, h4⟩ := hagree c
    rw [h0, h1, h2, h3, h4]

end Cert.NormX
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.KernelIdeal.Value
public import proofs.«01_k».proof.Proof.Gen.SwaIdeal.Value
public import proofs.«01_k».proof.Proof.Gen.ReferenceIdeal.Run
public import proofs.«01_k».proof.Proof.Gen.ReferenceIdeal.Read
public import proofs.«01_k».proof.Proof.Merge.Claims
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.InProj.Proj.Frame
public import proofs.«01_k».proof.Proof.InProj.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.InProj.Claims
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.MemKv.Mem.Frame
public import proofs.«01_k».proof.Proof.MemKv.MemIdeal.Exact
public import proofs.«01_k».proof.Proof.Gen.MemReferenceIdeal
public import proofs.«01_k».proof.Proof.Gen.MemReferenceIdeal.Run
public import proofs.«01_k».proof.Proof.Gen.MemReferenceIdeal.Read
public import proofs.«01_k».proof.Proof.MemKv.Claims
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.NormX.Claims
public import Idealize.ShloMosaic.Adequacy
public import Idealize.ShloMosaic.Init

@[expose] public section

noncomputable section

namespace Cert.Proof

open Idealize.ShloMosaic Idealize.SL.Sem Cert.Kernel

/-- The certificate's claims, in the order stated. -/
theorem claim : Cert.Claim := ⟨Cert.Kernel.Gen.facts, Cert.KernelIdeal.Gen.facts, Cert.ReferenceIdeal.Gen.facts, Cert.Swa.Gen.facts, Cert.SwaIdeal.Gen.facts, Cert.Proj.Gen.facts, Cert.ProjIdeal.Gen.facts, Cert.ProjReferenceIdeal.Gen.facts, Cert.Mem.Gen.facts, Cert.MemIdeal.Gen.facts, Cert.MemReferenceIdeal.Gen.facts, Cert.Norm.Gen.facts, Cert.NormIdeal.Gen.facts, Cert.NormReferenceIdeal.Gen.facts, Cert.Merge.preFacts,
  fun m ρ _ => Cert.Kernel.Gen.frame m ρ,
  fun m ρ _ => Cert.KernelIdeal.Gen.frame m ρ,
  fun m ρ _ => Cert.KernelIdeal.Gen.frame m ρ,
  Cert.Merge.ref_frame, Cert.Merge.ref_frame_pre,
  fun m ρ _ => Cert.Swa.Gen.frame m ρ,
  fun m ρ _ => Cert.SwaIdeal.Gen.frame m ρ,
  fun m ρ _ => Cert.InProj.Proj.frame m ρ,
  fun m ρ _ => Cert.InProj.ProjIdeal.frame m ρ,
  Cert.InProj.ref_frame,
  fun m ρ _ => Cert.MemKv.Mem.frame m ρ,
  fun m ρ _ => Cert.MemKv.MemIdeal.frame m ρ,
  Cert.MemKv.ref_frame,
  fun m ρ _ => Cert.Norm.Gen.frame m ρ,
  fun m ρ _ => Cert.NormIdeal.Gen.frame m ρ,
  Cert.NormX.ref_frame,
  trivial, Cert.Merge.algebraic, trivial, trivial, Cert.InProj.algebraic, trivial, Cert.MemKv.algebraic, trivial, Cert.NormX.algebraic⟩

end Cert.Proof

end
